-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v80_0)) (v1 : (c : Dev Cert.Kernel4Ideal.nD) → Buf (Elt Ideal) ((c.tc : Thread Cert.Kernel4Ideal.nD Cert.Kernel4Ideal.τ).loc Cert.Kernel4Ideal.main_v80_1)) (v2 : (c : Dev Cert.Kernel4Ideal.nD) → Buf (Elt Ideal) ((c.tc : Thread Cert.Kernel4Ideal.nD Cert.Kernel4Ideal.τ).loc Cert.Kernel4Ideal.main_v80_2)) (v3 : (c : Dev Cert.Kernel4Ideal.nD) → Buf (Elt Ideal) ((c.tc : Thread Cert.Kernel4Ideal.nD Cert.Kernel4Ideal.τ).loc Cert.Kernel4Ideal.main_v80_3)) (v4 : (c : Dev Cert.Kernel4Ideal.nD) → Buf (Elt Ideal) ((c.tc : Thread Cert.Kernel4Ideal.nD Cert.Kernel4Ideal.τ).loc Cert.Kernel4Ideal.main_v80_4)) (v5 : (c : Dev Cert.Kernel4Ideal.nD) → Buf (Elt Ideal) ((c.tc : Thread Cert.Kernel4Ideal.nD Cert.Kernel4Ideal.τ).loc Cert.Kernel4Ideal.main_v80_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v80_0) = v0 c
          ∧ r.2.mem ((c.tc : Thread Cert.Kernel4Ideal.nD Cert.Kernel4Ideal.τ).loc Cert.Kernel4Ideal.main_v80_1) = v1 c
          ∧ r.2.mem ((c.tc : Thread Cert.Kernel4Ideal.nD Cert.Kernel4Ideal.τ).loc Cert.Kernel4Ideal.main_v80_2) = v2 c
          ∧ r.2.mem ((c.tc : Thread Cert.Kernel4Ideal.nD Cert.Kernel4Ideal.τ).loc Cert.Kernel4Ideal.main_v80_3) = v3 c
          ∧ r.2.mem ((c.tc : Thread Cert.Kernel4Ideal.nD Cert.Kernel4Ideal.τ).loc Cert.Kernel4Ideal.main_v80_4) = v4 c
          ∧ r.2.mem ((c.tc : Thread Cert.Kernel4Ideal.nD Cert.Kernel4Ideal.τ).loc Cert.Kernel4Ideal.main_v80_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v185) = v0 c
          ∧ r.2.mem ((c.tc : Thread Cert.Reference4Ideal.nD Cert.Reference4Ideal.τ).loc Cert.Reference4Ideal.main_v186) = v1 c
          ∧ r.2.mem ((c.tc : Thread Cert.Reference4Ideal.nD Cert.Reference4Ideal.τ).loc Cert.Reference4Ideal.main_v187) = v2 c
          ∧ r.2.mem ((c.tc : Thread Cert.Reference4Ideal.nD Cert.Reference4Ideal.τ).loc Cert.Reference4Ideal.main_v188) = v3 c
          ∧ r.2.mem ((c.tc : Thread Cert.Reference4Ideal.nD Cert.Reference4Ideal.τ).loc Cert.Reference4Ideal.main_v189) = v4 c
          ∧ r.2.mem ((c.tc : Thread Cert.Reference4Ideal.nD Cert.Reference4Ideal.τ).loc Cert.Reference4Ideal.main_v190) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v49) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_scores.lean ====
abbrev S8x2304x512 : Shape := ⟨3, ![8, 2304, 512]⟩
abbrev S8x2304x128 : Shape := ⟨3, ![8, 2304, 128]⟩
abbrev S_ : Shape := ⟨0, ![]⟩
abbrev S8x2304x640 : Shape := ⟨3, ![8, 2304, 640]⟩

class Facts : Prop where
  bitsLt_bf16_f32 : FTy.bits .bf16 < FTy.bits .f32
  bcast_S_S8x2304x512 : S_.BroadcastsInDim S8x2304x512 (![] : Fin 0 → Fin S8x2304x512.rank)
  bcast_S_S8x2304x128 : S_.BroadcastsInDim S8x2304x128 (![] : Fin 0 → Fin S8x2304x128.rank)
  concatenates_S8x2304x512_S8x2304x128_S8x2304x640_d2 : Shape.Concatenates [S8x2304x512, S8x2304x128] S8x2304x640 2

variable [Facts]

def fn {F : FTy → Type} [FloatOps F] (main_arg0 : FVec F S8x2304x512 .bf16) (main_arg1 : FVec F S8x2304x128 .bf16) (main_arg2 : FVec F S8x2304x128 .bf16) : IVec S8x2304x640 1 :=
  let main_v0 : FVec F S8x2304x512 .f32 := (extf .f32 · bitsLt_bf16_f32) main_arg0
  let main_v1 : FVec F S8x2304x512 .f32 := Host.absf main_v0
  let main_cst : FVec F S_ .f32 := constant S_ .f32 0x7F800000#32
  let main_v2 : FVec F S8x2304x512 .f32 := broadcastInDim S8x2304x512 ![] bcast_S_S8x2304x512 main_cst
  let main_v3 : IVec S8x2304x512 1 := cmpf .olt main_v1 main_v2
  let main_v4 : FVec F S8x2304x128 .f32 := (extf .f32 · bitsLt_bf16_f32) main_arg1
  let main_v5 : FVec F S8x2304x128 .f32 := Host.absf main_v4
  let main_cst_0 : FVec F S_ .f32 := constant S_ .f32 0x7F800000#32
  let main_v6 : FVec F S8x2304x128 .f32 := broadcastInDim S8x2304x128 ![] bcast_S_S8x2304x128 main_cst_0
  let main_v7 : IVec S8x2304x128 1 := cmpf .olt main_v5 main_v6
  let main_v8 : IVec S8x2304x640 1 := (fun a b => concatenate S8x2304x640 2 [⟨S8x2304x512, a⟩, ⟨S8x2304x128, b⟩] concatenates_S8x2304x512_S8x2304x128_S8x2304x640_d2) main_v3 main_v7
  main_v8
-- ==== Kernel.lean ====
abbrev S8x2304x512 : Shape := ⟨3, ![8, 2304, 512]⟩
abbrev S8x2304x128 : Shape := ⟨3, ![8, 2304, 128]⟩
abbrev S_ : Shape := ⟨0, ![]⟩
abbrev S8x2304x64 : Shape := ⟨3, ![8, 2304, 64]⟩
abbrev S8x2304x256 : Shape := ⟨3, ![8, 2304, 256]⟩
abbrev S1x256x512 : Shape := ⟨3, ![1, 256, 512]⟩
abbrev S1x2304x128 : Shape := ⟨3, ![1, 2304, 128]⟩
abbrev S1x2304x256 : Shape := ⟨3, ![1, 2304, 256]⟩
abbrev S256x512 : Shape := ⟨2, ![256, 512]⟩
abbrev S256x64 : Shape := ⟨2, ![256, 64]⟩
abbrev S1x2304x64 : Shape := ⟨3, ![1, 2304, 64]⟩
abbrev S2304x64 : Shape := ⟨2, ![2304, 64]⟩
abbrev S2304x128 : Shape := ⟨2, ![2304, 128]⟩
abbrev S256x2304 : Shape := ⟨2, ![256, 2304]⟩
abbrev S256 : Shape := ⟨1, ![256]⟩
abbrev S256x1 : Shape := ⟨2, ![256, 1]⟩
abbrev S256x128 : Shape := ⟨2, ![256, 128]⟩
abbrev S1x256x64 : Shape := ⟨3, ![1, 256, 64]⟩
abbrev S1x256x128 : Shape := ⟨3, ![1, 256, 128]⟩
abbrev S256x256 : Shape := ⟨2, ![256, 256]⟩

abbrev nBuf : Space → Nat
  | .hbm => 14
  | .vmem => 8
  | .smem => 0
  | _ => 0

abbrev bufTy : (tb : Table) → Fin (tcTables nBuf tb) → BufTy
  | .hbm, ⟨0, _⟩ => ⟨S8x2304x512, .bf16⟩
  | .hbm, ⟨1, _⟩ => ⟨S8x2304x128, .bf16⟩
  | .hbm, ⟨2, _⟩ => ⟨S8x2304x128, .bf16⟩
  | .hbm, ⟨3, _⟩ => ⟨S8x2304x512, .f32⟩
  | .hbm, ⟨4, _⟩ => ⟨S_, .f32⟩
  | .hbm, ⟨5, _⟩ => ⟨S8x2304x512, .f32⟩
  | .hbm, ⟨6, _⟩ => ⟨S8x2304x512, .f32⟩
  | .hbm, ⟨7, _⟩ => ⟨S8x2304x512, .bf16⟩
  | .hbm, ⟨8, _⟩ => ⟨S_, .bf16⟩
  | .hbm, ⟨9, _⟩ => ⟨S8x2304x64, .bf16⟩
  | .hbm, ⟨10, _⟩ => ⟨S8x2304x64, .bf16⟩
  | .hbm, ⟨11, _⟩ => ⟨S8x2304x64, .bf16⟩
  | .hbm, ⟨12, _⟩ => ⟨S8x2304x256, .bf16⟩
  | .hbm, ⟨13, _⟩ => ⟨S8x2304x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x256, .bf16⟩
  | .local _ .vmem, ⟨5, _⟩ => ⟨S1x2304x256, .bf16⟩
  | .local _ .vmem, ⟨6, _⟩ => ⟨S1x256x512, .bf16⟩
  | .local _ .vmem, ⟨7, _⟩ => ⟨S1x256x512, .bf16⟩
  | _, _ => ⟨S8x2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c8_i32_0 : BitVec 32 := 8#32
  let v3 : BitVec 1 := Scalar.cmpi .sge arg1 c8_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x2304x512 : Shape := ⟨3, ![8, 2304, 512]⟩
abbrev S8x2304x128 : Shape := ⟨3, ![8, 2304, 128]⟩
abbrev S8x2048x512 : Shape := ⟨3, ![8, 2048, 512]⟩
abbrev S8x2048x2x4x64 : Shape := ⟨5, ![8, 2048, 2, 4, 64]⟩
abbrev S8x2304x2x64 : Shape := ⟨4, ![8, 2304, 2, 64]⟩
abbrev S8x2x2304x2048x4 : Shape := ⟨5, ![8, 2, 2304, 2048, 4]⟩
abbrev S8x2x4x2048x2304 : Shape := ⟨5, ![8, 2, 4, 2048, 2304]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S8x2x4x2048x64 : Shape := ⟨5, ![8, 2, 4, 2048, 64]⟩
abbrev S8x256x512 : Shape := ⟨3, ![8, 256, 512]⟩
abbrev S8x256x128 : Shape := ⟨3, ![8, 256, 128]⟩
abbrev S8x256x2x4x64 : Shape := ⟨5, ![8, 256, 2, 4, 64]⟩
abbrev S8x256x2x64 : Shape := ⟨4, ![8, 256, 2, 64]⟩
abbrev S8x2x256x256x4 : Shape := ⟨5, ![8, 2, 256, 256, 4]⟩
abbrev S8x2x4x256x256 : Shape := ⟨5, ![8, 2, 4, 256, 256]⟩
abbrev S8x2x4x256 : Shape := ⟨4, ![8, 2, 4, 256]⟩
abbrev S8x2x4x256x1 : Shape := ⟨5, ![8, 2, 4, 256, 1]⟩
abbrev S8x2x4x256x64 : Shape := ⟨5, ![8, 2, 4, 256, 64]⟩

abbrev nBuf : Space → Nat
  | .hbm => 62
  | .vmem => 0
  | .smem => 0
  | _ => 0

abbrev bufTy : (tb : Table) → Fin (tcTables nBuf tb) → BufTy
  | .hbm, ⟨0, _⟩ => ⟨S8x2304x512, .bf16⟩
  | .hbm, ⟨1, _⟩ => ⟨S8x2304x128, .bf16⟩
  | .hbm, ⟨2, _⟩ => ⟨S8x2304x128, .bf16⟩
  | .hbm, ⟨3, _⟩ => ⟨S8x2304x512, .f32⟩
  | .hbm, ⟨4, _⟩ => ⟨S8x2304x128, .f32⟩
  | .hbm, ⟨5, _⟩ => ⟨S8x2304x128, .f32⟩
  | .hbm, ⟨6, _⟩ => ⟨S8x2048x512, .f32⟩
  | .hbm, ⟨7, _⟩ => ⟨S8x2048x2x4x64, .f32⟩
  | .hbm, ⟨8, _⟩ => ⟨S8x2304x2x64, .f32⟩
  | .hbm, ⟨9, _⟩ => ⟨S8x2304x2x64, .f32⟩
  | .hbm, ⟨10, _⟩ => ⟨S8x2x2304x2048x4, .f32⟩
  | .hbm, ⟨11, _⟩ => ⟨S8x2x4x2048x2304, .f32⟩
  | .hbm, ⟨12, _⟩ => ⟨S_, .f32⟩
  | .hbm, ⟨13, _⟩ => ⟨S8x2x4x2048x2304, .f32⟩
  | .hbm, ⟨14, _⟩ => ⟨S8x2x4x2048x2304, .f32⟩
  | .hbm, ⟨15, _⟩ => ⟨S_, .f32⟩
  | .hbm, ⟨16, _⟩ => ⟨S8x2x4x2048, .f32⟩
  | .hbm, ⟨17, _⟩ => ⟨S_, .f32⟩
  | .hbm, ⟨18, _⟩ => ⟨S8x2x4x2048, .f32⟩
  | .hbm, ⟨19, _⟩ => ⟨S8x2x4x2048, .f32⟩
  | .hbm, ⟨20, _⟩ => ⟨S8x2x4x2048x1, .f32⟩
  | .hbm, ⟨21, _⟩ => ⟨S8x2x4x2048x2304, .f32⟩
  | .hbm, ⟨22, _⟩ => ⟨S8x2x4x2048x2304, .f32⟩
  | .hbm, ⟨23, _⟩ => ⟨S8x2x4x2048x2304, .f32⟩
  | .hbm, ⟨24, _⟩ => ⟨S_, .f32⟩
  | .hbm, ⟨25, _⟩ => ⟨S8x2x4x2048, .f32⟩
  | .hbm, ⟨26, _⟩ => ⟨S8x2x4x2048x1, .f32⟩
  | .hbm, ⟨27, _⟩ => ⟨S8x2x4x2048x2304, .f32⟩
  | .hbm, ⟨28, _⟩ => ⟨S8x2x4x2048x2304, .f32⟩
  | .hbm, ⟨29, _⟩ => ⟨S8x2x4x2048x64, .f32⟩
  | .hbm, ⟨30, _⟩ => ⟨S8x2048x2x4x64, .f32⟩
  | .hbm, ⟨31, _⟩ => ⟨S8x2048x512, .f32⟩
  | .hbm, ⟨32, _⟩ => ⟨S8x256x512, .f32⟩
  | .hbm, ⟨33, _⟩ => ⟨S8x256x128, .f32⟩
  | .hbm, ⟨34, _⟩ => ⟨S8x256x128, .f32⟩
  | .hbm, ⟨35, _⟩ => ⟨S8x256x2x4x64, .f32⟩
  | .hbm, ⟨36, _⟩ => ⟨S8x256x2x64, .f32⟩
  | .hbm, ⟨37, _⟩ => ⟨S8x256x2x64, .f32⟩
  | .hbm, ⟨38, _⟩ => ⟨S8x2x256x256x4, .f32⟩
  | .hbm, ⟨39, _⟩ => ⟨S8x2x4x256x256, .f32⟩
  | .hbm, ⟨40, _⟩ => ⟨S_, .f32⟩
  | .hbm, ⟨41, _⟩ => ⟨S8x2x4x256x256, .f32⟩
  | .hbm, ⟨42, _⟩ => ⟨S8x2x4x256x256, .f32⟩
  | .hbm, ⟨43, _⟩ => ⟨S_, .f32⟩
  | .hbm, ⟨44, _⟩ => ⟨S8x2x4x256, .f32⟩
  | .hbm, ⟨45, _⟩ => ⟨S_, .f32⟩
  | .hbm, ⟨46, _⟩ => ⟨S8x2x4x256, .f32⟩
  | .hbm, ⟨47, _⟩ => ⟨S8x2x4x256, .f32⟩
  | .hbm, ⟨48, _⟩ => ⟨S8x2x4x256x1, .f32⟩
  | .hbm, ⟨49, _⟩ => ⟨S8x2x4x256x256, .f32⟩
  | .hbm, ⟨50, _⟩ => ⟨S8x2x4x256x256, .f32⟩
  | .hbm, ⟨51, _⟩ => ⟨S8x2x4x256x256, .f32⟩
  | .hbm, ⟨52, _⟩ => ⟨S_, .f32⟩
  | .hbm, ⟨53, _⟩ => ⟨S8x2x4x256, .f32⟩
  | .hbm, ⟨54, _⟩ => ⟨S8x2x4x256x1, .f32⟩
  | .hbm, ⟨55, _⟩ => ⟨S8x2x4x256x256, .f32⟩
  | .hbm, ⟨56, _⟩ => ⟨S8x2x4x256x256, .f32⟩
  | .hbm, ⟨57, _⟩ => ⟨S8x2x4x256x64, .f32⟩
  | .hbm, ⟨58, _⟩ => ⟨S8x256x2x4x64, .f32⟩
  | .hbm, ⟨59, _⟩ => ⟨S8x256x512, .f32⟩
  | .hbm, ⟨60, _⟩ => ⟨S8x2304x512, .f32⟩
  | .hbm, ⟨61, _⟩ => ⟨S8x2304x512, .bf16⟩
  | _, _ => ⟨S8x2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== Kernel2.lean ====
abbrev S8x16x256x1024 : Shape := ⟨4, ![8, 16, 256, 1024]⟩
abbrev S8x16x256 : Shape := ⟨3, ![8, 16, 256]⟩
abbrev S8x6x1024 : Shape := ⟨3, ![8, 6, 1024]⟩
abbrev S6x1024 : Shape := ⟨2, ![6, 1024]⟩
abbrev S4x16x1024x1024 : Shape := ⟨4, ![4, 16, 1024, 1024]⟩
abbrev S1x1x6x1024 : Shape := ⟨4, ![1, 1, 6, 1024]⟩
abbrev S8x1x6x1024 : Shape := ⟨4, ![8, 1, 6, 1024]⟩
abbrev S8x2x6x1024 : Shape := ⟨4, ![8, 2, 6, 1024]⟩
abbrev S8x16x256x1 : Shape := ⟨4, ![8, 16, 256, 1]⟩
abbrev S8x16x256x128 : Shape := ⟨4, ![8, 16, 256, 128]⟩
abbrev S2x1x256x1024 : Shape := ⟨4, ![2, 1, 256, 1024]⟩
abbrev S2x1x256x128 : Shape := ⟨4, ![2, 1, 256, 128]⟩
abbrev S2x1x6x1024 : Shape := ⟨4, ![2, 1, 6, 1024]⟩
abbrev S1x1x1024x1024 : Shape := ⟨4, ![1, 1, 1024, 1024]⟩
abbrev S1024x1024 : Shape := ⟨2, ![1024, 1024]⟩
abbrev S1x1x256x1024 : Shape := ⟨4, ![1, 1, 256, 1024]⟩
abbrev S256x1024 : Shape := ⟨2, ![256, 1024]⟩
abbrev S512x1024 : Shape := ⟨2, ![512, 1024]⟩
abbrev S1x1x256x128 : Shape := ⟨4, ![1, 1, 256, 128]⟩
abbrev S256x128 : Shape := ⟨2, ![256, 128]⟩
abbrev S256x1 : Shape := ⟨2, ![256, 1]⟩
abbrev S1x1024 : Shape := ⟨2, ![1, 1024]⟩

abbrev nBuf : Space → Nat
  | .hbm => 14
  | .vmem => 17
  | .smem => 0
  | _ => 0

abbrev bufTy : (tb : Table) → Fin (tcTables nBuf tb) → BufTy
  | .hbm, ⟨0, _⟩ => ⟨S8x16x256x1024, .bf16⟩
  | .hbm, ⟨1, _⟩ => ⟨S8x16x256, .f32⟩
  | .hbm, ⟨2, _⟩ => ⟨S8x6x1024, .f32⟩
  | .hbm, ⟨3, _⟩ => ⟨S6x1024, .f32⟩
  | .hbm, ⟨4, _⟩ => ⟨S4x16x1024x1024, .f32⟩
  | .hbm, ⟨5, _⟩ => ⟨S4x16x1024x1024, .f32⟩
  | .hbm, ⟨6, _⟩ => ⟨S4x16x1024x1024, .f32⟩
  | .hbm, ⟨7, _⟩ => ⟨S1x1x6x1024, .f32⟩
  | .hbm, ⟨8, _⟩ => ⟨S8x1x6x1024, .f32⟩
  | .hbm, ⟨9, _⟩ => ⟨S8x1x6x1024, .f32⟩
  | .hbm, ⟨10, _⟩ => ⟨S8x2x6x1024, .f32⟩
  | .hbm, ⟨11, _⟩ => ⟨S8x16x256x1, .f32⟩
  | .hbm, ⟨12, _⟩ => ⟨S8x16x256x128, .f32⟩
  | .hbm, ⟨13, _⟩ => ⟨S8x16x256x1024, .bf16⟩
  | .local _ .vmem, ⟨0, _⟩ => ⟨S2x1x256x1024, .bf16⟩
  | .local _ .vmem, ⟨1, _⟩ => ⟨S2x1x256x1024, .bf16⟩
  | .local _ .vmem, ⟨2, _⟩ => ⟨S2x1x256x128, .f32⟩
  | .local _ .vmem, ⟨3, _⟩ => ⟨S2x1x256x128, .f32⟩
  | .local _ .vmem, ⟨4, _⟩ => ⟨S2x1x6x1024, .f32⟩
  | .local _ .vmem, ⟨5, _⟩ => ⟨S2x1x6x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x1x1024x1024, .f32⟩
  | .local _ .vmem, ⟨11, _⟩ => ⟨S1x1x1024x1024, .f32⟩
  | .local _ .vmem, ⟨12, _⟩ => ⟨S2x1x256x1024, .bf16⟩
  | .local _ .vmem, ⟨13, _⟩ => ⟨S2x1x256x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | _, _ => ⟨S8x16x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![v0.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![v0.toNat, arg0.toNat, c0_i32.toNat, c0_i32_0.toNat]

abbrev stage0_0 : Fin 2 → Memref sig .tc .vmem S2x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8x16x256x1024 : Shape := ⟨4, ![8, 16, 256, 1024]⟩
abbrev S8x16x256 : Shape := ⟨3, ![8, 16, 256]⟩
abbrev S8x6x1024 : Shape := ⟨3, ![8, 6, 1024]⟩
abbrev S6x1024 : Shape := ⟨2, ![6, 1024]⟩
abbrev S4x16x1024x1024 : Shape := ⟨4, ![4, 16, 1024, 1024]⟩
abbrev S1x16x1024x1024 : Shape := ⟨4, ![1, 16, 1024, 1024]⟩
abbrev S16x1024x1024 : Shape := ⟨3, ![16, 1024, 1024]⟩
abbrev S16x1024x8x256 : Shape := ⟨4, ![16, 1024, 8, 256]⟩
abbrev S_ : Shape := ⟨0, ![]⟩
abbrev S8x16x256x1 : Shape := ⟨4, ![8, 16, 256, 1]⟩
abbrev S8x1x1024 : Shape := ⟨3, ![8, 1, 1024]⟩
abbrev S8x1024 : Shape := ⟨2, ![8, 1024]⟩
abbrev S8x1x1x1024 : Shape := ⟨4, ![8, 1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x16x256x1024, .bf16⟩
  | .hbm, ⟨1, _⟩ => ⟨S8x16x256, .f32⟩
  | .hbm, ⟨2, _⟩ => ⟨S8x6x1024, .f32⟩
  | .hbm, ⟨3, _⟩ => ⟨S6x1024, .f32⟩
  | .hbm, ⟨4, _⟩ => ⟨S4x16x1024x1024, .f32⟩
  | .hbm, ⟨5, _⟩ => ⟨S4x16x1024x1024, .f32⟩
  | .hbm, ⟨6, _⟩ => ⟨S4x16x1024x1024, .f32⟩
  | .hbm, ⟨7, _⟩ => ⟨S8x16x256x1024, .f32⟩
  | .hbm, ⟨8, _⟩ => ⟨S1x16x1024x1024, .f32⟩
  | .hbm, ⟨9, _⟩ => ⟨S16x1024x1024, .f32⟩
  | .hbm, ⟨10, _⟩ => ⟨S16x1024x8x256, .f32⟩
  | .hbm, ⟨11, _⟩ => ⟨S8x16x256x1024, .f32⟩
  | .hbm, ⟨12, _⟩ => ⟨S8x16x256x1024, .f32⟩
  | .hbm, ⟨13, _⟩ => ⟨S8x16x256x1024, .f32⟩
  | .hbm, ⟨14, _⟩ => ⟨S_, .f32⟩
  | .hbm, ⟨15, _⟩ => ⟨S8x16x256x1024, .f32⟩
  | .hbm, ⟨16, _⟩ => ⟨S8x16x256x1024, .f32⟩
  | .hbm, ⟨17, _⟩ => ⟨S_, .f32⟩
  | .hbm, ⟨18, _⟩ => ⟨S8x16x256x1024, .f32⟩
  | .hbm, ⟨19, _⟩ => ⟨S8x16x256x1024, .f32⟩
  | .hbm, ⟨20, _⟩ => ⟨S8x16x256x1024, .f32⟩
  | .hbm, ⟨21, _⟩ => ⟨S1x16x1024x1024, .f32⟩
  | .hbm, ⟨22, _⟩ => ⟨S16x1024x1024, .f32⟩
  | .hbm, ⟨23, _⟩ => ⟨S16x1024x8x256, .f32⟩
  | .hbm, ⟨24, _⟩ => ⟨S8x16x256x1024, .f32⟩
  | .hbm, ⟨25, _⟩ => ⟨S8x16x256x1024, .f32⟩
  | .hbm, ⟨26, _⟩ => ⟨S1x16x1024x1024, .f32⟩
  | .hbm, ⟨27, _⟩ => ⟨S16x1024x1024, .f32⟩
  | .hbm, ⟨28, _⟩ => ⟨S16x1024x8x256, .f32⟩
  | .hbm, ⟨29, _⟩ => ⟨S8x16x256x1024, .f32⟩
  | .hbm, ⟨30, _⟩ => ⟨S8x16x256x1, .f32⟩
  | .hbm, ⟨31, _⟩ => ⟨S8x16x256x1024, .f32⟩
  | .hbm, ⟨32, _⟩ => ⟨S8x16x256x1024, .f32⟩
  | .hbm, ⟨33, _⟩ => ⟨S8x1x1024, .f32⟩
  | .hbm, ⟨34, _⟩ => ⟨S8x1024, .f32⟩
  | .hbm, ⟨35, _⟩ => ⟨S8x1x1x1024, .f32⟩
  | .hbm, ⟨36, _⟩ => ⟨S8x16x256x1024, .f32⟩
  | .hbm, ⟨37, _⟩ => ⟨S8x16x256x1024, .f32⟩
  | .hbm, ⟨38, _⟩ => ⟨S8x16x256x1024, .bf16⟩
  | _, _ => ⟨S8x16x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Kernel3.lean ====
abbrev S8x16x256x1024 : Shape := ⟨4, ![8, 16, 256, 1024]⟩
abbrev S8x16x256 : Shape := ⟨3, ![8, 16, 256]⟩
abbrev S1x16x256x1024 : Shape := ⟨4, ![1, 16, 256, 1024]⟩
abbrev S1x16x256 : Shape := ⟨3, ![1, 16, 256]⟩
abbrev S8x6x1024 : Shape := ⟨3, ![8, 6, 1024]⟩
abbrev S6x1024 : Shape := ⟨2, ![6, 1024]⟩
abbrev S4x16x1024x1024 : Shape := ⟨4, ![4, 16, 1024, 1024]⟩
abbrev S1x1x6x1024 : Shape := ⟨4, ![1, 1, 6, 1024]⟩
abbrev S8x1x6x1024 : Shape := ⟨4, ![8, 1, 6, 1024]⟩
abbrev S8x2x6x1024 : Shape := ⟨4, ![8, 2, 6, 1024]⟩
abbrev S8x16x256x1 : Shape := ⟨4, ![8, 16, 256, 1]⟩
abbrev S8x16x256x128 : Shape := ⟨4, ![8, 16, 256, 128]⟩
abbrev S1x16x256x1 : Shape := ⟨4, ![1, 16, 256, 1]⟩
abbrev S1x16x256x128 : Shape := ⟨4, ![1, 16, 256, 128]⟩
abbrev S2x1x256x1024 : Shape := ⟨4, ![2, 1, 256, 1024]⟩
abbrev S2x1x256x128 : Shape := ⟨4, ![2, 1, 256, 128]⟩
abbrev S2x1x6x1024 : Shape := ⟨4, ![2, 1, 6, 1024]⟩
abbrev S1x1x256x1024 : Shape := ⟨4, ![1, 1, 256, 1024]⟩
abbrev S1x1x256x128 : Shape := ⟨4, ![1, 1, 256, 128]⟩
abbrev S1x1x1024x1024 : Shape := ⟨4, ![1, 1, 1024, 1024]⟩
abbrev S1024x1024 : Shape := ⟨2, ![1024, 1024]⟩
abbrev S256x1024 : Shape := ⟨2, ![256, 1024]⟩
abbrev S512x1024 : Shape := ⟨2, ![512, 1024]⟩
abbrev S256x128 : Shape := ⟨2, ![256, 128]⟩
abbrev S256x1 : Shape := ⟨2, ![256, 1]⟩
abbrev S1x1024 : Shape := ⟨2, ![1, 1024]⟩

abbrev nBuf : Space → Nat
  | .hbm => 19
  | .vmem => 24
  | .smem => 0
  | _ => 0

abbrev bufTy : (tb : Table) → Fin (tcTables nBuf tb) → BufTy
  | .hbm, ⟨0, _⟩ => ⟨S8x16x256x1024, .bf16⟩
  | .hbm, ⟨1, _⟩ => ⟨S8x16x256, .f32⟩
  | .hbm, ⟨2, _⟩ => ⟨S1x16x256x1024, .bf16⟩
  | .hbm, ⟨3, _⟩ => ⟨S1x16x256, .f32⟩
  | .hbm, ⟨4, _⟩ => ⟨S8x6x1024, .f32⟩
  | .hbm, ⟨5, _⟩ => ⟨S6x1024, .f32⟩
  | .hbm, ⟨6, _⟩ => ⟨S4x16x1024x1024, .f32⟩
  | .hbm, ⟨7, _⟩ => ⟨S4x16x1024x1024, .f32⟩
  | .hbm, ⟨8, _⟩ => ⟨S4x16x1024x1024, .f32⟩
  | .hbm, ⟨9, _⟩ => ⟨S1x1x6x1024, .f32⟩
  | .hbm, ⟨10, _⟩ => ⟨S8x1x6x1024, .f32⟩
  | .hbm, ⟨11, _⟩ => ⟨S8x1x6x1024, .f32⟩
  | .hbm, ⟨12, _⟩ => ⟨S8x2x6x1024, .f32⟩
  | .hbm, ⟨13, _⟩ => ⟨S8x16x256x1, .f32⟩
  | .hbm, ⟨14, _⟩ => ⟨S8x16x256x128, .f32⟩
  | .hbm, ⟨15, _⟩ => ⟨S1x16x256x1, .f32⟩
  | .hbm, ⟨16, _⟩ => ⟨S1x16x256x128, .f32⟩
  | .hbm, ⟨17, _⟩ => ⟨S8x16x256x1024, .bf16⟩
  | .hbm, ⟨18, _⟩ => ⟨S1x16x256x1024, .bf16⟩
  | .local _ .vmem, ⟨0, _⟩ => ⟨S2x1x256x1024, .bf16⟩
  | .local _ .vmem, ⟨1, _⟩ => ⟨S2x1x256x1024, .bf16⟩
  | .local _ .vmem, ⟨2, _⟩ => ⟨S2x1x256x128, .f32⟩
  | .local _ .vmem, ⟨3, _⟩ => ⟨S2x1x256x128, .f32⟩
  | .local _ .vmem, ⟨4, _⟩ => ⟨S2x1x6x1024, .f32⟩
  | .local _ .vmem, ⟨5, _⟩ => ⟨S2x1x6x1024, .f32⟩
  | .local _ .vmem, ⟨6, _⟩ => ⟨S1x1x256x1024, .bf16⟩
  | .local _ .vmem, ⟨7, _⟩ => ⟨S1x1x256x1024, .bf16⟩
  | .local _ .vmem, ⟨8, _⟩ => ⟨S1x1x256x128, .f32⟩
  | .local _ .vmem, ⟨9, _⟩ => ⟨S1x1x256x128, .f32⟩
  | .local _ .vmem, ⟨10, _⟩ => ⟨S1x1x6x1024, .f32⟩
  | .local _ .vmem, ⟨11, _⟩ => ⟨S1x1x1024x1024, .f32⟩
  | .local _ .vmem, ⟨12, _⟩ => ⟨S1x1x1024x1024, .f32⟩
  | .local _ .vmem, ⟨13, _⟩ => ⟨S1x1x1024x1024, .f32⟩
  | .local _ .vmem, ⟨14, _⟩ => ⟨S1x1x1024x1024, .f32⟩
  | .local _ .vmem, ⟨15, _⟩ => ⟨S1x1x1024x1024, .f32⟩
  | .local _ .vmem, ⟨16, _⟩ => ⟨S1x1x1024x1024, .f32⟩
  | .local _ .vmem, ⟨17, _⟩ => ⟨S2x1x256x1024, .bf16⟩
  | .local _ .vmem, ⟨18, _⟩ => ⟨S2x1x256x1024, .bf16⟩
  | .local _ .vmem, ⟨19, _⟩ => ⟨S1x1x256x1024, .bf16⟩
  | .local _ .vmem, ⟨20, _⟩ => ⟨S1x1x256x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | _, _ => ⟨S8x16x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .eq arg1 c4_i32_2
  let v7 : BitVec 32 := Scalar.extui v6
  let c0_i32_3 : BitVec 32 := 0#32
  let v8 : BitVec 1 := Scalar.cmpi .ne v7 c0_i32_3
  v8

def cc0_transform_0 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![v0.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![v0.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![v0.toNat, arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1x6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference3Ideal.lean ====
abbrev S8x16x256x1024 : Shape := ⟨4, ![8, 16, 256, 1024]⟩
abbrev S8x16x256 : Shape := ⟨3, ![8, 16, 256]⟩
abbrev S1x16x256x1024 : Shape := ⟨4, ![1, 16, 256, 1024]⟩
abbrev S1x16x256 : Shape := ⟨3, ![1, 16, 256]⟩
abbrev S8x6x1024 : Shape := ⟨3, ![8, 6, 1024]⟩
abbrev S6x1024 : Shape := ⟨2, ![6, 1024]⟩
abbrev S4x16x1024x1024 : Shape := ⟨4, ![4, 16, 1024, 1024]⟩
abbrev S1x16x1024x1024 : Shape := ⟨4, ![1, 16, 1024, 1024]⟩
abbrev S16x1024x1024 : Shape := ⟨3, ![16, 1024, 1024]⟩
abbrev S16x1024x8x256 : Shape := ⟨4, ![16, 1024, 8, 256]⟩
abbrev S_ : Shape := ⟨0, ![]⟩
abbrev S8x16x256x1 : Shape := ⟨4, ![8, 16, 256, 1]⟩
abbrev S8x1x1024 : Shape := ⟨3, ![8, 1, 1024]⟩
abbrev S8x1024 : Shape := ⟨2, ![8, 1024]⟩
abbrev S8x1x1x1024 : Shape := ⟨4, ![8, 1, 1, 1024]⟩
abbrev S1x6x1024 : Shape := ⟨3, ![1, 6, 1024]⟩
abbrev S16x1024x1x256 : Shape := ⟨4, ![16, 1024, 1, 256]⟩
abbrev S1x16x256x1 : Shape := ⟨4, ![1, 16, 256, 1]⟩
abbrev S1x1x1024 : Shape := ⟨3, ![1, 1, 1024]⟩
abbrev S1x1024 : Shape := ⟨2, ![1, 1024]⟩
abbrev S1x1x1x1024 : Shape := ⟨4, ![1, 1, 1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S8x16x256x1024, .bf16⟩
  | .hbm, ⟨1, _⟩ => ⟨S8x16x256, .f32⟩
  | .hbm, ⟨2, _⟩ => ⟨S1x16x256x1024, .bf16⟩
  | .hbm, ⟨3, _⟩ => ⟨S1x16x256, .f32⟩
  | .hbm, ⟨4, _⟩ => ⟨S8x6x1024, .f32⟩
  | .hbm, ⟨5, _⟩ => ⟨S6x1024, .f32⟩
  | .hbm, ⟨6, _⟩ => ⟨S4x16x1024x1024, .f32⟩
  | .hbm, ⟨7, _⟩ => ⟨S4x16x1024x1024, .f32⟩
  | .hbm, ⟨8, _⟩ => ⟨S4x16x1024x1024, .f32⟩
  | .hbm, ⟨9, _⟩ => ⟨S8x16x256x1024, .f32⟩
  | .hbm, ⟨10, _⟩ => ⟨S1x16x1024x1024, .f32⟩
  | .hbm, ⟨11, _⟩ => ⟨S16x1024x1024, .f32⟩
  | .hbm, ⟨12, _⟩ => ⟨S16x1024x8x256, .f32⟩
  | .hbm, ⟨13, _⟩ => ⟨S8x16x256x1024, .f32⟩
  | .hbm, ⟨14, _⟩ => ⟨S8x16x256x1024, .f32⟩
  | .hbm, ⟨15, _⟩ => ⟨S8x16x256x1024, .f32⟩
  | .hbm, ⟨16, _⟩ => ⟨S_, .f32⟩
  | .hbm, ⟨17, _⟩ => ⟨S8x16x256x1024, .f32⟩
  | .hbm, ⟨18, _⟩ => ⟨S8x16x256x1024, .f32⟩
  | .hbm, ⟨19, _⟩ => ⟨S_, .f32⟩
  | .hbm, ⟨20, _⟩ => ⟨S8x16x256x1024, .f32⟩
  | .hbm, ⟨21, _⟩ => ⟨S8x16x256x1024, .f32⟩
  | .hbm, ⟨22, _⟩ => ⟨S8x16x256x1024, .f32⟩
  | .hbm, ⟨23, _⟩ => ⟨S1x16x1024x1024, .f32⟩
  | .hbm, ⟨24, _⟩ => ⟨S16x1024x1024, .f32⟩
  | .hbm, ⟨25, _⟩ => ⟨S16x1024x8x256, .f32⟩
  | .hbm, ⟨26, _⟩ => ⟨S8x16x256x1024, .f32⟩
  | .hbm, ⟨27, _⟩ => ⟨S8x16x256x1024, .f32⟩
  | .hbm, ⟨28, _⟩ => ⟨S1x16x1024x1024, .f32⟩
  | .hbm, ⟨29, _⟩ => ⟨S16x1024x1024, .f32⟩
  | .hbm, ⟨30, _⟩ => ⟨S16x1024x8x256, .f32⟩
  | .hbm, ⟨31, _⟩ => ⟨S8x16x256x1024, .f32⟩
  | .hbm, ⟨32, _⟩ => ⟨S8x16x256x1, .f32⟩
  | .hbm, ⟨33, _⟩ => ⟨S8x16x256x1024, .f32⟩
  | .hbm, ⟨34, _⟩ => ⟨S8x16x256x1024, .f32⟩
  | .hbm, ⟨35, _⟩ => ⟨S8x1x1024, .f32⟩
  | .hbm, ⟨36, _⟩ => ⟨S8x1024, .f32⟩
  | .hbm, ⟨37, _⟩ => ⟨S8x1x1x1024, .f32⟩
  | .hbm, ⟨38, _⟩ => ⟨S8x16x256x1024, .f32⟩
  | .hbm, ⟨39, _⟩ => ⟨S8x16x256x1024, .f32⟩
  | .hbm, ⟨40, _⟩ => ⟨S8x16x256x1024, .bf16⟩
  | .hbm, ⟨41, _⟩ => ⟨S1x6x1024, .f32⟩
  | .hbm, ⟨42, _⟩ => ⟨S1x16x256x1024, .f32⟩
  | .hbm, ⟨43, _⟩ => ⟨S1x16x1024x1024, .f32⟩
  | .hbm, ⟨44, _⟩ => ⟨S16x1024x1024, .f32⟩
  | .hbm, ⟨45, _⟩ => ⟨S16x1024x1x256, .f32⟩
  | .hbm, ⟨46, _⟩ => ⟨S1x16x256x1024, .f32⟩
  | .hbm, ⟨47, _⟩ => ⟨S1x16x256x1024, .f32⟩
  | .hbm, ⟨48, _⟩ => ⟨S1x16x256x1024, .f32⟩
  | .hbm, ⟨49, _⟩ => ⟨S_, .f32⟩
  | .hbm, ⟨50, _⟩ => ⟨S1x16x256x1024, .f32⟩
  | .hbm, ⟨51, _⟩ => ⟨S1x16x256x1024, .f32⟩
  | .hbm, ⟨52, _⟩ => ⟨S_, .f32⟩
  | .hbm, ⟨53, _⟩ => ⟨S1x16x256x1024, .f32⟩
  | .hbm, ⟨54, _⟩ => ⟨S1x16x256x1024, .f32⟩
  | .hbm, ⟨55, _⟩ => ⟨S1x16x256x1024, .f32⟩
  | .hbm, ⟨56, _⟩ => ⟨S1x16x1024x1024, .f32⟩
  | .hbm, ⟨57, _⟩ => ⟨S16x1024x1024, .f32⟩
  | .hbm, ⟨58, _⟩ => ⟨S16x1024x1x256, .f32⟩
  | .hbm, ⟨59, _⟩ => ⟨S1x16x256x1024, .f32⟩
  | .hbm, ⟨60, _⟩ => ⟨S1x16x256x1024, .f32⟩
  | .hbm, ⟨61, _⟩ => ⟨S1x16x1024x1024, .f32⟩
  | .hbm, ⟨62, _⟩ => ⟨S16x1024x1024, .f32⟩
  | .hbm, ⟨63, _⟩ => ⟨S16x1024x1x256, .f32⟩
  | .hbm, ⟨64, _⟩ => ⟨S1x16x256x1024, .f32⟩
  | .hbm, ⟨65, _⟩ => ⟨S1x16x256x1, .f32⟩
  | .hbm, ⟨66, _⟩ => ⟨S1x16x256x1024, .f32⟩
  | .hbm, ⟨67, _⟩ => ⟨S1x16x256x1024, .f32⟩
  | .hbm, ⟨68, _⟩ => ⟨S1x1x1024, .f32⟩
  | .hbm, ⟨69, _⟩ => ⟨S1x1024, .f32⟩
  | .hbm, ⟨70, _⟩ => ⟨S1x1x1x1024, .f32⟩
  | .hbm, ⟨71, _⟩ => ⟨S1x16x256x1024, .f32⟩
  | .hbm, ⟨72, _⟩ => ⟨S1x16x256x1024, .f32⟩
  | .hbm, ⟨73, _⟩ => ⟨S1x16x256x1024, .bf16⟩
  | _, _ => ⟨S8x16x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x256x1024 : Shape := ⟨3, ![8, 256, 1024]⟩
abbrev S8x6x1024 : Shape := ⟨3, ![8, 6, 1024]⟩
abbrev S6x1024 : Shape := ⟨2, ![6, 1024]⟩
abbrev S4x1024 : Shape := ⟨2, ![4, 1024]⟩
abbrev S2x1024x2832 : Shape := ⟨3, ![2, 1024, 2832]⟩
abbrev S2048x2x16 : Shape := ⟨3, ![2048, 2, 16]⟩
abbrev S2x64 : Shape := ⟨2, ![2, 64]⟩
abbrev S2x16 : Shape := ⟨2, ![2, 16]⟩
abbrev S8x2304x1024 : Shape := ⟨3, ![8, 2304, 1024]⟩
abbrev S1x1x6x1024 : Shape := ⟨4, ![1, 1, 6, 1024]⟩
abbrev S8x1x6x1024 : Shape := ⟨4, ![8, 1, 6, 1024]⟩
abbrev S8x2x6x1024 : Shape := ⟨4, ![8, 2, 6, 1024]⟩
abbrev S2048x1x16 : Shape := ⟨3, ![2048, 1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S_ : Shape := ⟨0, ![]⟩
abbrev S256x512 : Shape := ⟨2, ![256, 512]⟩
abbrev S2304x512 : Shape := ⟨2, ![2304, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1024x112 : Shape := ⟨2, ![1024, 112]⟩
abbrev S1x1024x2832 : Shape := ⟨3, ![1, 1024, 2832]⟩
abbrev S1024x2832 : Shape := ⟨2, ![1024, 2832]⟩
abbrev S1024x2944 : Shape := ⟨2, ![1024, 2944]⟩
abbrev S1x16 : Shape := ⟨2, ![1, 16]⟩
abbrev S16 : Shape := ⟨1, ![16]⟩
abbrev S112 : Shape := ⟨1, ![112]⟩
abbrev S128 : Shape := ⟨1, ![128]⟩
abbrev S1x128 : Shape := ⟨2, ![1, 128]⟩
abbrev S1x1024 : Shape := ⟨2, ![1, 1024]⟩
abbrev S1024 : Shape := ⟨1, ![1024]⟩
abbrev S1x64 : Shape := ⟨2, ![1, 64]⟩
abbrev S64 : Shape := ⟨1, ![64]⟩
abbrev S8x64 : Shape := ⟨2, ![8, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x2304x512 : Shape := ⟨3, ![8, 2304, 512]⟩
abbrev S8x2304x128 : Shape := ⟨3, ![8, 2304, 128]⟩
abbrev S8x2304x256 : Shape := ⟨3, ![8, 2304, 256]⟩
abbrev S8x512x2304 : Shape := ⟨3, ![8, 512, 2304]⟩
abbrev S1x256x1024 : Shape := ⟨3, ![1, 256, 1024]⟩
abbrev S1x256x512 : Shape := ⟨3, ![1, 256, 512]⟩
abbrev S1x256x128 : Shape := ⟨3, ![1, 256, 128]⟩
abbrev S1x256x256 : Shape := ⟨3, ![1, 256, 256]⟩
abbrev S1x512x256 : Shape := ⟨3, ![1, 512, 256]⟩
abbrev S256x1024 : Shape := ⟨2, ![256, 1024]⟩
abbrev S1024x512 : Shape := ⟨2, ![1024, 512]⟩
abbrev S1024x128 : Shape := ⟨2, ![1024, 128]⟩
abbrev S256x128 : Shape := ⟨2, ![256, 128]⟩
abbrev S128x128 : Shape := ⟨2, ![128, 128]⟩
abbrev S256x64 : Shape := ⟨2, ![256, 64]⟩
abbrev S1024x1024 : Shape := ⟨2, ![1024, 1024]⟩
abbrev S512x256 : Shape := ⟨2, ![512, 256]⟩

abbrev nBuf : Space → Nat
  | .hbm => 172
  | .vmem => 33
  | .smem => 0
  | _ => 0

abbrev hbmTy0_0 (i : Nat) : BufTy := match i % 128 with
  | 0 => ⟨S8x2048x1024, .f32⟩
  | 1 => ⟨S8x256x1024, .f32⟩
  | 2 => ⟨S8x6x1024, .f32⟩
  | 3 => ⟨S6x1024, .f32⟩
  | 4 => ⟨S4x1024, .f32⟩
  | 5 => ⟨S2x1024x2832, .f32⟩
  | 6 => ⟨S2048x2x16, .f32⟩
  | 7 => ⟨S2048x2x16, .f32⟩
  | 8 => ⟨S2x64, .f32⟩
  | 9 => ⟨S2x64, .f32⟩
  | 10 => ⟨S2x16, .f32⟩
  | 11 => ⟨S8x2304x1024, .f32⟩
  | 12 => ⟨S1x1x6x1024, .f32⟩
  | 13 => ⟨S8x1x6x1024, .f32⟩
  | 14 => ⟨S8x1x6x1024, .f32⟩
  | 15 => ⟨S8x2x6x1024, .f32⟩
  | 16 => ⟨S2048x1x16, .f32⟩
  | 17 => ⟨S2048x16, .f32⟩
  | 18 => ⟨S2048x1x16, .f32⟩
  | 19 => ⟨S2048x16, .f32⟩
  | 20 => ⟨S2048x64, .f32⟩
  | 21 => ⟨S2048x1x16, .f32⟩
  | 22 => ⟨S2048x16, .f32⟩
  | 23 => ⟨S2048x16, .f32⟩
  | 24 => ⟨S2048x1x16, .f32⟩
  | 25 => ⟨S2048x16, .f32⟩
  | 26 => ⟨S2048x1x16, .f32⟩
  | 27 => ⟨S2048x16, .f32⟩
  | 28 => ⟨S2048x16, .f32⟩
  | 29 => ⟨S2048x1x16, .f32⟩
  | 30 => ⟨S2048x16, .f32⟩
  | 31 => ⟨S2048x64, .f32⟩
  | 32 => ⟨S1x2048x1x64, .f32⟩
  | 33 => ⟨S1x2048x8x64, .f32⟩
  | 34 => ⟨S2048x512, .f32⟩
  | 35 => ⟨S1x2048x1x64, .f32⟩
  | 36 => ⟨S1x2048x8x64, .f32⟩
  | 37 => ⟨S2048x512, .f32⟩
  | 38 => ⟨S_, .f32⟩
  | 39 => ⟨S256x512, .f32⟩
  | 40 => ⟨S2304x512, .f32⟩
  | 41 => ⟨S_, .f32⟩
  | 42 => ⟨S256x512, .f32⟩
  | 43 => ⟨S2304x512, .f32⟩
  | 44 => ⟨S512, .i32⟩
  | 45 => ⟨S512x1, .i32⟩
  | 46 => ⟨S_, .i32⟩
  | 47 => ⟨S_, .i32⟩
  | 48 => ⟨S512x1, .i32⟩
  | 49 => ⟨S512x1, .i32⟩
  | 50 => ⟨S512x1, .i32⟩
  | 51 => ⟨S_, .i32⟩
  | 52 => ⟨S512x1, .i32⟩
  | 53 => ⟨S512x1, .i1⟩
  | 54 => ⟨S512x1, .i32⟩
  | 55 => ⟨S512x1, .i32⟩
  | 56 => ⟨S_, .i32⟩
  | 57 => ⟨S512x1, .i32⟩
  | 58 => ⟨S512x1, .i1⟩
  | 59 => ⟨S512x1, .i1⟩
  | 60 => ⟨S_, .i32⟩
  | 61 => ⟨S512x1, .i32⟩
  | 62 => ⟨S512x1, .i32⟩
  | 63 => ⟨S512x1, .i32⟩
  | 64 => ⟨S1x512, .i32⟩
  | 65 => ⟨S_, .i32⟩
  | 66 => ⟨S_, .i32⟩
  | 67 => ⟨S1x512, .i32⟩
  | 68 => ⟨S1x512, .i32⟩
  | 69 => ⟨S1x512, .i32⟩
  | 70 => ⟨S_, .i32⟩
  | 71 => ⟨S1x512, .i32⟩
  | 72 => ⟨S1x512, .i1⟩
  | 73 => ⟨S1x512, .i32⟩
  | 74 => ⟨S1x512, .i32⟩
  | 75 => ⟨S_, .i32⟩
  | 76 => ⟨S1x512, .i32⟩
  | 77 => ⟨S1x512, .i1⟩
  | 78 => ⟨S1x512, .i1⟩
  | 79 => ⟨S_, .i32⟩
  | 80 => ⟨S1x512, .i32⟩
  | 81 => ⟨S1x512, .i32⟩
  | 82 => ⟨S1x512, .i32⟩
  | 83 => ⟨S512x512, .i32⟩
  | 84 => ⟨S512x512, .i32⟩
  | 85 => ⟨S512x512, .i1⟩
  | 86 => ⟨S512x512, .bf16⟩
  | 87 => ⟨S_, .f32⟩
  | 88 => ⟨S1024x112, .f32⟩
  | 89 => ⟨S1x1024x2832, .f32⟩
  | 90 => ⟨S1024x2832, .f32⟩
  | 91 => ⟨S1024x2944, .f32⟩
  | 92 => ⟨S1024x2944, .bf16⟩
  | 93 => ⟨S1x16, .f32⟩
  | 94 => ⟨S16, .f32⟩
  | 95 => ⟨S_, .f32⟩
  | 96 => ⟨S112, .f32⟩
  | 97 => ⟨S128, .f32⟩
  | 98 => ⟨S1x128, .f32⟩
  | 99 => ⟨S1x1024, .f32⟩
  | 100 => ⟨S1024, .f32⟩
  | 101 => ⟨S1x1024, .f32⟩
  | 102 => ⟨S1x64, .f32⟩
  | 103 => ⟨S64, .f32⟩
  | 104 => ⟨S1x64, .f32⟩
  | 105 => ⟨S8x64, .f32⟩
  | 106 => ⟨S512, .f32⟩
  | 107 => ⟨S1x512, .f32⟩
  | 108 => ⟨S1x64, .f32⟩
  | 109 => ⟨S64, .f32⟩
  | 110 => ⟨S1x64, .f32⟩
  | 111 => ⟨S2x64, .f32⟩
  | 112 => ⟨S128, .f32⟩
  | 113 => ⟨S1x128, .f32⟩
  | 114 => ⟨S256, .i32⟩
  | 115 => ⟨S256x1, .i32⟩
  | 116 => ⟨S_, .i32⟩
  | 117 => ⟨S_, .i32⟩
  | 118 => ⟨S256x1, .i32⟩
  | 119 => ⟨S256x1, .i32⟩
  | 120 => ⟨S256x1, .i32⟩
  | 121 => ⟨S_, .i32⟩
  | 122 => ⟨S256x1, .i32⟩
  | 123 => ⟨S256x1, .i1⟩
  | 124 => ⟨S256x1, .i32⟩
  | 125 => ⟨S256x1, .i32⟩
  | 126 => ⟨S_, .i32⟩
  | 127 => ⟨S256x1, .i32⟩
  | _ => ⟨S8x2048x1024, .f32⟩

abbrev hbmTy0_1 (i : Nat) : BufTy := match i % 128 with
  | 0 => ⟨S256x1, .i1⟩
  | 1 => ⟨S256x1, .i1⟩
  | 2 => ⟨S_, .i32⟩
  | 3 => ⟨S256x1, .i32⟩
  | 4 => ⟨S256x1, .i32⟩
  | 5 => ⟨S256x1, .i32⟩
  | 6 => ⟨S1x256, .i32⟩
  | 7 => ⟨S_, .i32⟩
  | 8 => ⟨S_, .i32⟩
  | 9 => ⟨S1x256, .i32⟩
  | 10 => ⟨S1x256, .i32⟩
  | 11 => ⟨S1x256, .i32⟩
  | 12 => ⟨S_, .i32⟩
  | 13 => ⟨S1x256, .i32⟩
  | 14 => ⟨S1x256, .i1⟩
  | 15 => ⟨S1x256, .i32⟩
  | 16 => ⟨S1x256, .i32⟩
  | 17 => ⟨S_, .i32⟩
  | 18 => ⟨S1x256, .i32⟩
  | 19 => ⟨S1x256, .i1⟩
  | 20 => ⟨S1x256, .i1⟩
  | 21 => ⟨S_, .i32⟩
  | 22 => ⟨S1x256, .i32⟩
  | 23 => ⟨S1x256, .i32⟩
  | 24 => ⟨S1x256, .i32⟩
  | 25 => ⟨S256x256, .i32⟩
  | 26 => ⟨S256x256, .i32⟩
  | 27 => ⟨S256x256, .i1⟩
  | 28 => ⟨S1x256, .i32⟩
  | 29 => ⟨S256x1, .i32⟩
  | 30 => ⟨S256x256, .i32⟩
  | 31 => ⟨S256x256, .i32⟩
  | 32 => ⟨S256x256, .i1⟩
  | 33 => ⟨S256x256, .i1⟩
  | 34 => ⟨S256x256, .bf16⟩
  | 35 => ⟨S8x2304x512, .bf16⟩
  | 36 => ⟨S8x2304x128, .bf16⟩
  | 37 => ⟨S8x2304x256, .bf16⟩
  | 38 => ⟨S8x2304x1024, .bf16⟩
  | 39 => ⟨S8x512x2304, .bf16⟩
  | 40 => ⟨S8x2304x512, .bf16⟩
  | 41 => ⟨S8x2304x128, .f32⟩
  | 42 => ⟨S8x2304x128, .f32⟩
  | 43 => ⟨S8x2304x128, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x2944, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x512, .f32⟩
  | .local _ .vmem, ⟨11, _⟩ => ⟨S1x128, .f32⟩
  | .local _ .vmem, ⟨12, _⟩ => ⟨S512x512, .bf16⟩
  | .local _ .vmem, ⟨13, _⟩ => ⟨S1x128, .f32⟩
  | .local _ .vmem, ⟨14, _⟩ => ⟨S256x256, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x128, .bf16⟩
  | .local _ .vmem, ⟨18, _⟩ => ⟨S1x256x128, .bf16⟩
  | .local _ .vmem, ⟨19, _⟩ => ⟨S1x256x256, .bf16⟩
  | .local _ .vmem, ⟨20, _⟩ => ⟨S1x256x256, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x512x256, .bf16⟩
  | .local _ .vmem, ⟨24, _⟩ => ⟨S1x512x256, .bf16⟩
  | .local _ .vmem, ⟨25, _⟩ => ⟨S1x256x512, .bf16⟩
  | .local _ .vmem, ⟨26, _⟩ => ⟨S1x256x512, .bf16⟩
  | .local _ .vmem, ⟨27, _⟩ => ⟨S1x256x128, .f32⟩
  | .local _ .vmem, ⟨28, _⟩ => ⟨S1x256x128, .f32⟩
  | .local _ .vmem, ⟨29, _⟩ => ⟨S1x256x128, .f32⟩
  | .local _ .vmem, ⟨30, _⟩ => ⟨S1x256x128, .f32⟩
  | .local _ .vmem, ⟨31, _⟩ => ⟨S1x256x128, .f32⟩
  | .local _ .vmem, ⟨32, _⟩ => ⟨S1x256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_cst_0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_c : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_0 : Ref sig .tc := ⟨.hbm, 60, rfl⟩
abbrev main_call0_v12 : Ref sig .tc := ⟨.hbm, 61, rfl⟩
abbrev main_call0_v13 : Ref sig .tc := ⟨.hbm, 62, rfl⟩
abbrev main_v33 : Ref sig .tc := ⟨.hbm, 63, rfl⟩
abbrev main_v34 : Ref sig .tc := ⟨.hbm, 64, rfl⟩
abbrev main_c_1 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_c : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_c_0 : Ref sig .tc := ⟨.hbm, 79, rfl⟩
abbrev main_call1_v12 : Ref sig .tc := ⟨.hbm, 80, rfl⟩
abbrev main_call1_v13 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_2 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_cst_3 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_c_4 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_v6 : Ref sig .tc := ⟨.hbm, 123, rfl⟩
abbrev main_call2_v7 : Ref sig .tc := ⟨.hbm, 124, rfl⟩
abbrev main_call2_v8 : Ref sig .tc := ⟨.hbm, 125, rfl⟩
abbrev main_call2_c : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_c_0 : Ref sig .tc := ⟨.hbm, 130, rfl⟩
abbrev main_call2_v12 : Ref sig .tc := ⟨.hbm, 131, rfl⟩
abbrev main_call2_v13 : Ref sig .tc := ⟨.hbm, 132, rfl⟩
abbrev main_v67 : Ref sig .tc := ⟨.hbm, 133, rfl⟩
abbrev main_v68 : Ref sig .tc := ⟨.hbm, 134, rfl⟩
abbrev main_c_5 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_call3_v6 : Ref sig .tc := ⟨.hbm, 142, rfl⟩
abbrev main_call3_v7 : Ref sig .tc := ⟨.hbm, 143, rfl⟩
abbrev main_call3_v8 : Ref sig .tc := ⟨.hbm, 144, rfl⟩
abbrev main_call3_c : Ref sig .tc := ⟨.hbm, 145, rfl⟩
abbrev main_call3_v9 : Ref sig .tc := ⟨.hbm, 146, rfl⟩
abbrev main_call3_v10 : Ref sig .tc := ⟨.hbm, 147, rfl⟩
abbrev main_call3_v11 : Ref sig .tc := ⟨.hbm, 148, rfl⟩
abbrev main_call3_c_0 : Ref sig .tc := ⟨.hbm, 149, rfl⟩
abbrev main_call3_v12 : Ref sig .tc := ⟨.hbm, 150, rfl⟩
abbrev main_call3_v13 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80_0 : Ref sig .tc := ⟨.hbm, 163, rfl⟩
abbrev main_v80_1 : Ref sig .tc := ⟨.hbm, 164, rfl⟩
abbrev main_v80_2 : Ref sig .tc := ⟨.hbm, 165, rfl⟩
abbrev main_v80_3 : Ref sig .tc := ⟨.hbm, 166, rfl⟩
abbrev main_v80_4 : Ref sig .tc := ⟨.hbm, 167, rfl⟩
abbrev main_v80_5 : Ref sig .tc := ⟨.hbm, 168, rfl⟩
abbrev main_v80_6 : Ref sig .tc := ⟨.hbm, 169, rfl⟩
abbrev main_v80_7 : Ref sig .tc := ⟨.hbm, 170, rfl⟩
abbrev main_v80_8 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference4Ideal.lean ====
abbrev S8x2048x1024 : Shape := ⟨3, ![8, 2048, 1024]⟩
abbrev S8x256x1024 : Shape := ⟨3, ![8, 256, 1024]⟩
abbrev S8x6x1024 : Shape := ⟨3, ![8, 6, 1024]⟩
abbrev S6x1024 : Shape := ⟨2, ![6, 1024]⟩
abbrev S4x1024 : Shape := ⟨2, ![4, 1024]⟩
abbrev S2x1024x2832 : Shape := ⟨3, ![2, 1024, 2832]⟩
abbrev S2048x2x16 : Shape := ⟨3, ![2048, 2, 16]⟩
abbrev S2x64 : Shape := ⟨2, ![2, 64]⟩
abbrev S2x16 : Shape := ⟨2, ![2, 16]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S8x256 : Shape := ⟨2, ![8, 256]⟩
abbrev S8x256x1 : Shape := ⟨3, ![8, 256, 1]⟩
abbrev S8x2304x1024 : Shape := ⟨3, ![8, 2304, 1024]⟩
abbrev S1x1024x2832 : Shape := ⟨3, ![1, 1024, 2832]⟩
abbrev S1024x2832 : Shape := ⟨2, ![1024, 2832]⟩
abbrev S8x2304x2832 : Shape := ⟨3, ![8, 2304, 2832]⟩
abbrev S8x2304x512 : Shape := ⟨3, ![8, 2304, 512]⟩
abbrev S1x64 : Shape := ⟨2, ![1, 64]⟩
abbrev S64 : Shape := ⟨1, ![64]⟩
abbrev S8x2304x8x64 : Shape := ⟨4, ![8, 2304, 8, 64]⟩
abbrev S8x2304x8 : Shape := ⟨3, ![8, 2304, 8]⟩
abbrev S8x2304x8x1 : Shape := ⟨4, ![8, 2304, 8, 1]⟩
abbrev S1x1x1x64 : Shape := ⟨4, ![1, 1, 1, 64]⟩
abbrev S8x2048x8x64 : Shape := ⟨4, ![8, 2048, 8, 64]⟩
abbrev S8x2048x8x16 : Shape := ⟨4, ![8, 2048, 8, 16]⟩
abbrev S2048x1x16 : Shape := ⟨3, ![2048, 1, 16]⟩
abbrev S2048x16 : Shape := ⟨2, ![2048, 16]⟩
abbrev S1x2048x1x16 : Shape := ⟨4, ![1, 2048, 1, 16]⟩
abbrev S8x256x8x64 : Shape := ⟨4, ![8, 256, 8, 64]⟩
abbrev S8x2304x128 : Shape := ⟨3, ![8, 2304, 128]⟩
abbrev S8x2304x2x64 : Shape := ⟨4, ![8, 2304, 2, 64]⟩
abbrev S8x2304x2 : Shape := ⟨3, ![8, 2304, 2]⟩
abbrev S8x2304x2x1 : Shape := ⟨4, ![8, 2304, 2, 1]⟩
abbrev S8x2048x2x64 : Shape := ⟨4, ![8, 2048, 2, 64]⟩
abbrev S8x2048x2x16 : Shape := ⟨4, ![8, 2048, 2, 16]⟩
abbrev S8x256x2x64 : Shape := ⟨4, ![8, 256, 2, 64]⟩
abbrev S8x2304x2x128 : Shape := ⟨4, ![8, 2304, 2, 128]⟩
abbrev S8x2304x256 : Shape := ⟨3, ![8, 2304, 256]⟩
abbrev S8x512x2304 : Shape := ⟨3, ![8, 512, 2304]⟩

abbrev nBuf : Space → Nat
  | .hbm => 218
  | .vmem => 0
  | .smem => 0
  | _ => 0

abbrev hbmTy0_0 (i : Nat) : BufTy := match i % 128 with
  | 0 => ⟨S8x2048x1024, .f32⟩
  | 1 => ⟨S8x256x1024, .f32⟩
  | 2 => ⟨S8x6x1024, .f32⟩
  | 3 => ⟨S6x1024, .f32⟩
  | 4 => ⟨S4x1024, .f32⟩
  | 5 => ⟨S2x1024x2832, .f32⟩
  | 6 => ⟨S2048x2x16, .f32⟩
  | 7 => ⟨S2048x2x16, .f32⟩
  | 8 => ⟨S2x64, .f32⟩
  | 9 => ⟨S2x64, .f32⟩
  | 10 => ⟨S2x16, .f32⟩
  | 11 => ⟨S1x1024, .f32⟩
  | 12 => ⟨S1024, .f32⟩
  | 13 => ⟨S8x2048x1024, .f32⟩
  | 14 => ⟨S_, .f32⟩
  | 15 => ⟨S8x2048, .f32⟩
  | 16 => ⟨S8x2048x1, .f32⟩
  | 17 => ⟨S_, .f32⟩
  | 18 => ⟨S8x2048x1, .f32⟩
  | 19 => ⟨S8x2048x1, .f32⟩
  | 20 => ⟨S_, .f32⟩
  | 21 => ⟨S8x2048x1, .f32⟩
  | 22 => ⟨S8x2048x1, .f32⟩
  | 23 => ⟨S8x2048x1, .f32⟩
  | 24 => ⟨S8x2048x1024, .f32⟩
  | 25 => ⟨S8x2048x1024, .f32⟩
  | 26 => ⟨S1x1x1024, .f32⟩
  | 27 => ⟨S8x2048x1024, .f32⟩
  | 28 => ⟨S8x2048x1024, .f32⟩
  | 29 => ⟨S8x1x1024, .f32⟩
  | 30 => ⟨S8x1024, .f32⟩
  | 31 => ⟨S8x1x1024, .f32⟩
  | 32 => ⟨S_, .f32⟩
  | 33 => ⟨S8x1x1024, .f32⟩
  | 34 => ⟨S8x1x1024, .f32⟩
  | 35 => ⟨S8x2048x1024, .f32⟩
  | 36 => ⟨S8x2048x1024, .f32⟩
  | 37 => ⟨S8x1x1024, .f32⟩
  | 38 => ⟨S8x1024, .f32⟩
  | 39 => ⟨S8x1x1024, .f32⟩
  | 40 => ⟨S8x2048x1024, .f32⟩
  | 41 => ⟨S8x2048x1024, .f32⟩
  | 42 => ⟨S1x1024, .f32⟩
  | 43 => ⟨S1024, .f32⟩
  | 44 => ⟨S8x256x1024, .f32⟩
  | 45 => ⟨S_, .f32⟩
  | 46 => ⟨S8x256, .f32⟩
  | 47 => ⟨S8x256x1, .f32⟩
  | 48 => ⟨S_, .f32⟩
  | 49 => ⟨S8x256x1, .f32⟩
  | 50 => ⟨S8x256x1, .f32⟩
  | 51 => ⟨S_, .f32⟩
  | 52 => ⟨S8x256x1, .f32⟩
  | 53 => ⟨S8x256x1, .f32⟩
  | 54 => ⟨S8x256x1, .f32⟩
  | 55 => ⟨S8x256x1024, .f32⟩
  | 56 => ⟨S8x256x1024, .f32⟩
  | 57 => ⟨S1x1x1024, .f32⟩
  | 58 => ⟨S8x256x1024, .f32⟩
  | 59 => ⟨S8x256x1024, .f32⟩
  | 60 => ⟨S1x1024, .f32⟩
  | 61 => ⟨S1024, .f32⟩
  | 62 => ⟨S_, .f32⟩
  | 63 => ⟨S1024, .f32⟩
  | 64 => ⟨S1024, .f32⟩
  | 65 => ⟨S1x1x1024, .f32⟩
  | 66 => ⟨S8x256x1024, .f32⟩
  | 67 => ⟨S8x256x1024, .f32⟩
  | 68 => ⟨S1x1024, .f32⟩
  | 69 => ⟨S1024, .f32⟩
  | 70 => ⟨S1x1x1024, .f32⟩
  | 71 => ⟨S8x256x1024, .f32⟩
  | 72 => ⟨S8x256x1024, .f32⟩
  | 73 => ⟨S8x2304x1024, .f32⟩
  | 74 => ⟨S1x1024x2832, .f32⟩
  | 75 => ⟨S1024x2832, .f32⟩
  | 76 => ⟨S8x2304x2832, .f32⟩
  | 77 => ⟨S8x2304x512, .f32⟩
  | 78 => ⟨S1x64, .f32⟩
  | 79 => ⟨S64, .f32⟩
  | 80 => ⟨S8x2304x8x64, .f32⟩
  | 81 => ⟨S8x2304x8x64, .f32⟩
  | 82 => ⟨S_, .f32⟩
  | 83 => ⟨S8x2304x8, .f32⟩
  | 84 => ⟨S8x2304x8x1, .f32⟩
  | 85 => ⟨S_, .f32⟩
  | 86 => ⟨S8x2304x8x1, .f32⟩
  | 87 => ⟨S8x2304x8x1, .f32⟩
  | 88 => ⟨S_, .f32⟩
  | 89 => ⟨S8x2304x8x1, .f32⟩
  | 90 => ⟨S8x2304x8x1, .f32⟩
  | 91 => ⟨S8x2304x8x1, .f32⟩
  | 92 => ⟨S8x2304x8x64, .f32⟩
  | 93 => ⟨S8x2304x8x64, .f32⟩
  | 94 => ⟨S1x1x1x64, .f32⟩
  | 95 => ⟨S8x2304x8x64, .f32⟩
  | 96 => ⟨S8x2304x8x64, .f32⟩
  | 97 => ⟨S8x2048x8x64, .f32⟩
  | 98 => ⟨S8x2048x8x16, .f32⟩
  | 99 => ⟨S8x2048x8x16, .f32⟩
  | 100 => ⟨S8x2048x8x16, .f32⟩
  | 101 => ⟨S8x2048x8x16, .f32⟩
  | 102 => ⟨S2048x1x16, .f32⟩
  | 103 => ⟨S2048x16, .f32⟩
  | 104 => ⟨S1x2048x1x16, .f32⟩
  | 105 => ⟨S2048x1x16, .f32⟩
  | 106 => ⟨S2048x16, .f32⟩
  | 107 => ⟨S1x2048x1x16, .f32⟩
  | 108 => ⟨S2048x1x16, .f32⟩
  | 109 => ⟨S2048x16, .f32⟩
  | 110 => ⟨S1x2048x1x16, .f32⟩
  | 111 => ⟨S2048x1x16, .f32⟩
  | 112 => ⟨S2048x16, .f32⟩
  | 113 => ⟨S1x2048x1x16, .f32⟩
  | 114 => ⟨S8x2048x8x16, .f32⟩
  | 115 => ⟨S8x2048x8x16, .f32⟩
  | 116 => ⟨S8x2048x8x16, .f32⟩
  | 117 => ⟨S8x2048x8x16, .f32⟩
  | 118 => ⟨S8x2048x8x16, .f32⟩
  | 119 => ⟨S8x2048x8x16, .f32⟩
  | 120 => ⟨S8x2048x8x16, .f32⟩
  | 121 => ⟨S8x2048x8x16, .f32⟩
  | 122 => ⟨S8x2048x8x16, .f32⟩
  | 123 => ⟨S8x2048x8x16, .f32⟩
  | 124 => ⟨S8x2048x8x16, .f32⟩
  | 125 => ⟨S8x2048x8x16, .f32⟩
  | 126 => ⟨S8x2048x8x16, .f32⟩
  | 127 => ⟨S8x2048x8x16, .f32⟩
  | _ => ⟨S8x2048x1024, .f32⟩

abbrev hbmTy0_1 (i : Nat) : BufTy := match i % 128 with
  | 0 => ⟨S8x2048x8x16, .f32⟩
  | 1 => ⟨S8x2048x8x16, .f32⟩
  | 2 => ⟨S8x2048x8x16, .f32⟩
  | 3 => ⟨S8x2048x8x16, .f32⟩
  | 4 => ⟨S8x2048x8x16, .f32⟩
  | 5 => ⟨S8x2048x8x16, .f32⟩
  | 6 => ⟨S8x2048x8x64, .f32⟩
  | 7 => ⟨S8x256x8x64, .f32⟩
  | 8 => ⟨S8x2304x8x64, .f32⟩
  | 9 => ⟨S8x2304x512, .f32⟩
  | 10 => ⟨S_, .f32⟩
  | 11 => ⟨S8x2304x512, .f32⟩
  | 12 => ⟨S8x2304x512, .f32⟩
  | 13 => ⟨S8x2304x128, .f32⟩
  | 14 => ⟨S1x64, .f32⟩
  | 15 => ⟨S64, .f32⟩
  | 16 => ⟨S8x2304x2x64, .f32⟩
  | 17 => ⟨S8x2304x2x64, .f32⟩
  | 18 => ⟨S_, .f32⟩
  | 19 => ⟨S8x2304x2, .f32⟩
  | 20 => ⟨S8x2304x2x1, .f32⟩
  | 21 => ⟨S_, .f32⟩
  | 22 => ⟨S8x2304x2x1, .f32⟩
  | 23 => ⟨S8x2304x2x1, .f32⟩
  | 24 => ⟨S_, .f32⟩
  | 25 => ⟨S8x2304x2x1, .f32⟩
  | 26 => ⟨S8x2304x2x1, .f32⟩
  | 27 => ⟨S8x2304x2x1, .f32⟩
  | 28 => ⟨S8x2304x2x64, .f32⟩
  | 29 => ⟨S8x2304x2x64, .f32⟩
  | 30 => ⟨S1x1x1x64, .f32⟩
  | 31 => ⟨S8x2304x2x64, .f32⟩
  | 32 => ⟨S8x2304x2x64, .f32⟩
  | 33 => ⟨S8x2048x2x64, .f32⟩
  | 34 => ⟨S8x2048x2x16, .f32⟩
  | 35 => ⟨S8x2048x2x16, .f32⟩
  | 36 => ⟨S8x2048x2x16, .f32⟩
  | 37 => ⟨S8x2048x2x16, .f32⟩
  | 38 => ⟨S2048x1x16, .f32⟩
  | 39 => ⟨S2048x16, .f32⟩
  | 40 => ⟨S1x2048x1x16, .f32⟩
  | 41 => ⟨S2048x1x16, .f32⟩
  | 42 => ⟨S2048x16, .f32⟩
  | 43 => ⟨S1x2048x1x16, .f32⟩
  | 44 => ⟨S2048x1x16, .f32⟩
  | 45 => ⟨S2048x16, .f32⟩
  | 46 => ⟨S1x2048x1x16, .f32⟩
  | 47 => ⟨S2048x1x16, .f32⟩
  | 48 => ⟨S2048x16, .f32⟩
  | 49 => ⟨S1x2048x1x16, .f32⟩
  | 50 => ⟨S8x2048x2x16, .f32⟩
  | 51 => ⟨S8x2048x2x16, .f32⟩
  | 52 => ⟨S8x2048x2x16, .f32⟩
  | 53 => ⟨S8x2048x2x16, .f32⟩
  | 54 => ⟨S8x2048x2x16, .f32⟩
  | 55 => ⟨S8x2048x2x16, .f32⟩
  | 56 => ⟨S8x2048x2x16, .f32⟩
  | 57 => ⟨S8x2048x2x16, .f32⟩
  | 58 => ⟨S8x2048x2x16, .f32⟩
  | 59 => ⟨S8x2048x2x16, .f32⟩
  | 60 => ⟨S8x2048x2x16, .f32⟩
  | 61 => ⟨S8x2048x2x16, .f32⟩
  | 62 => ⟨S8x2048x2x16, .f32⟩
  | 63 => ⟨S8x2048x2x16, .f32⟩
  | 64 => ⟨S8x2048x2x16, .f32⟩
  | 65 => ⟨S8x2048x2x16, .f32⟩
  | 66 => ⟨S8x2048x2x16, .f32⟩
  | 67 => ⟨S8x2048x2x16, .f32⟩
  | 68 => ⟨S8x2048x2x16, .f32⟩
  | 69 => ⟨S8x2048x2x16, .f32⟩
  | 70 => ⟨S8x2048x2x64, .f32⟩
  | 71 => ⟨S8x256x2x64, .f32⟩
  | 72 => ⟨S8x2304x2x64, .f32⟩
  | 73 => ⟨S8x2304x128, .f32⟩
  | 74 => ⟨S8x2304x128, .f32⟩
  | 75 => ⟨S8x2304x2x64, .f32⟩
  | 76 => ⟨S_, .f32⟩
  | 77 => ⟨S8x2304x2x64, .f32⟩
  | 78 => ⟨S8x2304x2x128, .f32⟩
  | 79 => ⟨S8x2304x256, .f32⟩
  | 80 => ⟨S8x2304x1024, .f32⟩
  | 81 => ⟨S8x2304x512, .f32⟩
  | 82 => ⟨S8x2304x512, .f32⟩
  | 83 => ⟨S8x512x2304, .f32⟩
  | 84 => ⟨S8x2304x512, .bf16⟩
  | 85 => ⟨S8x2304x128, .bf16⟩
  | 86 => ⟨S8x2304x256, .bf16⟩
  | 87 => ⟨S8x2304x1024, .bf16⟩
  | 88 => ⟨S8x512x2304, .bf16⟩
  | 89 => ⟨S8x2304x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_7 : Ref sig .tc := ⟨.hbm, 82, rfl⟩
abbrev main_v63 : Ref sig .tc := ⟨.hbm, 83, rfl⟩
abbrev main_v64 : Ref sig .tc := ⟨.hbm, 84, rfl⟩
abbrev main_cst_8 : Ref sig .tc := ⟨.hbm, 85, rfl⟩
abbrev main_v65 : Ref sig .tc := ⟨.hbm, 86, rfl⟩
abbrev main_v66 : Ref sig .tc := ⟨.hbm, 87, rfl⟩
abbrev main_cst_9 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_cst_10 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_11 : Ref sig .tc := ⟨.hbm, 146, rfl⟩
abbrev main_v123 : Ref sig .tc := ⟨.hbm, 147, rfl⟩
abbrev main_v124 : Ref sig .tc := ⟨.hbm, 148, rfl⟩
abbrev main_cst_12 : Ref sig .tc := ⟨.hbm, 149, rfl⟩
abbrev main_v125 : Ref sig .tc := ⟨.hbm, 150, rfl⟩
abbrev main_v126 : Ref sig .tc := ⟨.hbm, 151, rfl⟩
abbrev main_cst_13 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_cst_14 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩

abbrev nD : Nat := 1
abbrev τ : Topo := Topo.v7x

variable {F : FTy → Type} [FloatOps F]
-- ==== Kernel5.lean ====
abbrev S8x2304x1024 : Shape := ⟨3, ![8, 2304, 1024]⟩
abbrev S8x6x1024 : Shape := ⟨3, ![8, 6, 1024]⟩
abbrev S6x1024 : Shape := ⟨2, ![6, 1024]⟩
abbrev S4x1024 : Shape := ⟨2, ![4, 1024]⟩
abbrev S2x1024x1024 : Shape := ⟨3, ![2, 1024, 1024]⟩
abbrev S1x1x6x1024 : Shape := ⟨4, ![1, 1, 6, 1024]⟩
abbrev S8x1x6x1024 : Shape := ⟨4, ![8, 1, 6, 1024]⟩
abbrev S8x2x6x1024 : Shape := ⟨4, ![8, 2, 6, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S8x2048x1024 : Shape := ⟨3, ![8, 2048, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 8
  | .smem => 0
  | _ => 0

abbrev bufTy : (tb : Table) → Fin (tcTables nBuf tb) → BufTy
  | .hbm, ⟨0, _⟩ => ⟨S8x2304x1024, .f32⟩
  | .hbm, ⟨1, _⟩ => ⟨S8x6x1024, .f32⟩
  | .hbm, ⟨2, _⟩ => ⟨S6x1024, .f32⟩
  | .hbm, ⟨3, _⟩ => ⟨S4x1024, .f32⟩
  | .hbm, ⟨4, _⟩ => ⟨S2x1024x1024, .f32⟩
  | .hbm, ⟨5, _⟩ => ⟨S1x1x6x1024, .f32⟩
  | .hbm, ⟨6, _⟩ => ⟨S8x1x6x1024, .f32⟩
  | .hbm, ⟨7, _⟩ => ⟨S8x1x6x1024, .f32⟩
  | .hbm, ⟨8, _⟩ => ⟨S8x2x6x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024x1024, .f32⟩
  | .hbm, ⟨13, _⟩ => ⟨S1024x1024, .f32⟩
  | .hbm, ⟨14, _⟩ => ⟨S1024x1024, .bf16⟩
  | .hbm, ⟨15, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x1024, .bf16⟩
  | .local _ .vmem, ⟨6, _⟩ => ⟨S1x512x1024, .f32⟩
  | .local _ .vmem, ⟨7, _⟩ => ⟨S1x512x1024, .f32⟩
  | _, _ => ⟨S8x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8x2304x1024 : Shape := ⟨3, ![8, 2304, 1024]⟩
abbrev S8x6x1024 : Shape := ⟨3, ![8, 6, 1024]⟩
abbrev S6x1024 : Shape := ⟨2, ![6, 1024]⟩
abbrev S4x1024 : Shape := ⟨2, ![4, 1024]⟩
abbrev S2x1024x1024 : Shape := ⟨3, ![2, 1024, 1024]⟩
abbrev S8x2048x1024 : Shape := ⟨3, ![8, 2048, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x1024 : Shape := ⟨2, ![8, 1024]⟩
abbrev S1x1024x1024 : Shape := ⟨3, ![1, 1024, 1024]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x2304x1024, .f32⟩
  | .hbm, ⟨1, _⟩ => ⟨S8x6x1024, .f32⟩
  | .hbm, ⟨2, _⟩ => ⟨S6x1024, .f32⟩
  | .hbm, ⟨3, _⟩ => ⟨S4x1024, .f32⟩
  | .hbm, ⟨4, _⟩ => ⟨S2x1024x1024, .f32⟩
  | .hbm, ⟨5, _⟩ => ⟨S8x2048x1024, .f32⟩
  | .hbm, ⟨6, _⟩ => ⟨S1x1024, .f32⟩
  | .hbm, ⟨7, _⟩ => ⟨S1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x1x1024, .f32⟩
  | .hbm, ⟨25, _⟩ => ⟨S8x1024, .f32⟩
  | .hbm, ⟨26, _⟩ => ⟨S8x1x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x1x1024, .f32⟩
  | .hbm, ⟨33, _⟩ => ⟨S8x1024, .f32⟩
  | .hbm, ⟨34, _⟩ => ⟨S8x1x1024, .f32⟩
  | .hbm, ⟨35, _⟩ => ⟨S8x2048x1024, .f32⟩
  | .hbm, ⟨36, _⟩ => ⟨S8x2048x1024, .f32⟩
  | .hbm, ⟨37, _⟩ => ⟨S1x1024x1024, .f32⟩
  | .hbm, ⟨38, _⟩ => ⟨S1024x1024, .f32⟩
  | .hbm, ⟨39, _⟩ => ⟨S8x2048x1024, .f32⟩
  | _, _ => ⟨S8x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel6.lean ====
abbrev S8x2048x1024 : Shape := ⟨3, ![8, 2048, 1024]⟩
abbrev S8x256x1024 : Shape := ⟨3, ![8, 256, 1024]⟩
abbrev S8x6x1024 : Shape := ⟨3, ![8, 6, 1024]⟩
abbrev S6x1024 : Shape := ⟨2, ![6, 1024]⟩
abbrev S8x2304x512 : Shape := ⟨3, ![8, 2304, 512]⟩
abbrev S8x512x2304 : Shape := ⟨3, ![8, 512, 2304]⟩
abbrev S2x512 : Shape := ⟨2, ![2, 512]⟩
abbrev S2x1024x1024 : Shape := ⟨3, ![2, 1024, 1024]⟩
abbrev S1x1x6x1024 : Shape := ⟨4, ![1, 1, 6, 1024]⟩
abbrev S8x1x6x1024 : Shape := ⟨4, ![8, 1, 6, 1024]⟩
abbrev S8x2x6x1024 : Shape := ⟨4, ![8, 2, 6, 1024]⟩
abbrev S8x2304x1024 : Shape := ⟨3, ![8, 2304, 1024]⟩
abbrev S1x512 : Shape := ⟨2, ![1, 512]⟩
abbrev S512 : Shape := ⟨1, ![512]⟩
abbrev S1x1024x1024 : Shape := ⟨3, ![1, 1024, 1024]⟩
abbrev S1024x1024 : Shape := ⟨2, ![1024, 1024]⟩
abbrev S1x256x1024 : Shape := ⟨3, ![1, 256, 1024]⟩
abbrev S1x256x512 : Shape := ⟨3, ![1, 256, 512]⟩
abbrev S1x512x256 : Shape := ⟨3, ![1, 512, 256]⟩
abbrev S512x256 : Shape := ⟨2, ![512, 256]⟩
abbrev S256x512 : Shape := ⟨2, ![256, 512]⟩
abbrev S512x1024 : Shape := ⟨2, ![512, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S128x1024 : Shape := ⟨2, ![128, 1024]⟩
abbrev S1x1024 : Shape := ⟨2, ![1, 1024]⟩

abbrev nBuf : Space → Nat
  | .hbm => 22
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x6x1024, .f32⟩
  | .hbm, ⟨3, _⟩ => ⟨S6x1024, .f32⟩
  | .hbm, ⟨4, _⟩ => ⟨S8x2304x512, .bf16⟩
  | .hbm, ⟨5, _⟩ => ⟨S8x512x2304, .bf16⟩
  | .hbm, ⟨6, _⟩ => ⟨S8x512x2304, .bf16⟩
  | .hbm, ⟨7, _⟩ => ⟨S8x2304x512, .bf16⟩
  | .hbm, ⟨8, _⟩ => ⟨S2x512, .f32⟩
  | .hbm, ⟨9, _⟩ => ⟨S2x1024x1024, .f32⟩
  | .hbm, ⟨10, _⟩ => ⟨S1x1x6x1024, .f32⟩
  | .hbm, ⟨11, _⟩ => ⟨S8x1x6x1024, .f32⟩
  | .hbm, ⟨12, _⟩ => ⟨S8x1x6x1024, .f32⟩
  | .hbm, ⟨13, _⟩ => ⟨S8x2x6x1024, .f32⟩
  | .hbm, ⟨14, _⟩ => ⟨S8x2304x1024, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S1x1024x1024, .f32⟩
  | .hbm, ⟨19, _⟩ => ⟨S1024x1024, .f32⟩
  | .hbm, ⟨20, _⟩ => ⟨S1024x1024, .bf16⟩
  | .hbm, ⟨21, _⟩ => ⟨S8x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x256x512, .bf16⟩
  | .local _ .vmem, ⟨5, _⟩ => ⟨S1x256x512, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x256x512, .bf16⟩
  | .local _ .vmem, ⟨11, _⟩ => ⟨S1x256x512, .bf16⟩
  | .local _ .vmem, ⟨12, _⟩ => ⟨S1x512, .f32⟩
  | .local _ .vmem, ⟨13, _⟩ => ⟨S1024x1024, .bf16⟩
  | .local _ .vmem, ⟨14, _⟩ => ⟨S1x256x1024, .f32⟩
  | .local _ .vmem, ⟨15, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let v1 : BitVec 32 := Scalar.extui v0
  let c0_i32 : BitVec 32 := 0#32
  let c0_i32_0 : BitVec 32 := 0#32
  let c0_i32_1 : BitVec 32 := 0#32
  ![arg0.toNat, v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S8x2048x1024 : Shape := ⟨3, ![8, 2048, 1024]⟩
abbrev S8x256x1024 : Shape := ⟨3, ![8, 256, 1024]⟩
abbrev S8x6x1024 : Shape := ⟨3, ![8, 6, 1024]⟩
abbrev S6x1024 : Shape := ⟨2, ![6, 1024]⟩
abbrev S8x2304x512 : Shape := ⟨3, ![8, 2304, 512]⟩
abbrev S8x512x2304 : Shape := ⟨3, ![8, 512, 2304]⟩
abbrev S2x512 : Shape := ⟨2, ![2, 512]⟩
abbrev S2x1024x1024 : Shape := ⟨3, ![2, 1024, 1024]⟩
abbrev S8x2304x4x128 : Shape := ⟨4, ![8, 2304, 4, 128]⟩
abbrev S1x512 : Shape := ⟨2, ![1, 512]⟩
abbrev S512 : Shape := ⟨1, ![512]⟩
abbrev S4x128 : Shape := ⟨2, ![4, 128]⟩
abbrev S_ : Shape := ⟨0, ![]⟩
abbrev S8x2304x4 : Shape := ⟨3, ![8, 2304, 4]⟩
abbrev S8x2304x4x1 : Shape := ⟨4, ![8, 2304, 4, 1]⟩
abbrev S1x1x4x128 : Shape := ⟨4, ![1, 1, 4, 128]⟩
abbrev S8x2304x1024 : Shape := ⟨3, ![8, 2304, 1024]⟩
abbrev S1x1024x1024 : Shape := ⟨3, ![1, 1024, 1024]⟩
abbrev S1024x1024 : Shape := ⟨2, ![1024, 1024]⟩
abbrev S8x1x1024 : Shape := ⟨3, ![8, 1, 1024]⟩
abbrev S8x1024 : Shape := ⟨2, ![8, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x6x1024, .f32⟩
  | .hbm, ⟨3, _⟩ => ⟨S6x1024, .f32⟩
  | .hbm, ⟨4, _⟩ => ⟨S8x2304x512, .bf16⟩
  | .hbm, ⟨5, _⟩ => ⟨S8x512x2304, .bf16⟩
  | .hbm, ⟨6, _⟩ => ⟨S8x512x2304, .bf16⟩
  | .hbm, ⟨7, _⟩ => ⟨S8x2304x512, .bf16⟩
  | .hbm, ⟨8, _⟩ => ⟨S2x512, .f32⟩
  | .hbm, ⟨9, _⟩ => ⟨S2x1024x1024, .f32⟩
  | .hbm, ⟨10, _⟩ => ⟨S8x2304x512, .f32⟩
  | .hbm, ⟨11, _⟩ => ⟨S8x512x2304, .f32⟩
  | .hbm, ⟨12, _⟩ => ⟨S8x512x2304, .f32⟩
  | .hbm, ⟨13, _⟩ => ⟨S8x2304x512, .f32⟩
  | .hbm, ⟨14, _⟩ => ⟨S8x512x2304, .f32⟩
  | .hbm, ⟨15, _⟩ => ⟨S8x2304x512, .f32⟩
  | .hbm, ⟨16, _⟩ => ⟨S8x2304x4x128, .f32⟩
  | .hbm, ⟨17, _⟩ => ⟨S1x512, .f32⟩
  | .hbm, ⟨18, _⟩ => ⟨S512, .f32⟩
  | .hbm, ⟨19, _⟩ => ⟨S4x128, .f32⟩
  | .hbm, ⟨20, _⟩ => ⟨S8x2304x4x128, .f32⟩
  | .hbm, ⟨21, _⟩ => ⟨S_, .f32⟩
  | .hbm, ⟨22, _⟩ => ⟨S8x2304x4, .f32⟩
  | .hbm, ⟨23, _⟩ => ⟨S8x2304x4x1, .f32⟩
  | .hbm, ⟨24, _⟩ => ⟨S_, .f32⟩
  | .hbm, ⟨25, _⟩ => ⟨S8x2304x4x1, .f32⟩
  | .hbm, ⟨26, _⟩ => ⟨S8x2304x4x1, .f32⟩
  | .hbm, ⟨27, _⟩ => ⟨S_, .f32⟩
  | .hbm, ⟨28, _⟩ => ⟨S8x2304x4x1, .f32⟩
  | .hbm, ⟨29, _⟩ => ⟨S8x2304x4x1, .f32⟩
  | .hbm, ⟨30, _⟩ => ⟨S8x2304x4x1, .f32⟩
  | .hbm, ⟨31, _⟩ => ⟨S8x2304x4x128, .f32⟩
  | .hbm, ⟨32, _⟩ => ⟨S8x2304x4x128, .f32⟩
  | .hbm, ⟨33, _⟩ => ⟨S1x1x4x128, .f32⟩
  | .hbm, ⟨34, _⟩ => ⟨S8x2304x4x128, .f32⟩
  | .hbm, ⟨35, _⟩ => ⟨S8x2304x4x128, .f32⟩
  | .hbm, ⟨36, _⟩ => ⟨S8x2304x512, .f32⟩
  | .hbm, ⟨37, _⟩ => ⟨S8x2304x512, .f32⟩
  | .hbm, ⟨38, _⟩ => ⟨S8x2304x512, .f32⟩
  | .hbm, ⟨39, _⟩ => ⟨S_, .f32⟩
  | .hbm, ⟨40, _⟩ => ⟨S8x2304x512, .f32⟩
  | .hbm, ⟨41, _⟩ => ⟨S8x2304x512, .f32⟩
  | .hbm, ⟨42, _⟩ => ⟨S_, .f32⟩
  | .hbm, ⟨43, _⟩ => ⟨S8x2304x512, .f32⟩
  | .hbm, ⟨44, _⟩ => ⟨S8x2304x512, .f32⟩
  | .hbm, ⟨45, _⟩ => ⟨S8x2304x512, .f32⟩
  | .hbm, ⟨46, _⟩ => ⟨S8x2304x1024, .f32⟩
  | .hbm, ⟨47, _⟩ => ⟨S1x1024x1024, .f32⟩
  | .hbm, ⟨48, _⟩ => ⟨S1024x1024, .f32⟩
  | .hbm, ⟨49, _⟩ => ⟨S8x2304x1024, .f32⟩
  | .hbm, ⟨50, _⟩ => ⟨S8x1x1024, .f32⟩
  | .hbm, ⟨51, _⟩ => ⟨S8x1024, .f32⟩
  | .hbm, ⟨52, _⟩ => ⟨S8x1x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S1x1024, .f32⟩
  | .hbm, ⟨58, _⟩ => ⟨S1024, .f32⟩
  | .hbm, ⟨59, _⟩ => ⟨S8x256x1024, .f32⟩
  | .hbm, ⟨60, _⟩ => ⟨S1x1x1024, .f32⟩
  | .hbm, ⟨61, _⟩ => ⟨S8x256x1024, .f32⟩
  | .hbm, ⟨62, _⟩ => ⟨S8x256x1024, .f32⟩
  | .hbm, ⟨63, _⟩ => ⟨S8x256x1024, .f32⟩
  | .hbm, ⟨64, _⟩ => ⟨S8x2304x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Proof.Attn.Softmax.lean ====
/- One row of the attention as plain sums of extended reals: how the reference writes it (every weight divided by the
   row's sum, then mixed with the values) and how the kernel writes it (the weights mixed with the values and with ones,
   then one division). On finite scores the two are equal. -/
module

public import Idealize.ShloMosaic.Lib.Pointwise

@[expose] public section

noncomputable section

namespace Cert.Attn

open Idealize.ShloMosaic

/-- The scale of the scores, 1/8, as both programs write it. -/
abbrev scale : EReal := Ideal.ofBits .f32 0x3E000000#32

/-- The floor both programs start a maximum from. -/
abbrev low : EReal := Ideal.ofBits .f32 0xFF800000#32

/-- The maximum of a row of scores. -/
def rowMax {n : ℕ} (s : Fin n → EReal) : EReal := Finset.univ.fold max low s

/-- One query against one key, scaled after the product. -/
def score (q k : Fin 64 → EReal) : EReal := (∑ d, k d * q d) * scale

/-- One query against one key, the query scaled before the product. -/
def scoreK (q k : Fin 64 → EReal) : EReal := ∑ d, q d * scale * k d

/-- One weight of the softmax of a row of scores. -/
def weight {n : ℕ} (s : Fin n → EReal) (t : Fin n) : EReal :=
  Ideal.div (Ideal.exp (s t - rowMax s)) (∑ u, Ideal.exp (s u - rowMax s))

/-- One entry of the attention: the values mixed by the softmax of the scores. -/
def attend {n : ℕ} (q : Fin 64 → EReal) (k : Fin n → Fin 64 → EReal) (v : Fin n → EReal) : EReal :=
  ∑ t, weight (fun u => score q (k u)) t * v t

/-- One entry as the kernel computes it from a row of scores: the mixed values over the mixed ones. -/
def mixK {n : ℕ} (s : Fin n → EReal) (v : Fin n → EReal) : EReal :=
  Ideal.div (∑ t, Ideal.exp (s t - rowMax s) * v t) (∑ t, Ideal.exp (s t - rowMax s) * 1)

/-- A finite value is a real one. -/
def IsReal (x : EReal) : Prop := ∃ r : ℝ, x = (r : EReal)

/-- A product of real values is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real values is real. -/
theorem IsReal.sum {ι : Type} (S : Finset ι) (f : ι → EReal) (hf : ∀ i, IsReal (f i)) : IsReal (∑ i ∈ S, f i) := by
  classical
  induction S using Finset.induction_on with
  | empty => exact ⟨0, by simp⟩
  | insert i S hi ih =>
    obtain ⟨a, ha⟩ := hf i
    obtain ⟨b, hb⟩ := ih
    exact ⟨a + b, by rw [Finset.sum_insert hi, ha, hb, EReal.coe_add]⟩

/-- A finite sum of real numbers, read as an extended real, is the sum of their readings. -/
theorem coe_sum {ι : Type} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- The floor of a maximum is below everything. -/
theorem low_eq : low = ⊥ := by
  show Ideal.ieee 8 23 (0xFF800000#32) = ⊥
  unfold Ideal.ieee
  rw [if_pos (by decide), if_pos (by decide), if_pos (by decide)]

/-- The scale is a finite value. -/
theorem scale_fin : IsReal scale := by
  show IsReal (Ideal.ieee 8 23 (0x3E000000#32))
  unfold Ideal.ieee
  rw [if_neg (by decide), if_neg (by decide)]
  exact ⟨_, rfl⟩

/-- The maximum of a nonempty row of finite scores is finite. -/
theorem rowMax_fin {n : ℕ} (hn : 0 < n) (s : Fin n → EReal) (hs : ∀ t, IsReal (s t)) : IsReal (rowMax s) := by
  have h : ∀ S : Finset (Fin n), S.Nonempty → IsReal (S.fold max low s) := by
    intro S hS
    induction hS using Finset.Nonempty.cons_induction with
    | singleton a => rw [Finset.fold_singleton, low_eq, max_bot_right]; exact hs a
    | cons a S ha _ ih =>
      rw [Finset.fold_cons]
      rcases le_total (s a) (S.fold max low s) with h | h
      · rw [max_eq_right h]; exact ih
      · rw [max_eq_left h]; exact hs a
  exact h _ ⟨⟨0, hn⟩, Finset.mem_univ _⟩

/-- Scaling the query before the product or the score after it is the same on finite values. -/
theorem scoreK_eq (q k : Fin 64 → EReal) (hq : ∀ d, IsReal (q d)) (hk : ∀ d, IsReal (k d)) : scoreK q k = score q k := by
  choose a ha using hq
  choose b hb using hk
  obtain ⟨c, hc⟩ := scale_fin
  unfold scoreK score
  have e1 : (∑ d, q d * scale * k d) = ((∑ d, a d * c * b d : ℝ) : EReal) := by
    rw [coe_sum]
    exact Finset.sum_congr rfl fun d _ => by rw [ha, hb, hc, EReal.coe_mul, EReal.coe_mul]
  have e2 : (∑ d, k d * q d) = ((∑ d, b d * a d : ℝ) : EReal) := by
    rw [coe_sum]
    exact Finset.sum_congr rfl fun d _ => by rw [ha, hb, EReal.coe_mul]
  rw [e1, e2, hc, ← EReal.coe_mul, Finset.sum_mul]
  congr 1
  exact Finset.sum_congr rfl fun d _ => by ring

/-- The score of real queries and keys is real. -/
theorem score_fin (q k : Fin 64 → EReal) (hq : ∀ d, IsReal (q d)) (hk : ∀ d, IsReal (k d)) : IsReal (score q k) :=
  (IsReal.sum _ _ fun d => (hk d).mul (hq d)).mul scale_fin

/-- A finite factor goes into a sum of any extended reals. -/
theorem sum_mul_coe {ι : Type} (S : Finset ι) (f : ι → EReal) (c : ℝ) (hc : 0 ≤ c) :
    (∑ i ∈ S, f i) * (c : EReal) = ∑ i ∈ S, f i * (c : EReal) := by
  classical
  induction S using Finset.induction_on with
  | empty => simp
  | insert i S hi ih =>
    rw [Finset.sum_insert hi, Finset.sum_insert hi, ← ih]
    exact EReal.right_distrib_of_nonneg_of_ne_top (EReal.coe_nonneg.mpr hc) (EReal.coe_ne_top c) _ _

/-- On finite scores one division after the mixing is a division of every weight before it, whatever the values. -/
theorem mixK_eq {n : ℕ} (hn : 0 < n) (s : Fin n → EReal) (hs : ∀ t, IsReal (s t)) (v : Fin n → EReal) :
    mixK s v = ∑ t, weight s t * v t := by
  obtain ⟨M, hM⟩ := rowMax_fin hn s hs
  choose a ha using hs
  have he : ∀ t, Ideal.exp (s t - rowMax s) = ((Real.exp (a t - M) : ℝ) : EReal) := fun t => by
    rw [ha t, hM, ← EReal.coe_sub]; rfl
  have hS : (∑ t, Ideal.exp (s t - rowMax s)) = ((∑ t, Real.exp (a t - M) : ℝ) : EReal) := by
    rw [coe_sum]; exact Finset.sum_congr rfl fun t _ => he t
  have hpos : 0 < ∑ t, Real.exp (a t - M) :=
    Finset.sum_pos (fun t _ => Real.exp_pos _) ⟨⟨0, hn⟩, Finset.mem_univ _⟩
  unfold mixK weight
  simp only [mul_one]
  rw [hS, Ideal.div_coe hpos.ne', sum_mul_coe _ _ _ (by positivity)]
  refine Finset.sum_congr rfl fun t _ => ?_
  rw [Ideal.div_coe hpos.ne', mul_right_comm]

/-- The kernel's row of the attention is the reference's, on finite queries and keys. -/
theorem attendK_eq {n : ℕ} (hn : 0 < n) (q : Fin 64 → EReal) (k : Fin n → Fin 64 → EReal) (v : Fin n → EReal)
    (hq : ∀ d, IsReal (q d)) (hk : ∀ t d, IsReal (k t d)) :
    mixK (fun t => scoreK q (k t)) v = attend q k v := by
  have e : (fun t => scoreK q (k t)) = fun t => score q (k t) := funext fun t => scoreK_eq q (k t) hq (hk t)
  rw [e]
  exact mixK_eq hn _ (fun t => score_fin q (k t) hq (hk t)) v

end Cert.Attn

end
-- ==== Proof.Attn.Body.lean ====
/- What one grid point of the attention stores: its block of the result read at a row and a lane. -/
module

public import proofs.«01_k».proof.Proof.Gen.KernelIdeal.Value
public import proofs.«01_k».proof.Proof.Attn.Softmax
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The values mixed by a row of scores over the second operand mixed by the same scores. -/
def mix2 {n : ℕ} (s v w : Fin n → EReal) : EReal :=
  Ideal.div (∑ t, Ideal.exp (s t - Attn.rowMax s) * v t) (∑ t, Ideal.exp (s t - Attn.rowMax s) * w t)

/-- Two mixes agree when their scores, values and weights agree. -/
theorem mix2_congr {n : ℕ} {s s' v v' w w' : Fin n → EReal} (hs : ∀ t, s t = s' t)
    (hv : ∀ t, v t = v' t) (hw : ∀ t, w t = w' t) : mix2 s v w = mix2 s' v' w' := by
  obtain rfl : s = s' := funext hs
  obtain rfl : v = v' := funext hv
  obtain rfl : w = w' := funext hw
  rfl

/-- Two positions of one row agree when their lanes do. -/
theorem ix3_lane {a b n : ℕ} (i : Fin a) (r : Fin b) {l l' : Fin n} (h : l.val = l'.val) :
    ix3 i r l = ix3 i r l' := by rw [Fin.ext h]

/-- An entry of a latent tile's block, from the tile's operands. -/
def latBlk (x0 : Vec Ideal S1x256x512 .bf16) (x1 : Vec Ideal S1x2304x128 .bf16) (x2 : Vec Ideal S1x2304x256 .bf16) (r : Fin 256) (l : Fin 512) : EReal :=
  mix2 (fun t : Fin 2304 => ∑ x : Fin 64, x0 (ix3 0 r ⟨l / 64 * 64 + x, by omega⟩) * x1 (ix3 0 t ⟨l / 256 * 64 + x, by omega⟩))
    (fun t => x2 (ix3 0 t ⟨l / 256 * 128 + l % 64, by omega⟩)) (fun t => x2 (ix3 0 t ⟨l / 256 * 128 + 64 + l % 64, by omega⟩))

/-- What a grid point of a latent tile stores. -/
theorem outA_at (c : Dev nD) (t : Fin cfg0.N) (h0' : t.val % 9 ≤ 7) (h1' : ¬t.val % 9 = 8) (z : Fin 1) (r : Fin 256) (l : Fin 512) :
    outsAt0 m c t.val t.isLt (ix3 z r l) = latBlk (iblk m c 0 t) (iblk m c 1 t) (iblk m c 2 t) r l := by
  rw [outsAt0_A m c t h0' h1']
  frame_out
  generalize (iblk m c 0 t) = x0
  generalize (iblk m c 1 t) = x1
  generalize (iblk m c 2 t) = x2
  canon_tiles x h
  all_goals
    idx_vars x
    open_payloads
    pointwise [k0_pay3]
    obtain rfl : r = _ := Fin.ext h1
    unfold latBlk
    refine mix2_congr (fun t => Finset.sum_congr rfl fun d _ => congrArg₂ (· * ·)
      (congrArg _ (ix3_lane _ _ ?_)) (congrArg _ (ix3_lane _ _ ?_)))
      (fun t => congrArg _ (ix3_lane _ _ ?_)) (fun t => congrArg _ (ix3_lane _ _ ?_))
    all_goals
      try have hd := d.isLt
      simp only [h2]
      omega

/-- An entry of a context tile's block, from the tile's operands. -/
def ctxBlk (x0 : Vec Ideal S1x256x512 .bf16) (x1 : Vec Ideal S1x2304x128 .bf16) (x2 : Vec Ideal S1x2304x256 .bf16) (r : Fin 256) (l : Fin 512) : EReal :=
  mix2 (fun t : Fin 256 => ∑ x : Fin 64, x0 (ix3 0 r ⟨l / 64 * 64 + x, by omega⟩) * x1 (ix3 0 ⟨2048 + t, by omega⟩ ⟨l / 256 * 64 + x, by omega⟩))
    (fun t => x2 (ix3 0 ⟨2048 + t, by omega⟩ ⟨l / 256 * 128 + l % 64, by omega⟩)) (fun t => x2 (ix3 0 ⟨2048 + t, by omega⟩ ⟨l / 256 * 128 + 64 + l % 64, by omega⟩))

/-- What a grid point of a context tile stores. -/
theorem outB_at (c : Dev nD) (t : Fin cfg0.N) (h0' : ¬t.val % 9 ≤ 7) (h1' : t.val % 9 = 8) (z : Fin 1) (r : Fin 256) (l : Fin 512) :
    outsAt0 m c t.val t.isLt (ix3 z r l) = ctxBlk (iblk m c 0 t) (iblk m c 1 t) (iblk m c 2 t) r l := by
  rw [outsAt0_B m c t h0' h1']
  frame_out
  generalize (iblk m c 0 t) = x0
  generalize (iblk m c 1 t) = x1
  generalize (iblk m c 2 t) = x2
  canon_tiles x h
  all_goals
    idx_vars x
    open_payloads
    pointwise [k0_pay3]
    obtain rfl : r = _ := Fin.ext h1
    unfold ctxBlk
    refine mix2_congr (fun t => Finset.sum_congr rfl fun d _ => congrArg₂ (· * ·)
      (congrArg _ (ix3_lane _ _ ?_)) (congrArg _ (ix3_lane _ _ ?_)))
      (fun t => congrArg _ (ix3_lane _ _ ?_)) (fun t => congrArg _ (ix3_lane _ _ ?_))
    all_goals
      try have hd := d.isLt
      simp only [h2]
      omega

end Cert.KernelIdeal.Value

end
-- ==== Proof.Attn.Entry.lean ====
/- What the attention's operands hold when the kernel is launched: the scaled queries, and the values beside their ones. -/
module

public import proofs.«01_k».proof.Proof.Attn.Body
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The queries the kernel is handed: the argument's, every entry multiplied by the scale. -/
def scaledQ (q : FVec Ideal S8x2304x512 .bf16) : FVec Ideal S8x2304x512 .bf16 :=
  truncf .bf16 (mulf (extf .f32 q bitsLt_bf16_f32) (broadcastInDim S8x2304x512 ![] bcast_S_S8x2304x512 (constant S_ .f32 0x3E000000#32))) bitsLt_bf16_f32

/-- The values the kernel is handed: each head's lanes followed by as many ones. -/
def onesV (v : FVec Ideal S8x2304x128 .bf16) : FVec Ideal S8x2304x256 .bf16 :=
  concatenate S8x2304x256 2
    [⟨S8x2304x64, extractStridedSlice S8x2304x64 ![0, 0, 0] v slices_S8x2304x128_S8x2304x64_0_0_0⟩,
     ⟨S8x2304x64, broadcastInDim S8x2304x64 ![] bcast_S_S8x2304x64 (constant S_ .bf16 0x3F80#16)⟩,
     ⟨S8x2304x64, extractStridedSlice S8x2304x64 ![0, 0, 64] v slices_S8x2304x128_S8x2304x64_0_0_64⟩,
     ⟨S8x2304x64, broadcastInDim S8x2304x64 ![] bcast_S_S8x2304x64 (constant S_ .bf16 0x3F80#16)⟩]
    concatenates_S8x2304x64_S8x2304x64_S8x2304x64_S8x2304x64_S8x2304x256_d2

/-- The first operand at launch. -/
theorem entryQ (c : Dev nD) : V m c main_v3 = scaledQ (m (c.tc.loc main_arg0)) := by
  unfold V
  after_results
  try rfl

/-- The third operand at launch. -/
theorem entryV (c : Dev nD) : V m c main_v7 = onesV (m (c.tc.loc main_arg2)) := by
  unfold V
  after_results
  try rfl

/-- An entry of the scaled queries. -/
theorem scaledQ_at (q : FVec Ideal S8x2304x512 .bf16) (b : Fin 8) (r : Fin 2304) (l : Fin 512) :
    scaledQ q (ix3 b r l) = q (ix3 b r l) * Attn.scale := by
  pointwise [scaledQ, Attn.scale]

/-- The two heads' lanes of the values as handed over. -/
theorem onesV_val (v : FVec Ideal S8x2304x128 .bf16) (b : Fin 8) (r : Fin 2304) (g : Fin 2) (d : Fin 64) :
    onesV v (ix3 b r ⟨g * 128 + d, by omega⟩) = v (ix3 b r ⟨g * 64 + d, by omega⟩) := by
  rcases g with ⟨g, hg⟩
  obtain rfl | rfl : g = 0 ∨ g = 1 := by omega
  · pointwise [onesV]
  · pointwise [onesV]
    rw [dif_neg (by omega), dif_neg (by omega), dif_pos (by omega)]
    exact congrArg v (ix3_lane b r (by simp only; omega))

/-- Every other lane holds a one. -/
theorem onesV_one (v : FVec Ideal S8x2304x128 .bf16) (b : Fin 8) (r : Fin 2304) (g : Fin 2) (d : Fin 64) :
    onesV v (ix3 b r ⟨g * 128 + 64 + d, by omega⟩) = 1 := by
  rcases g with ⟨g, hg⟩
  obtain rfl | rfl : g = 0 ∨ g = 1 := by omega
  · pointwise [onesV]
  · pointwise [onesV]
    rw [dif_neg (by omega), dif_neg (by omega), dif_neg (by omega)]

end Cert.KernelIdeal.Value

end
-- ==== Proof.Attn.Array.lean ====
/- What the attention kernel leaves in its result array: every row of every batch, mixed head by head. -/
module

public import proofs.«01_k».proof.Proof.Attn.Entry

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The queries. -/
abbrev argQ (c : Dev nD) : FVec Ideal S8x2304x512 .bf16 := m (c.tc.loc main_arg0)

/-- The keys. -/
abbrev argK (c : Dev nD) : FVec Ideal S8x2304x128 .bf16 := m (c.tc.loc main_arg1)

/-- The values. -/
abbrev argV (c : Dev nD) : FVec Ideal S8x2304x128 .bf16 := m (c.tc.loc main_arg2)

/-- The block each window reads or writes at a grid point. -/
theorem idx : ∀ t : Fin cfg0.N, win0_0.index t = ![t.val / 9, t.val % 9, 0] ∧ win0_1.index t = ![t.val / 9, 0, 0]
    ∧ win0_2.index t = ![t.val / 9, 0, 0] ∧ win0_3.index t = ![t.val / 9, t.val % 9, 0] :=
  (by decide +kernel : ∀ t : Fin grid0.N, _)

/-- The grid has 72 points. -/
theorem t_lt (t : Fin cfg0.N) : t.val < 72 := t.isLt

/-- A latent row's entry of the kernel's result, from the queries, keys and values. -/
def latRow (Q : FVec Ideal S8x2304x512 .bf16) (K X : FVec Ideal S8x2304x128 .bf16) (b : Fin 8) (r : Fin 2304) (l : Fin 512) : EReal :=
  Attn.mixK (fun t : Fin 2304 => Attn.scoreK (fun d : Fin 64 => Q (ix3 b r ⟨l / 64 * 64 + d, by omega⟩)) (fun d => K (ix3 b t ⟨l / 256 * 64 + d, by omega⟩)))
    (fun t => X (ix3 b t ⟨l / 256 * 64 + l % 64, by omega⟩))

/-- A context row's entry of the kernel's result: the keys and values of the context rows only. -/
def ctxRow (Q : FVec Ideal S8x2304x512 .bf16) (K X : FVec Ideal S8x2304x128 .bf16) (b : Fin 8) (r : Fin 2304) (l : Fin 512) : EReal :=
  Attn.mixK (fun t : Fin 256 => Attn.scoreK (fun d : Fin 64 => Q (ix3 b r ⟨l / 64 * 64 + d, by omega⟩)) (fun d => K (ix3 b ⟨2048 + t, by omega⟩ ⟨l / 256 * 64 + d, by omega⟩)))
    (fun t => X (ix3 b ⟨2048 + t, by omega⟩ ⟨l / 256 * 64 + l % 64, by omega⟩))

/-- The kernel's result. -/
def KER (Q : FVec Ideal S8x2304x512 .bf16) (K X : FVec Ideal S8x2304x128 .bf16) : FVec Ideal S8x2304x512 .bf16 :=
  fun i => if (i 1).val < 2048 then latRow Q K X (i 0) (i 1) (i 2) else ctxRow Q K X (i 0) (i 1) (i 2)

/-- The queries' block at a grid point. -/
theorem blkQ (c : Dev nD) (t : Fin cfg0.N) (z : Fin 1) (r : Fin 256) (l : Fin 512) :
    iblk m c 0 t (ix3 z r l) = argQ m c (ix3 (⟨t.val / 9, by have := t_lt t; omega⟩ : Fin 8) (⟨t.val % 9 * 256 + r, by omega⟩ : Fin 2304) l) * Attn.scale := by
  refine Eq.trans ?_ (scaledQ_at (argQ m c) _ _ _)
  refine Eq.trans ?_ (congrFun (entryQ m c) _)
  blk_ext [iblk, idx t]

/-- The keys' block at a grid point. -/
theorem blkK (c : Dev nD) (t : Fin cfg0.N) (z : Fin 1) (r : Fin 2304) (l : Fin 128) :
    iblk m c 1 t (ix3 z r l) = argK m c (ix3 (⟨t.val / 9, by have := t_lt t; omega⟩ : Fin 8) r l) := by
  refine Eq.trans ?_ (congrFun (V_main_arg1 m c) _)
  blk_ext [iblk, idx t]

/-- The values' block at a grid point. -/
theorem blkV (c : Dev nD) (t : Fin cfg0.N) (z : Fin 1) (r : Fin 2304) (l : Fin 256) :
    iblk m c 2 t (ix3 z r l) = onesV (argV m c) (ix3 (⟨t.val / 9, by have := t_lt t; omega⟩ : Fin 8) r l) := by
  refine Eq.trans ?_ (congrFun (entryV m c) _)
  blk_ext [iblk, idx t]

/-- What a latent tile's point stores, from the arguments. -/
theorem latBlk_eq (c : Dev nD) (t : Fin cfg0.N) (r : Fin 256) (l : Fin 512) :
    latBlk (iblk m c 0 t) (iblk m c 1 t) (iblk m c 2 t) r l
      = latRow (argQ m c) (argK m c) (argV m c) ⟨t.val / 9, by have := t_lt t; omega⟩ ⟨t.val % 9 * 256 + r, by omega⟩ l := by
  refine mix2_congr (fun u => Finset.sum_congr rfl fun d _ => congrArg₂ (· * ·) (blkQ m c t 0 _ _) (blkK m c t 0 _ _)) (fun u => ?_) (fun u => ?_)
  · exact (blkV m c t 0 _ _).trans (onesV_val _ _ _ ⟨l / 256, by omega⟩ ⟨l % 64, by omega⟩)
  · exact (blkV m c t 0 _ _).trans (onesV_one _ _ _ ⟨l / 256, by omega⟩ ⟨l % 64, by omega⟩)

/-- What a context tile's point stores, from the arguments. -/
theorem ctxBlk_eq (c : Dev nD) (t : Fin cfg0.N) (r : Fin 256) (l : Fin 512) :
    ctxBlk (iblk m c 0 t) (iblk m c 1 t) (iblk m c 2 t) r l
      = ctxRow (argQ m c) (argK m c) (argV m c) ⟨t.val / 9, by have := t_lt t; omega⟩ ⟨t.val % 9 * 256 + r, by omega⟩ l := by
  refine mix2_congr (fun u => Finset.sum_congr rfl fun d _ => congrArg₂ (· * ·) (blkQ m c t 0 _ _) (blkK m c t 0 _ _)) (fun u => ?_) (fun u => ?_)
  · exact (blkV m c t 0 _ _).trans (onesV_val _ _ _ ⟨l / 256, by omega⟩ ⟨l % 64, by omega⟩)
  · exact (blkV m c t 0 _ _).trans (onesV_one _ _ _ ⟨l / 256, by omega⟩ ⟨l % 64, by omega⟩)

/-- What a grid point stores is its block of the result. -/
theorem point (c : Dev nD) (t : Fin cfg0.N) (z : Fin 1) (r : Fin 256) (l : Fin 512) :
    outsAt0 m c t.val t.isLt (ix3 z r l)
      = KER (argQ m c) (argK m c) (argV m c)
          (ix3 (⟨t.val / 9, by have := t_lt t; omega⟩ : Fin 8) (⟨t.val % 9 * 256 + r, by omega⟩ : Fin 2304) l) := by
  by_cases hA : t.val % 9 ≤ 7
  · refine (outA_at m c t hA (by omega) z r l).trans ((latBlk_eq m c t r l).trans (if_pos ?_).symm)
    show t.val % 9 * 256 + r.val < 2048
    omega
  · refine (outB_at m c t hA (by omega) z r l).trans ((ctxBlk_eq m c t r l).trans (if_neg ?_).symm)
    show ¬ t.val % 9 * 256 + r.val < 2048
    omega

/-- The result array after the run. -/
theorem final (c : Dev nD) : (dats m 0 c).arrAt 3 cfg0.N
    = KER (argQ m c) (argK m c) (argV m c) := by
  refine (dats m 0 c).arrAt_eq_of_covers 3 _ (by decide +kernel) fun t _ y => ?_
  blk_simp
  rw [after0_3]
  idx_vars y
  refine (point m c t _ _ _).trans (congrArg _ ?_)
  blk_ext [idx t]

end Cert.KernelIdeal.Value

end
-- ==== Proof.Attn.RefDefs.lean ====
/- What the attention's reference computes: each of its results read at an index, as one row of the attention. -/
module

public import proofs.«01_k».proof.Proof.Gen.ReferenceIdeal.Run
public import proofs.«01_k».proof.Proof.Attn.Softmax

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

/-- The scores of the latent rows against every row, as the reference writes them. -/
def latScores (Q : FVec Ideal S8x2304x512 .bf16) (K : FVec Ideal S8x2304x128 .bf16) : FVec Ideal S8x2x4x2048x2304 .f32 :=
  mulf (transpose S8x2x4x2048x2304 [0, 1, 4, 3, 2] (Host.dotGeneral dot_S8x2304x2x64_S8x2048x2x4x64_S8x2x2304x2048x4_3_4_1_13_02_02 none
    (shapeCast _ (extf .f32 K bitsLt_bf16_f32) shapeCasts_S8x2304x128_S8x2304x2x64)
    (shapeCast _ (extractStridedSlice S8x2048x512 ![0, 0, 0] (extf .f32 Q bitsLt_bf16_f32) slices_S8x2304x512_S8x2048x512_0_0_0) shapeCasts_S8x2048x512_S8x2048x2x4x64))
    transposes_S8x2x2304x2048x4_S8x2x4x2048x2304_0_1_4_3_2)
    (broadcastInDim S8x2x4x2048x2304 ![] bcast_S_S8x2x4x2048x2304 (constant S_ .f32 0x3E000000#32))

/-- The maxima of the latent rows. -/
def latTop (s : FVec Ideal S8x2x4x2048x2304 .f32) : FVec Ideal S8x2x4x2048 .f32 :=
  Host.reduce FloatOps.maximumf s (constant S_ .f32 0xFF800000#32) reducesTo_S8x2x4x2048x2304_S8x2x4x2048_d4 h_S_

/-- The exponentials of the latent scores, a row's maximum taken off. -/
def latExp (s : FVec Ideal S8x2x4x2048x2304 .f32) (w : FVec Ideal S8x2x4x2048 .f32) : FVec Ideal S8x2x4x2048x2304 .f32 :=
  Host.exp (subf s (broadcastInDim S8x2x4x2048x2304 ![0, 1, 2, 3, 4] bcast_S8x2x4x2048x1_S8x2x4x2048x2304_0_1_2_3_4
    (broadcastInDim S8x2x4x2048x1 ![0, 1, 2, 3] bcast_S8x2x4x2048_S8x2x4x2048x1_0_1_2_3
      (maximumf (broadcastInDim S8x2x4x2048 ![] bcast_S_S8x2x4x2048 (constant S_ .f32 0xFF800000#32))
        w))))

/-- The latent weights: every exponential over its row's sum. -/
def latWeights (e : FVec Ideal S8x2x4x2048x2304 .f32) : FVec Ideal S8x2x4x2048x2304 .f32 :=
  Host.divf e (broadcastInDim S8x2x4x2048x2304 ![0, 1, 2, 3, 4] bcast_S8x2x4x2048x1_S8x2x4x2048x2304_0_1_2_3_4
    (broadcastInDim S8x2x4x2048x1 ![0, 1, 2, 3] bcast_S8x2x4x2048_S8x2x4x2048x1_0_1_2_3
      (Host.reduceAdd e (constant S_ .f32 0x00000000#32) reducesTo_S8x2x4x2048x2304_S8x2x4x2048_d4 h_S_)))

/-- The values mixed by the latent weights, the heads laid side by side. -/
def latMix (p : FVec Ideal S8x2x4x2048x2304 .f32) (X : FVec Ideal S8x2304x128 .bf16) : FVec Ideal S8x2048x512 .f32 :=
  shapeCast _ (transpose S8x2048x2x4x64 [0, 3, 1, 2, 4] (Host.dotGeneral dot_S8x2x4x2048x2304_S8x2304x2x64_S8x2x4x2048x64_4_1_23_3_01_02 none p
    (shapeCast _ (extf .f32 X bitsLt_bf16_f32) shapeCasts_S8x2304x128_S8x2304x2x64))
    transposes_S8x2x4x2048x64_S8x2048x2x4x64_0_3_1_2_4) shapeCasts_S8x2048x2x4x64_S8x2048x512

/-- The scores of the context rows against the context rows. -/
def ctxScores (Q : FVec Ideal S8x2304x512 .bf16) (K : FVec Ideal S8x2304x128 .bf16) : FVec Ideal S8x2x4x256x256 .f32 :=
  mulf (transpose S8x2x4x256x256 [0, 1, 4, 3, 2] (Host.dotGeneral dot_S8x256x2x64_S8x256x2x4x64_S8x2x256x256x4_3_4_1_13_02_02 none
    (shapeCast _ (extractStridedSlice S8x256x128 ![0, 2048, 0] (extf .f32 K bitsLt_bf16_f32) slices_S8x2304x128_S8x256x128_0_2048_0) shapeCasts_S8x256x128_S8x256x2x64)
    (shapeCast _ (extractStridedSlice S8x256x512 ![0, 2048, 0] (extf .f32 Q bitsLt_bf16_f32) slices_S8x2304x512_S8x256x512_0_2048_0) shapeCasts_S8x256x512_S8x256x2x4x64))
    transposes_S8x2x256x256x4_S8x2x4x256x256_0_1_4_3_2)
    (broadcastInDim S8x2x4x256x256 ![] bcast_S_S8x2x4x256x256 (constant S_ .f32 0x3E000000#32))

/-- The maxima of the context rows. -/
def ctxTop (s : FVec Ideal S8x2x4x256x256 .f32) : FVec Ideal S8x2x4x256 .f32 :=
  Host.reduce FloatOps.maximumf s (constant S_ .f32 0xFF800000#32) reducesTo_S8x2x4x256x256_S8x2x4x256_d4 h_S_

/-- The exponentials of the context scores, a row's maximum taken off. -/
def ctxExp (s : FVec Ideal S8x2x4x256x256 .f32) (w : FVec Ideal S8x2x4x256 .f32) : FVec Ideal S8x2x4x256x256 .f32 :=
  Host.exp (subf s (broadcastInDim S8x2x4x256x256 ![0, 1, 2, 3, 4] bcast_S8x2x4x256x1_S8x2x4x256x256_0_1_2_3_4
    (broadcastInDim S8x2x4x256x1 ![0, 1, 2, 3] bcast_S8x2x4x256_S8x2x4x256x1_0_1_2_3
      (maximumf (broadcastInDim S8x2x4x256 ![] bcast_S_S8x2x4x256 (constant S_ .f32 0xFF800000#32))
        w))))

/-- The context weights: every exponential over its row's sum. -/
def ctxWeights (e : FVec Ideal S8x2x4x256x256 .f32) : FVec Ideal S8x2x4x256x256 .f32 :=
  Host.divf e (broadcastInDim S8x2x4x256x256 ![0, 1, 2, 3, 4] bcast_S8x2x4x256x1_S8x2x4x256x256_0_1_2_3_4
    (broadcastInDim S8x2x4x256x1 ![0, 1, 2, 3] bcast_S8x2x4x256_S8x2x4x256x1_0_1_2_3
      (Host.reduceAdd e (constant S_ .f32 0x00000000#32) reducesTo_S8x2x4x256x256_S8x2x4x256_d4 h_S_)))

/-- The context values mixed by the context weights, the heads laid side by side. -/
def ctxMix (p : FVec Ideal S8x2x4x256x256 .f32) (X : FVec Ideal S8x2304x128 .bf16) : FVec Ideal S8x256x512 .f32 :=
  shapeCast _ (transpose S8x256x2x4x64 [0, 3, 1, 2, 4] (Host.dotGeneral dot_S8x2x4x256x256_S8x256x2x64_S8x2x4x256x64_4_1_23_3_01_02 none p
    (shapeCast _ (extractStridedSlice S8x256x128 ![0, 2048, 0] (extf .f32 X bitsLt_bf16_f32) slices_S8x2304x128_S8x256x128_0_2048_0) shapeCasts_S8x256x128_S8x256x2x64))
    transposes_S8x2x4x256x64_S8x256x2x4x64_0_3_1_2_4) shapeCasts_S8x256x2x4x64_S8x256x512

/-- The reference's result, composed of the stages above. -/
def REF (Q : FVec Ideal S8x2304x512 .bf16) (K X : FVec Ideal S8x2304x128 .bf16) : FVec Ideal S8x2304x512 .bf16 :=
  truncf .bf16 (concatenate S8x2304x512 1
    [⟨S8x2048x512, latMix (latWeights (latExp (latScores Q K) (latTop (latScores Q K)))) X⟩,
     ⟨S8x256x512, ctxMix (ctxWeights (ctxExp (ctxScores Q K) (ctxTop (ctxScores Q K)))) X⟩]
    concatenates_S8x2048x512_S8x256x512_S8x2304x512_d1) bitsLt_bf16_f32

/-- The term of the reference's run is that composition. -/
theorem res_eq (m : (ℓ : Loc nD τ sig) → Buf (Elt Ideal) ℓ) (c : Dev nD) :
    res_main_v50 m c = REF (m ((c.tc : Thread nD τ).loc main_arg0)) (m ((c.tc : Thread nD τ).loc main_arg1)) (m ((c.tc : Thread nD τ).loc main_arg2)) := rfl

end Cert.ReferenceIdeal.Value

end
-- ==== Proof.Attn.Reference.lean ====
/- What the attention's reference computes: its result read at an index, as one entry of the attention. -/
module

public import proofs.«01_k».proof.Proof.Attn.RefDefs

@[expose] public section

set_option maxRecDepth 16384

noncomputable section

namespace Cert.ReferenceIdeal.Value

open Idealize.ShloMosaic Idealize.ShloMosaic.TcCoe Idealize.SL.Sem
open Cert.ReferenceIdeal Cert.ReferenceIdeal.Gen

/-- A score of a latent row against a key. -/
theorem latScores_at (Q : FVec Ideal S8x2304x512 .bf16) (K : FVec Ideal S8x2304x128 .bf16)
    (b : Fin 8) (h : Fin 2) (g : Fin 4) (r : Fin 2048) (t : Fin 2304) :
    latScores Q K (ix5 b h g r t) = Attn.score (fun d => Q (ix3 b ⟨r, by omega⟩ ⟨h * 256 + g * 64 + d, by omega⟩)) (fun d => K (ix3 b t ⟨h * 64 + d, by omega⟩)) := by
  pointwise [latScores, Attn.score]

/-- The maximum of a latent row's scores. -/
theorem latTop_at (s : FVec Ideal S8x2x4x2048x2304 .f32) (b : Fin 8) (h : Fin 2) (g : Fin 4) (r : Fin 2048) :
    latTop s (ix4 b h g r) = Attn.rowMax (fun u : Fin 2304 => s (ix5 b h g r u)) := by
  pointwise [latTop, Attn.rowMax]

/-- An exponential of a latent score. -/
theorem latExp_at (s : FVec Ideal S8x2x4x2048x2304 .f32) (w : FVec Ideal S8x2x4x2048 .f32) (b : Fin 8) (h : Fin 2) (g : Fin 4) (r : Fin 2048) (t : Fin 2304) :
    latExp s w (ix5 b h g r t) = Ideal.exp (s (ix5 b h g r t) - w (ix4 b h g r)) := by
  pointwise [latExp]
  rw [show Ideal.ofBits FTy.f32 4286578688#32 = ⊥ from Attn.low_eq, max_bot_left]

/-- A weight of a latent row. -/
theorem latWeights_at (e : FVec Ideal S8x2x4x2048x2304 .f32) (b : Fin 8) (h : Fin 2) (g : Fin 4) (r : Fin 2048) (t : Fin 2304) :
    latWeights e (ix5 b h g r t) = Ideal.div (e (ix5 b h g r t)) (∑ u : Fin 2304, e (ix5 b h g r u)) := by
  pointwise [latWeights]

/-- A mixed value of a latent row. -/
theorem latMix_at (p : FVec Ideal S8x2x4x2048x2304 .f32) (X : FVec Ideal S8x2304x128 .bf16) (b : Fin 8) (r : Fin 2048) (l : Fin 512) :
    latMix p X (ix3 b r l) = ∑ t : Fin 2304, p (ix5 b ⟨l / 256, by omega⟩ ⟨l / 64 % 4, by omega⟩ r t) * X (ix3 b t ⟨l / 256 * 64 + l % 64, by omega⟩) := by
  pointwise [latMix]

/-- One entry of the latent part of the reference is one entry of the attention. -/
theorem lat_at (Q : FVec Ideal S8x2304x512 .bf16) (K X : FVec Ideal S8x2304x128 .bf16) (b : Fin 8) (r : Fin 2048) (l : Fin 512) :
    latMix (latWeights (latExp (latScores Q K) (latTop (latScores Q K)))) X (ix3 b r l)
      = Attn.attend (fun d => Q (ix3 b ⟨r, by omega⟩ ⟨l / 64 * 64 + d, by omega⟩)) (fun (t : Fin 2304) d => K (ix3 b t ⟨l / 256 * 64 + d, by omega⟩))
          (fun t : Fin 2304 => X (ix3 b t ⟨l / 256 * 64 + l % 64, by omega⟩)) := by
  have hq : ∀ d : Fin 64, (⟨(⟨l / 256, by omega⟩ : Fin 2) * 256 + (⟨l / 64 % 4, by omega⟩ : Fin 4) * 64 + d, by omega⟩ : Fin 512) = ⟨l / 64 * 64 + d, by omega⟩ :=
    fun d => Fin.ext (by show l / 256 * 256 + l / 64 % 4 * 64 + d.val = l / 64 * 64 + d.val; omega)
  rw [latMix_at]
  unfold Attn.attend Attn.weight
  simp only [latWeights_at, latExp_at, latTop_at, latScores_at, hq]

/-- A score of a context row against a key. -/
theorem ctxScores_at (Q : FVec Ideal S8x2304x512 .bf16) (K : FVec Ideal S8x2304x128 .bf16)
    (b : Fin 8) (h : Fin 2) (g : Fin 4) (r : Fin 256) (t : Fin 256) :
    ctxScores Q K (ix5 b h g r t) = Attn.score (fun d => Q (ix3 b ⟨2048 + r, by omega⟩ ⟨h * 256 + g * 64 + d, by omega⟩)) (fun d => K (ix3 b ⟨2048 + t, by omega⟩ ⟨h * 64 + d, by omega⟩)) := by
  pointwise [ctxScores, Attn.score]

/-- The maximum of a context row's scores. -/
theorem ctxTop_at (s : FVec Ideal S8x2x4x256x256 .f32) (b : Fin 8) (h : Fin 2) (g : Fin 4) (r : Fin 256) :
    ctxTop s (ix4 b h g r) = Attn.rowMax (fun u : Fin 256 => s (ix5 b h g r u)) := by
  pointwise [ctxTop, Attn.rowMax]

/-- An exponential of a context score. -/
theorem ctxExp_at (s : FVec Ideal S8x2x4x256x256 .f32) (w : FVec Ideal S8x2x4x256 .f32) (b : Fin 8) (h : Fin 2) (g : Fin 4) (r : Fin 256) (t : Fin 256) :
    ctxExp s w (ix5 b h g r t) = Ideal.exp (s (ix5 b h g r t) - w (ix4 b h g r)) := by
  pointwise [ctxExp]
  rw [show Ideal.ofBits FTy.f32 4286578688#32 = ⊥ from Attn.low_eq, max_bot_left]

/-- A weight of a context row. -/
theorem ctxWeights_at (e : FVec Ideal S8x2x4x256x256 .f32) (b : Fin 8) (h : Fin 2) (g : Fin 4) (r : Fin 256) (t : Fin 256) :
    ctxWeights e (ix5 b h g r t) = Ideal.div (e (ix5 b h g r t)) (∑ u : Fin 256, e (ix5 b h g r u)) := by
  pointwise [ctxWeights]

/-- A mixed value of a context row. -/
theorem ctxMix_at (p : FVec Ideal S8x2x4x256x256 .f32) (X : FVec Ideal S8x2304x128 .bf16) (b : Fin 8) (r : Fin 256) (l : Fin 512) :
    ctxMix p X (ix3 b r l) = ∑ t : Fin 256, p (ix5 b ⟨l / 256, by omega⟩ ⟨l / 64 % 4, by omega⟩ r t) * X (ix3 b ⟨2048 + t, by omega⟩ ⟨l / 256 * 64 + l % 64, by omega⟩) := by
  pointwise [ctxMix]

/-- One entry of the context part of the reference is one entry of the attention. -/
theorem ctx_at (Q : FVec Ideal S8x2304x512 .bf16) (K X : FVec Ideal S8x2304x128 .bf16) (b : Fin 8) (r : Fin 256) (l : Fin 512) :
    ctxMix (ctxWeights (ctxExp (ctxScores Q K) (ctxTop (ctxScores Q K)))) X (ix3 b r l)
      = Attn.attend (fun d => Q (ix3 b ⟨2048 + r, by omega⟩ ⟨l / 64 * 64 + d, by omega⟩)) (fun (t : Fin 256) d => K (ix3 b ⟨2048 + t, by omega⟩ ⟨l / 256 * 64 + d, by omega⟩))
          (fun t : Fin 256 => X (ix3 b ⟨2048 + t, by omega⟩ ⟨l / 256 * 64 + l % 64, by omega⟩)) := by
  have hq : ∀ d : Fin 64, (⟨(⟨l / 256, by omega⟩ : Fin 2) * 256 + (⟨l / 64 % 4, by omega⟩ : Fin 4) * 64 + d, by omega⟩ : Fin 512) = ⟨l / 64 * 64 + d, by omega⟩ :=
    fun d => Fin.ext (by show l / 256 * 256 + l / 64 % 4 * 64 + d.val = l / 64 * 64 + d.val; omega)
  rw [ctxMix_at]
  unfold Attn.attend Attn.weight
  simp only [ctxWeights_at, ctxExp_at, ctxTop_at, ctxScores_at, hq]

/-- A latent row of the reference attends every row. -/
theorem REF_lat (Q : FVec Ideal S8x2304x512 .bf16) (K X : FVec Ideal S8x2304x128 .bf16) (b : Fin 8) (r : Fin 2304) (l : Fin 512) (hr : (r : ℕ) < 2048) :
    REF Q K X (ix3 b r l)
      = Attn.attend (fun d => Q (ix3 b r ⟨l / 64 * 64 + d, by omega⟩)) (fun (t : Fin 2304) d => K (ix3 b t ⟨l / 256 * 64 + d, by omega⟩))
          (fun t : Fin 2304 => X (ix3 b t ⟨l / 256 * 64 + l % 64, by omega⟩)) := by
  refine Eq.trans ?_ (lat_at Q K X b ⟨r, hr⟩ l)
  pointwise [REF]
  rw [dif_pos hr]

/-- A context row of the reference attends the context rows. -/
theorem REF_ctx (Q : FVec Ideal S8x2304x512 .bf16) (K X : FVec Ideal S8x2304x128 .bf16) (b : Fin 8) (r : Fin 256) (l : Fin 512) :
    REF Q K X (ix3 b ⟨2048 + r, by omega⟩ l)
      = Attn.attend (fun d => Q (ix3 b ⟨2048 + r, by omega⟩ ⟨l / 64 * 64 + d, by omega⟩)) (fun (t : Fin 256) d => K (ix3 b ⟨2048 + t, by omega⟩ ⟨l / 256 * 64 + d, by omega⟩))
          (fun t : Fin 256 => X (ix3 b ⟨2048 + t, by omega⟩ ⟨l / 256 * 64 + l % 64, by omega⟩)) := by
  refine Eq.trans ?_ (ctx_at Q K X b r l)
  pointwise [REF]

end Cert.ReferenceIdeal.Value

end
-- ==== Proof.Attn.Equal.lean ====
/- The attention's equation: on finite queries and keys the kernel's result is the reference's. -/
module

public import proofs.«01_k».proof.Proof.Attn.Array
public import proofs.«01_k».proof.Proof.Attn.Reference

@[expose] public section

set_option maxRecDepth 16384

noncomputable section

namespace Cert.Attn

open Idealize.ShloMosaic
open Cert.KernelIdeal (S8x2304x512 S8x2304x128)

/-- Queries and keys that are real numbers everywhere: the kernel's result is the reference's. -/
theorem KER_eq (Q : FVec Ideal S8x2304x512 .bf16) (K X : FVec Ideal S8x2304x128 .bf16)
    (hQ : ∀ b r l, IsReal (Q (ix3 b r l))) (hK : ∀ b r l, IsReal (K (ix3 b r l))) :
    Cert.KernelIdeal.Value.KER Q K X = Cert.ReferenceIdeal.Value.REF Q K X := by
  funext j
  idx_vars j
  by_cases hr : j1.val < 2048
  · refine Eq.trans (if_pos hr) (Eq.trans ?_ (Cert.ReferenceIdeal.Value.REF_lat Q K X j0 j1 j2 hr).symm)
    exact attendK_eq (by omega) _ _ _ (fun d => hQ _ _ _) (fun t d => hK _ _ _)
  · refine Eq.trans (if_neg hr) ?_
    have row : ∀ s : Fin 256, Cert.KernelIdeal.Value.ctxRow Q K X j0 ⟨2048 + s, by omega⟩ j2
        = Cert.ReferenceIdeal.Value.REF Q K X (ix3 j0 ⟨2048 + s, by omega⟩ j2) := fun s =>
      Eq.trans (attendK_eq (by omega) _ _ _ (fun d => hQ _ _ _) (fun t d => hK _ _ _)) (Cert.ReferenceIdeal.Value.REF_ctx Q K X j0 s j2).symm
    have hs : (⟨2048 + (j1 - 2048), by omega⟩ : Fin 2304) = j1 := Fin.ext (by simp only; omega)
    have e := row ⟨j1 - 2048, by omega⟩
    rwa [hs] at e

end Cert.Attn

end
-- ==== Proof.Attn.Finite.lean ====
/- The attention's precondition: every query and every key is a real number. -/
module

public import proofs.«01_k».proof.Pre_finite_scores
public import proofs.«01_k».proof.Proof.Attn.Softmax
public import Idealize.ShloMosaic.Lib.Pointwise

@[expose] public section

set_option maxRecDepth 16384

noncomputable section

namespace Cert.Pre_finite_scores

open Idealize.ShloMosaic

/-- The shape relations the precondition's operations take. -/
theorem facts : Facts where
  bitsLt_bf16_f32 := by decide
  bcast_S_S8x2304x512 := by decide
  bcast_S_S8x2304x128 := by decide
  concatenates_S8x2304x512_S8x2304x128_S8x2304x640_d2 := by decide

attribute [local instance] facts

/-- A value whose magnitude is below infinity is a real number. -/
theorem real_of_lt {x : EReal} (h : Ideal.cmp .olt (max x (-x)) (Ideal.ofBits .f32 0x7F800000#32) = 1#1) : Attn.IsReal x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- The queries' lanes of the precondition. -/
theorem fn_q (q : FVec Ideal S8x2304x512 .bf16) (k v : FVec Ideal S8x2304x128 .bf16) (b : Fin 8) (r : Fin 2304) (l : Fin 512) :
    fn (F := Ideal) q k v (ix3 b r ⟨l, by omega⟩) = Ideal.cmp .olt (max (q (ix3 b r l)) (-(q (ix3 b r l)))) (Ideal.ofBits .f32 0x7F800000#32) := by
  pointwise [fn]
  rfl

/-- The keys' lanes of the precondition. -/
theorem fn_k (q : FVec Ideal S8x2304x512 .bf16) (k v : FVec Ideal S8x2304x128 .bf16) (b : Fin 8) (r : Fin 2304) (l : Fin 128) :
    fn (F := Ideal) q k v (ix3 b r ⟨512 + l, by omega⟩) = Ideal.cmp .olt (max (k (ix3 b r l)) (-(k (ix3 b r l)))) (Ideal.ofBits .f32 0x7F800000#32) := by
  pointwise [fn]
  rfl

/-- Under the precondition every query is real. -/
theorem real_q (q : FVec Ideal S8x2304x512 .bf16) (k v : FVec Ideal S8x2304x128 .bf16) (h : fn (F := Ideal) q k v = fun _ => 1#1)
    (b : Fin 8) (r : Fin 2304) (l : Fin 512) : Attn.IsReal (q (ix3 b r l)) :=
  real_of_lt ((fn_q q k v b r l).symm.trans (congrFun h _))

/-- Under the precondition every key is real. -/
theorem real_k (q : FVec Ideal S8x2304x512 .bf16) (k v : FVec Ideal S8x2304x128 .bf16) (h : fn (F := Ideal) q k v = fun _ => 1#1)
    (b : Fin 8) (r : Fin 2304) (l : Fin 128) : Attn.IsReal (k (ix3 b r l)) :=
  real_of_lt ((fn_k q k v b r l).symm.trans (congrFun h _))

end Cert.Pre_finite_scores

end
-- ==== Proof.Ffn.Expert.lean ====
/- The expert's arithmetic on extended reals: a row through the gate and up matrices, the SiLU product, and the down matrix. -/
module

public import Idealize.ShloMosaic.Lib.Pointwise

@[expose] public section

noncomputable section

namespace Cert.Ffn

open Idealize.ShloMosaic

/-- The SiLU of a value. -/
def silu (x : EReal) : EReal := x * Ideal.div 1 (1 + Ideal.exp (-x))

/-- A hidden entry: the SiLU of the row's product with the gate column, times its product with the up column. -/
def hidden (x g u : Fin 1024 → EReal) : EReal := silu (∑ d, x d * g d) * ∑ d, x d * u d

/-- An entry of the expert's output row: the hidden row times a down column. -/
def expert (x : Fin 1024 → EReal) (G U : Fin 1024 → Fin 1024 → EReal) (D : Fin 1024 → EReal) : EReal :=
  ∑ f, hidden x (fun d => G d f) (fun d => U d f) * D f

end Cert.Ffn

end
-- ==== Proof.Ffn.Body.lean ====
/- What one grid point of the expert network stores: its weights when an expert begins, and its block of the result. -/
module

public import proofs.«01_k».proof.Proof.Gen.Kernel2Ideal.Value
public import proofs.«01_k».proof.Proof.Ffn.Expert
public import Idealize.ShloMosaic.Lib.Pipeline.ValueKit

@[expose] public section

set_option maxRecDepth 16384

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- Two positions of a matrix agree when their rows do. -/
theorem ix4_row {a b n k : ℕ} {i : Fin a} {j : Fin b} {r r' : Fin n} {l : Fin k} (h : r.val = r'.val) :
    ix4 i j r l = ix4 i j r' l := by rw [Fin.ext h]

/-- The gate weights that a point of an expert's first tile leaves. -/
theorem gateA_at (c : Dev nD) (t : Fin cfg0.N) (h0' : t.val % 4 = 0) (d f : Fin 1024) :
    (outsAt0 m c t.val t.isLt).2.1 (ix2 d f) = iblk m c 3 t (ix4 0 0 d f) := by
  rw [outsAt0_A m c t h0']
  frame_out
  generalize (iblk m c 3 t) = w
  canon_tiles x h
  all_goals
    idx_vars x
    open_payloads
    pointwise [k0_pay2, k0_pay3, k0_pay4, k0_pay5]
    obtain rfl : f = _ := Fin.ext h1
    exact congrArg w (ix4_row (by rw [h0]))

/-- The up weights that a point of an expert's first tile leaves. -/
theorem upA_at (c : Dev nD) (t : Fin cfg0.N) (h0' : t.val % 4 = 0) (d f : Fin 1024) :
    (outsAt0 m c t.val t.isLt).2.2.1 (ix2 d f) = iblk m c 4 t (ix4 0 0 d f) := by
  rw [outsAt0_A m c t h0']
  frame_out
  generalize (iblk m c 4 t) = w
  canon_tiles x h
  all_goals
    idx_vars x
    open_payloads
    pointwise [k0_pay7, k0_pay6, k0_pay8, k0_pay9, k0_pay10]
    obtain rfl : f = _ := Fin.ext h1
    exact congrArg w (ix4_row (by rw [h0]))

/-- The down weights that a point of an expert's first tile leaves. -/
theorem downA_at (c : Dev nD) (t : Fin cfg0.N) (h0' : t.val % 4 = 0) (d f : Fin 1024) :
    (outsAt0 m c t.val t.isLt).2.2.2 (ix2 d f) = iblk m c 5 t (ix4 0 0 d f) := by
  rw [outsAt0_A m c t h0']
  frame_out
  generalize (iblk m c 5 t) = w
  canon_tiles x h
  all_goals
    idx_vars x
    open_payloads
    pointwise [k0_pay11, k0_pay12, k0_pay13, k0_pay14]
    obtain rfl : f = _ := Fin.ext h1
    exact congrArg w (ix4_row (by rw [h0]))

/-- The expert network of a point's 512 rows, at a row and a lane. -/
theorem pay15_at (x : Vec Ideal S2x1x256x1024 .bf16) (g u w : Vec Ideal S1024x1024 .bf16) (b : Fin 2) (r : Fin 256) (l : Fin 1024) :
    k0_pay15 x g u w (ix2 ⟨b * 256 + r, by omega⟩ l)
      = Ffn.expert (fun d => x (ix4 b 0 r d)) (fun d f => g (ix2 d f)) (fun d f => u (ix2 d f)) (fun f => w (ix2 f l)) := by
  pointwise [k0_pay15]
  rfl

/-- The first batch's stored rows. -/
theorem pay16_at (x : Vec Ideal S2x1x256x1024 .bf16) (g u w : Vec Ideal S1024x1024 .bf16) (gt : Vec Ideal S1x1x256x128 .f32) (md : Vec Ideal S1x1x6x1024 .f32)
    (z z' : Fin 1) (r : Fin 256) (l : Fin 1024) :
    k0_pay16 x g u w gt md (ix4 z z' r l)
      = Ffn.expert (fun d => x (ix4 0 0 r d)) (fun d f => g (ix2 d f)) (fun d f => u (ix2 d f)) (fun f => w (ix2 f l)) * gt (ix4 0 0 r 0) * md (ix4 0 0 5 l) := by
  refine Eq.trans ?_ (congrArg (fun s => s * gt (ix4 0 0 r 0) * md (ix4 0 0 5 l)) (pay15_at x g u w 0 r l))
  pointwise [k0_pay16]

/-- The second batch's stored rows, from the expert network of a point's 512 rows. -/
theorem pay1_at (y : FVec Ideal S512x1024 .f32) (gt : Vec Ideal S1x1x256x128 .f32) (md : Vec Ideal S1x1x6x1024 .f32)
    (z z' : Fin 1) (r : Fin 256) (l : Fin 1024) :
    k0_pay1 y gt md (ix4 z z' r l) = y (ix2 ⟨256 + r, by omega⟩ l) * gt (ix4 0 0 r 0) * md (ix4 0 0 5 l) := by
  pointwise [k0_pay1]

/-- A load of the whole of a weight store reads what the pieces written left there. -/
theorem readCov_whole {κ : Kind} {sp : Space} (v : View sig κ sp S1024x1024 .bf16) (L : List (View.Piece (Elt Ideal) S1024x1024 .bf16))
    (inb : ∀ a, (![0, 0] : Fin 2 → ℕ) a + S1024x1024.size a ≤ S1024x1024.size a) (d f : Fin 1024) :
    v.readCov L (Rect.unit (s := S1024x1024) ![0, 0] S1024x1024.size inb).toLoadRect (ix2 d f) = View.canon L (ix2 d f) := by
  rw [View.readCov_eq_canon']
  refine congrArg (View.canon L) ?_
  blk_ext
  · show 0 + 1 * d.val = d.val
    omega
  · show 0 + 1 * f.val = f.val
    omega

/-- An entry of a point's block, from its rows, gates, modulation and the three matrices. -/
def expertBlk (x : Vec Ideal S2x1x256x1024 .bf16) (gt : Vec Ideal S2x1x256x128 .f32) (md : Vec Ideal S2x1x6x1024 .f32) (g u w : Fin 1024 → Fin 1024 → EReal)
    (b : Fin 2) (r : Fin 256) (l : Fin 1024) : EReal :=
  Ffn.expert (fun d => x (ix4 b 0 r d)) g u (fun f => w f l) * gt (ix4 b 0 r 0) * md (ix4 b 0 5 l)

/-- An expert's entries agree when its rows and matrices do. -/
theorem expert_congr {x x' : Fin 1024 → EReal} {G G' U U' : Fin 1024 → Fin 1024 → EReal} {D D' : Fin 1024 → EReal}
    (hx : ∀ d, x d = x' d) (hG : ∀ d f, G d f = G' d f) (hU : ∀ d f, U d f = U' d f) (hD : ∀ f, D f = D' f) :
    Ffn.expert x G U D = Ffn.expert x' G' U' D' := by
  obtain rfl : x = x' := funext hx
  obtain rfl : G = G' := funext fun d => funext (hG d)
  obtain rfl : U = U' := funext fun d => funext (hU d)
  obtain rfl : D = D' := funext hD
  rfl

/-- What a point of an expert's first tile stores. -/
theorem outA_at (c : Dev nD) (t : Fin cfg0.N) (h0' : t.val % 4 = 0) (b : Fin 2) (z : Fin 1) (r : Fin 256) (l : Fin 1024) :
    (outsAt0 m c t.val t.isLt).1 (ix4 b z r l) = expertBlk (iblk m c 0 t) (iblk m c 1 t) (iblk m c 2 t)
      (fun d f => iblk m c 3 t (ix4 0 0 d f)) (fun d f => iblk m c 4 t (ix4 0 0 d f)) (fun d f => iblk m c 5 t (ix4 0 0 d f)) b r l := by
  have e3 := gateA_at m c t h0'
  have e4 := upA_at m c t h0'
  have e5 := downA_at m c t h0'
  revert e3 e4 e5
  rw [outsAt0_A m c t h0']
  frame_out
  intro e3 e4 e5
  generalize (iblk m c 0 t) = y0
  generalize (iblk m c 1 t) = y1
  generalize (iblk m c 2 t) = y2
  canon_tiles x h
  · idx_vars x
    refine (pay1_at _ _ _ _ _ _ _).trans ?_
    obtain rfl : b = 1 := Fin.ext (by rw [h0]; omega)
    obtain rfl : r = _ := Fin.ext h2
    obtain rfl : l = _ := Fin.ext h3
    refine congrArg₂ (· * ·) (congrArg₂ (· * ·) ((pay15_at _ _ _ _ 1 _ _).trans (expert_congr (fun _ => ?_) (fun d f => (readCov_whole _ _ _ d f).trans (e3 d f)) (fun d f => (readCov_whole _ _ _ d f).trans (e4 d f)) (fun f => (readCov_whole _ _ _ f _).trans (e5 f _)))) ?_) ?_
    all_goals
      clear e3 e4 e5
      first
        | rfl
        | pointwise
        | pointwise
  · idx_vars x
    refine (pay16_at _ _ _ _ _ _ _ _ _ _).trans ?_
    obtain rfl : b = 0 := Fin.ext (by show b.val = 0; omega)
    obtain rfl : r = _ := Fin.ext h2
    obtain rfl : l = _ := Fin.ext h3
    refine congrArg₂ (· * ·) (congrArg₂ (· * ·) (expert_congr (fun _ => ?_) (fun d f => (readCov_whole _ _ _ d f).trans (e3 d f)) (fun d f => (readCov_whole _ _ _ d f).trans (e4 d f)) (fun f => (readCov_whole _ _ _ f _).trans (e5 f _))) ?_) ?_
    all_goals
      clear e3 e4 e5
      first
        | rfl
        | pointwise
        | pointwise

/-- What a point of an expert's other tiles stores, from the matrices the point before left. -/
theorem outB_at (c : Dev nD) (t : Fin cfg0.N) (h0' : ¬t.val % 4 = 0) (b : Fin 2) (z : Fin 1) (r : Fin 256) (l : Fin 1024) :
    (outsAt0 m c t.val t.isLt).1 (ix4 b z r l) = expertBlk (iblk m c 0 t) (iblk m c 1 t) (iblk m c 2 t)
      (fun d f => (outsAt0 m c (t.val - 1) (Nat.lt_of_le_of_lt (Nat.sub_le _ _) t.isLt)).2.1 (ix2 d f))
      (fun d f => (outsAt0 m c (t.val - 1) (Nat.lt_of_le_of_lt (Nat.sub_le _ _) t.isLt)).2.2.1 (ix2 d f))
      (fun d f => (outsAt0 m c (t.val - 1) (Nat.lt_of_le_of_lt (Nat.sub_le _ _) t.isLt)).2.2.2 (ix2 d f)) b r l := by
  rw [outsAt0_B m c t h0']
  generalize (outsAt0 m c (t.val - 1) (Nat.lt_of_le_of_lt (Nat.sub_le _ _) t.isLt)) = w
  frame_out
  generalize (iblk m c 0 t) = y0
  generalize (iblk m c 1 t) = y1
  generalize (iblk m c 2 t) = y2
  canon_tiles x h
  · idx_vars x
    refine (pay1_at _ _ _ _ _ _ _).trans ?_
    obtain rfl : b = 1 := Fin.ext (by rw [h0]; omega)
    obtain rfl : r = _ := Fin.ext h2
    obtain rfl : l = _ := Fin.ext h3
    refine congrArg₂ (· * ·) (congrArg₂ (· * ·) ((pay15_at _ _ _ _ 1 _ _).trans (expert_congr (fun _ => rfl) (fun _ _ => congrFun (Memref.IsWhole.read_unread _ _) _) (fun _ _ => congrFun (Memref.IsWhole.read_unread _ _) _) (fun _ => congrFun (Memref.IsWhole.read_unread _ _) _))) ?_) ?_
    · pointwise
    · pointwise
  · idx_vars x
    refine (pay16_at _ _ _ _ _ _ _ _ _ _).trans ?_
    obtain rfl : b = 0 := Fin.ext (by show b.val = 0; omega)
    obtain rfl : r = _ := Fin.ext h2
    obtain rfl : l = _ := Fin.ext h3
    refine congrArg₂ (· * ·) (congrArg₂ (· * ·) (expert_congr (fun _ => rfl) (fun _ _ => congrFun (Memref.IsWhole.read_unread _ _) _) (fun _ _ => congrFun (Memref.IsWhole.read_unread _ _) _) (fun _ => congrFun (Memref.IsWhole.read_unread _ _) _)) ?_) ?_
    · pointwise
    · pointwise

/-- The stored weights stay as they are through an expert's other tiles. -/
theorem weightsB_at (c : Dev nD) (t : Fin cfg0.N) (h0' : ¬t.val % 4 = 0) :
    (outsAt0 m c t.val t.isLt).2 = (outsAt0 m c (t.val - 1) (Nat.lt_of_le_of_lt (Nat.sub_le _ _) t.isLt)).2 := by
  rw [outsAt0_B m c t h0']
  rfl

end Cert.Kernel2Ideal.Value

end
-- ==== Proof.Ffn.Array.lean ====
/- What the expert network leaves in its result array: every slot through its expert, its gate and its modulation. -/
module

public import proofs.«01_k».proof.Proof.Ffn.Body

@[expose] public section

set_option maxRecDepth 16384

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

/-- The slots' rows. -/
abbrev argX (c : Dev nD) : FVec Ideal S8x16x256x1024 .bf16 := m (c.tc.loc main_arg0)

/-- The slots' gates. -/
abbrev argG (c : Dev nD) : FVec Ideal S8x16x256 .f32 := m (c.tc.loc main_arg1)

/-- The latent rows' modulation. -/
abbrev argM (c : Dev nD) : FVec Ideal S8x6x1024 .f32 := m (c.tc.loc main_arg2)

/-- The context rows' modulation. -/
abbrev argC (c : Dev nD) : FVec Ideal S6x1024 .f32 := m (c.tc.loc main_arg3)

/-- The gate matrices. -/
abbrev argWG (c : Dev nD) : FVec Ideal S4x16x1024x1024 .f32 := m (c.tc.loc main_arg4)

/-- The up matrices. -/
abbrev argWU (c : Dev nD) : FVec Ideal S4x16x1024x1024 .f32 := m (c.tc.loc main_arg5)

/-- The down matrices. -/
abbrev argWD (c : Dev nD) : FVec Ideal S4x16x1024x1024 .f32 := m (c.tc.loc main_arg6)

/-- The gates as the kernel is handed them: each along a row of lanes. -/
def wideG (g : FVec Ideal S8x16x256 .f32) : FVec Ideal S8x16x256x128 .f32 :=
  broadcastInDim S8x16x256x128 ![0, 1, 2, 3] bcast_S8x16x256x1_S8x16x256x128_0_1_2_3 (broadcastInDim S8x16x256x1 ![0, 1, 2] bcast_S8x16x256_S8x16x256x1_0_1_2 g)

/-- The modulations as the kernel is handed them: the latent rows' beside the context rows'. -/
def bothM (a : FVec Ideal S8x6x1024 .f32) (b : FVec Ideal S6x1024 .f32) : FVec Ideal S8x2x6x1024 .f32 :=
  concatenate S8x2x6x1024 1 [⟨S8x1x6x1024, broadcastInDim S8x1x6x1024 ![0, 2, 3] bcast_S8x6x1024_S8x1x6x1024_0_2_3 a⟩,
    ⟨S8x1x6x1024, broadcastInDim S8x1x6x1024 ![0, 1, 2, 3] bcast_S1x1x6x1024_S8x1x6x1024_0_1_2_3 (broadcastInDim S1x1x6x1024 ![2, 3] bcast_S6x1024_S1x1x6x1024_2_3 b)⟩]
    concatenates_S8x1x6x1024_S8x1x6x1024_S8x2x6x1024_d1

/-- The second operand at launch. -/
theorem entryG (c : Dev nD) : V m c main_v5 = wideG (argG m c) := by
  unfold V
  after_results
  try rfl

/-- The third operand at launch. -/
theorem entryM (c : Dev nD) : V m c main_v3 = bothM (argM m c) (argC m c) := by
  unfold V
  after_results
  try rfl

/-- A gate as handed over. -/
theorem wideG_at (g : FVec Ideal S8x16x256 .f32) (b : Fin 8) (e : Fin 16) (r : Fin 256) (l : Fin 128) : wideG g (ix4 b e r l) = g (ix3 b e r) := by
  pointwise [wideG]

/-- The latent rows' modulation as handed over. -/
theorem bothM_at (a : FVec Ideal S8x6x1024 .f32) (s : FVec Ideal S6x1024 .f32) (b : Fin 8) (k : Fin 6) (l : Fin 1024) : bothM a s (ix4 b 0 k l) = a (ix3 b k l) := by
  pointwise [bothM]

/-- The block each window reads or writes at a grid point. -/
theorem idx : ∀ t : Fin cfg0.N, win0_0.index t = ![t.val % 4, t.val / 4, 0, 0] ∧ win0_1.index t = ![t.val % 4, t.val / 4, 0, 0]
    ∧ win0_2.index t = ![t.val % 4, 0, 0, 0] ∧ win0_3.index t = ![2, t.val / 4, 0, 0] ∧ win0_4.index t = ![2, t.val / 4, 0, 0]
    ∧ win0_5.index t = ![2, t.val / 4, 0, 0] ∧ win0_6.index t = ![t.val % 4, t.val / 4, 0, 0] :=
  (by decide +kernel : ∀ t : Fin grid0.N, _)

/-- The grid has 64 points. -/
theorem t_lt (t : Fin cfg0.N) : t.val < 64 := t.isLt

/-- The expert of a grid point. -/
abbrev expertOf (t : Fin cfg0.N) : Fin 16 := ⟨t.val / 4, by have := t_lt t; omega⟩

/-- The batch of a grid point's half. -/
abbrev batchOf (t : Fin cfg0.N) (b : Fin 2) : Fin 8 := ⟨t.val % 4 * 2 + b, by omega⟩

/-- The rows' block at a grid point. -/
theorem blkX (c : Dev nD) (t : Fin cfg0.N) (b : Fin 2) (z : Fin 1) (r : Fin 256) (l : Fin 1024) :
    iblk m c 0 t (ix4 b z r l) = argX m c (ix4 (batchOf t b) (expertOf t) r l) := by
  refine Eq.trans ?_ (congrFun (V_main_arg0 m c) _)
  blk_ext [iblk, idx t]

/-- The gates' block at a grid point. -/
theorem blkG (c : Dev nD) (t : Fin cfg0.N) (b : Fin 2) (z : Fin 1) (r : Fin 256) (l : Fin 128) :
    iblk m c 1 t (ix4 b z r l) = argG m c (ix3 (batchOf t b) (expertOf t) r) := by
  refine Eq.trans ?_ (wideG_at (argG m c) (batchOf t b) (expertOf t) r l)
  refine Eq.trans ?_ (congrFun (entryG m c) _)
  blk_ext [iblk, idx t]

/-- The modulation's block at a grid point. -/
theorem blkM (c : Dev nD) (t : Fin cfg0.N) (b : Fin 2) (z : Fin 1) (k : Fin 6) (l : Fin 1024) :
    iblk m c 2 t (ix4 b z k l) = argM m c (ix3 (batchOf t b) k l) := by
  refine Eq.trans ?_ (bothM_at (argM m c) (argC m c) (batchOf t b) k l)
  refine Eq.trans ?_ (congrFun (entryM m c) _)
  blk_ext [iblk, idx t]

/-- The gate matrix at a grid point. -/
theorem blkWG (c : Dev nD) (t : Fin cfg0.N) (z z' : Fin 1) (d f : Fin 1024) :
    iblk m c 3 t (ix4 z z' d f) = argWG m c (ix4 2 (expertOf t) d f) := by
  refine Eq.trans ?_ (congrFun (V_main_arg4 m c) _)
  blk_ext [iblk, idx t]

/-- The up matrix at a grid point. -/
theorem blkWU (c : Dev nD) (t : Fin cfg0.N) (z z' : Fin 1) (d f : Fin 1024) :
    iblk m c 4 t (ix4 z z' d f) = argWU m c (ix4 2 (expertOf t) d f) := by
  refine Eq.trans ?_ (congrFun (V_main_arg5 m c) _)
  blk_ext [iblk, idx t]

/-- The down matrix at a grid point. -/
theorem blkWD (c : Dev nD) (t : Fin cfg0.N) (z z' : Fin 1) (d f : Fin 1024) :
    iblk m c 5 t (ix4 z z' d f) = argWD m c (ix4 2 (expertOf t) d f) := by
  refine Eq.trans ?_ (congrFun (V_main_arg6 m c) _)
  blk_ext [iblk, idx t]

/-- At every point the stored weights are the matrices of the point's own expert. -/
theorem weights_at (c : Dev nD) : ∀ (k : ℕ) (t : Fin cfg0.N), t.val % 4 = k → ∀ d f,
      (outsAt0 m c t.val t.isLt).2.1 (ix2 d f) = argWG m c (ix4 2 (expertOf t) d f)
      ∧ (outsAt0 m c t.val t.isLt).2.2.1 (ix2 d f) = argWU m c (ix4 2 (expertOf t) d f)
      ∧ (outsAt0 m c t.val t.isLt).2.2.2 (ix2 d f) = argWD m c (ix4 2 (expertOf t) d f)
  | 0, t, h, d, f => ⟨(gateA_at m c t h d f).trans (blkWG m c t 0 0 d f), (upA_at m c t h d f).trans (blkWU m c t 0 0 d f), (downA_at m c t h d f).trans (blkWD m c t 0 0 d f)⟩
  | k + 1, t, h, d, f => by
    have hp := weights_at c k ⟨t.val - 1, Nat.lt_of_le_of_lt (Nat.sub_le _ _) t.isLt⟩ (by show (t.val - 1) % 4 = k; omega) d f
    have he : expertOf ⟨t.val - 1, Nat.lt_of_le_of_lt (Nat.sub_le _ _) t.isLt⟩ = expertOf t := Fin.ext (by show (t.val - 1) / 4 = t.val / 4; omega)
    rw [he] at hp
    rw [weightsB_at m c t (by omega)]
    exact hp

/-- The kernel's result. -/
def KER (X : FVec Ideal S8x16x256x1024 .bf16) (g : FVec Ideal S8x16x256 .f32) (M : FVec Ideal S8x6x1024 .f32) (G U D : FVec Ideal S4x16x1024x1024 .f32) : FVec Ideal S8x16x256x1024 .bf16 :=
  fun i => Ffn.expert (fun d => X (ix4 (i 0) (i 1) (i 2) d)) (fun d f => G (ix4 2 (i 1) d f)) (fun d f => U (ix4 2 (i 1) d f)) (fun f => D (ix4 2 (i 1) f (i 3)))
    * g (ix3 (i 0) (i 1) (i 2)) * M (ix3 (i 0) 5 (i 3))

/-- What a grid point stores is its block of the result. -/
theorem point (c : Dev nD) (t : Fin cfg0.N) (b : Fin 2) (z : Fin 1) (r : Fin 256) (l : Fin 1024) :
    (outsAt0 m c t.val t.isLt).1 (ix4 b z r l)
      = KER (argX m c) (argG m c) (argM m c) (argWG m c) (argWU m c) (argWD m c) (ix4 (batchOf t b) (expertOf t) r l) := by
  by_cases hA : t.val % 4 = 0
  · refine (outA_at m c t hA b z r l).trans ?_
    exact congrArg₂ (· * ·) (congrArg₂ (· * ·) (expert_congr (fun d => blkX m c t b 0 r d) (fun d f => blkWG m c t 0 0 d f) (fun d f => blkWU m c t 0 0 d f) (fun f => blkWD m c t 0 0 f l))
      (blkG m c t b 0 r 0)) (blkM m c t b 0 5 l)
  · have hw := fun d f => weightsB_at m c t hA ▸ weights_at m c _ t rfl d f
    refine (outB_at m c t hA b z r l).trans ?_
    exact congrArg₂ (· * ·) (congrArg₂ (· * ·) (expert_congr (fun d => blkX m c t b 0 r d) (fun d f => (hw d f).1) (fun d f => (hw d f).2.1) (fun f => (hw f l).2.2))
      (blkG m c t b 0 r 0)) (blkM m c t b 0 5 l)

/-- The result array after the run. -/
theorem final (c : Dev nD) : (dats m 0 c).arrAt 6 cfg0.N
    = KER (argX m c) (argG m c) (argM m c) (argWG m c) (argWU m c) (argWD m c) := by
  refine (dats m 0 c).arrAt_eq_of_covers 6 _ (by decide +kernel) fun t _ y => ?_
  blk_simp
  rw [after0_6]
  idx_vars y
  refine (point m c t _ _ _ _).trans (congrArg _ ?_)
  blk_ext [idx t]

end Cert.Kernel2Ideal.Value

end
-- ==== Proof.Ffn.Reference.lean ====
/- What the expert network's reference computes: its result read at an index, as one entry of the expert. -/
module

public import proofs.«01_k».proof.Proof.Gen.Reference2Ideal
public import proofs.«01_k».proof.Proof.Ffn.Expert

@[expose] public section

set_option maxRecDepth 16384

noncomputable section

namespace Cert.Reference2Ideal.Value

open Idealize.ShloMosaic Idealize.ShloMosaic.TcCoe Idealize.SL.Sem
open Cert.Reference2Ideal Cert.Reference2Ideal.Gen

/-- One layer's weights. -/
def layer (W : FVec Ideal S4x16x1024x1024 .f32) : FVec Ideal S16x1024x1024 .f32 :=
  shapeCast _ (extractStridedSlice S1x16x1024x1024 ![2, 0, 0, 0] W slices_S4x16x1024x1024_S1x16x1024x1024_2_0_0_0) shapeCasts_S1x16x1024x1024_S16x1024x1024

/-- Every slot times its expert's matrix. -/
def proj (W : FVec Ideal S16x1024x1024 .f32) (X : FVec Ideal S8x16x256x1024 .f32) : FVec Ideal S8x16x256x1024 .f32 :=
  transpose S8x16x256x1024 [2, 0, 3, 1] (Host.dotGeneral dot_S16x1024x1024_S8x16x256x1024_S16x1024x8x256_1_3_2_02_0_1 none W X) transposes_S16x1024x8x256_S8x16x256x1024_2_0_3_1

/-- The gated product of two projections. -/
def gated (A U : FVec Ideal S8x16x256x1024 .f32) : FVec Ideal S8x16x256x1024 .f32 :=
  mulf (mulf A (Host.divf (broadcastInDim S8x16x256x1024 ![] bcast_S_S8x16x256x1024 (constant S_ .f32 0x3F800000#32))
    (addf (broadcastInDim S8x16x256x1024 ![] bcast_S_S8x16x256x1024 (constant S_ .f32 0x3F800000#32)) (Host.exp (Host.negf A))))) U

/-- The output scaled by the slots' gates and the modulation's last row. -/
def scaled (O : FVec Ideal S8x16x256x1024 .f32) (g : FVec Ideal S8x16x256 .f32) (M : FVec Ideal S8x6x1024 .f32) : FVec Ideal S8x16x256x1024 .bf16 :=
  truncf .bf16 (mulf (broadcastInDim S8x16x256x1024 ![0, 1, 2, 3] bcast_S8x1x1x1024_S8x16x256x1024_0_1_2_3 (broadcastInDim S8x1x1x1024 ![0, 3] bcast_S8x1024_S8x1x1x1024_0_3
      (shapeCast _ (extractStridedSlice S8x1x1024 ![0, 5, 0] M slices_S8x6x1024_S8x1x1024_0_5_0) shapeCasts_S8x1x1024_S8x1024)))
    (mulf O (broadcastInDim S8x16x256x1024 ![0, 1, 2, 3] bcast_S8x16x256x1_S8x16x256x1024_0_1_2_3 (broadcastInDim S8x16x256x1 ![0, 1, 2] bcast_S8x16x256_S8x16x256x1_0_1_2 g))))
    bitsLt_bf16_f32

/-- The reference's result. -/
def REF (X : FVec Ideal S8x16x256x1024 .bf16) (g : FVec Ideal S8x16x256 .f32) (M : FVec Ideal S8x6x1024 .f32) (G U D : FVec Ideal S4x16x1024x1024 .f32) : FVec Ideal S8x16x256x1024 .bf16 :=
  scaled (proj (layer D) (gated (proj (layer G) (extf .f32 X bitsLt_bf16_f32)) (proj (layer U) (extf .f32 X bitsLt_bf16_f32)))) g M

/-- A layer's weight. -/
theorem layer_at (W : FVec Ideal S4x16x1024x1024 .f32) (e : Fin 16) (d f : Fin 1024) : layer W (ix3 e d f) = W (ix4 2 e d f) := by
  pointwise [layer]

/-- An entry of a projection. -/
theorem proj_at (W : FVec Ideal S16x1024x1024 .f32) (X : FVec Ideal S8x16x256x1024 .f32) (b : Fin 8) (e : Fin 16) (r : Fin 256) (f : Fin 1024) :
    proj W X (ix4 b e r f) = ∑ d : Fin 1024, X (ix4 b e r d) * W (ix3 e d f) := by
  refine Eq.trans ?_ (Finset.sum_congr rfl fun d _ => mul_comm (W (ix3 e d f)) (X (ix4 b e r d)))
  pointwise [proj]

/-- An entry of the gated product. -/
theorem gated_at (A U : FVec Ideal S8x16x256x1024 .f32) (b : Fin 8) (e : Fin 16) (r : Fin 256) (f : Fin 1024) :
    gated A U (ix4 b e r f) = Ffn.silu (A (ix4 b e r f)) * U (ix4 b e r f) := by
  pointwise [gated, Ffn.silu]

/-- An entry of the scaled output. -/
theorem scaled_at (O : FVec Ideal S8x16x256x1024 .f32) (g : FVec Ideal S8x16x256 .f32) (M : FVec Ideal S8x6x1024 .f32) (b : Fin 8) (e : Fin 16) (r : Fin 256) (l : Fin 1024) :
    scaled O g M (ix4 b e r l) = O (ix4 b e r l) * g (ix3 b e r) * M (ix3 b 5 l) := by
  refine Eq.trans ?_ (mul_comm (M (ix3 b 5 l)) (O (ix4 b e r l) * g (ix3 b e r)))
  pointwise [scaled]

/-- An entry of the reference's result. -/
theorem REF_at (X : FVec Ideal S8x16x256x1024 .bf16) (g : FVec Ideal S8x16x256 .f32) (M : FVec Ideal S8x6x1024 .f32) (G U D : FVec Ideal S4x16x1024x1024 .f32)
    (b : Fin 8) (e : Fin 16) (r : Fin 256) (l : Fin 1024) :
    REF X g M G U D (ix4 b e r l)
      = Ffn.expert (fun d => X (ix4 b e r d)) (fun d f => G (ix4 2 e d f)) (fun d f => U (ix4 2 e d f)) (fun f => D (ix4 2 e f l)) * g (ix3 b e r) * M (ix3 b 5 l) := by
  unfold REF
  rw [scaled_at, proj_at]
  unfold Ffn.expert Ffn.hidden
  simp only [gated_at, proj_at, layer_at]
  rfl

end Cert.Reference2Ideal.Value

end
-- ==== Proof.Ffn.Equal.lean ====
/- The expert network's equation: the kernel's result is the reference's. -/
module

public import proofs.«01_k».proof.Proof.Ffn.Array
public import proofs.«01_k».proof.Proof.Ffn.Reference

@[expose] public section

set_option maxRecDepth 16384

noncomputable section

namespace Cert.Ffn

open Idealize.ShloMosaic
open Cert.Kernel2Ideal (S8x16x256x1024 S8x16x256 S8x6x1024 S4x16x1024x1024)

/-- The kernel's result is the reference's, whatever the rows, gates, modulation and matrices. -/
theorem KER_eq (X : FVec Ideal S8x16x256x1024 .bf16) (g : FVec Ideal S8x16x256 .f32) (M : FVec Ideal S8x6x1024 .f32) (G U D : FVec Ideal S4x16x1024x1024 .f32) :
    Cert.Kernel2Ideal.Value.KER X g M G U D = Cert.Reference2Ideal.Value.REF X g M G U D := by
  funext j
  idx_vars j
  exact (Cert.Reference2Ideal.Value.REF_at X g M G U D j0 j1 j2 j3).symm

end Cert.Ffn

end
-- ==== Proof.Moe.Ideal.Cases.lean ====
/- The three kinds of steps of the two-set expert call and the buffers a step works in. -/
module

public import proofs.«01_k».proof.Proof.Gen.Kernel3Ideal.Frame
public import proofs.«01_k».proof.Proof.Gen.Kernel3Ideal.Skeleton
public import Idealize.ShloMosaic.Lib.Claim

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first step of an expert: the weights are cast into the scratch. -/
abbrev isFirst (i : grid0.Coords) : Prop := (Scalar.cmpi .ne (Scalar.extui (Scalar.cmpi .eq (BitVec.ofNat 32 (i 1).val) 0#32)) 0#32) = 1#1
/-- A step on the latent rows. -/
abbrev isLatent (i : grid0.Coords) : Prop := k0_cond2 i = 1#1
/-- The step on the context rows. -/
abbrev isContext (i : grid0.Coords) : Prop := k0_cond3 i = 1#1

theorem step_val : ∀ t : Fin grid0.N, (grid0.coords t 1).val = t.val % 5 := fun t =>
  (Pipeline.Grid.coords_val t 1 (by decide) rfl : (grid0.coords t 1).val = t.val / 1 % 5).trans (by rw [Nat.div_one])

/-- The weights are cast at the steps divisible by five, -/
theorem isFirst_iff : ∀ t : Fin cfg0.N, isFirst (grid0.coords t) ↔ t.val % 5 = 0 :=
  (fun t => by
    have ht : t.val < 80 := Nat.lt_of_lt_of_eq t.isLt N_0
    simp only [isFirst, step_val t]
    word_cmp : ∀ t : Fin grid0.N, isFirst (grid0.coords t) ↔ t.val % 5 = 0)
/-- the latent rows are worked on at all steps but every fifth, -/
theorem isLatent_iff : ∀ t : Fin cfg0.N, isLatent (grid0.coords t) ↔ t.val % 5 < 4 :=
  (fun t => by
    have ht : t.val < 80 := Nat.lt_of_lt_of_eq t.isLt N_0
    simp only [isLatent, k0_cond2, step_val t]
    word_cmp : ∀ t : Fin grid0.N, isLatent (grid0.coords t) ↔ t.val % 5 < 4)
/-- and the context rows at every fifth. -/
theorem isContext_iff : ∀ t : Fin cfg0.N, isContext (grid0.coords t) ↔ t.val % 5 = 4 :=
  (fun t => by
    have ht : t.val < 80 := Nat.lt_of_lt_of_eq t.isLt N_0
    simp only [isContext, k0_cond3, step_val t]
    word_cmp : ∀ t : Fin grid0.N, isContext (grid0.coords t) ↔ t.val % 5 = 4)

/-! The staging buffer of each window at a step, and the three scratch buffers. -/

abbrev ms0 (t : Fin cfg0.N) : Memref sig .tc .vmem S2x1x256x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x1x256x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x1x6x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x256x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x256x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x6x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x1024x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x1024x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1x1024x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2x1x256x1024 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x1x256x1024 .bf16 := win0_10.stage (cfg0.slots t 10)
abbrev hs10 (t : Fin cfg0.N) : (ms10 t).IsWhole := hstage0_10 ((cfg0.slots t 10).cast nbuf0_10)
abbrev scr0M : Memref sig .tc .vmem S1024x1024 .bf16 := Memref.whole cc0_scratch0
abbrev scr0V : View sig .tc .vmem S1024x1024 .bf16 := scr0M.view
abbrev scr1M : Memref sig .tc .vmem S1024x1024 .bf16 := Memref.whole cc0_scratch1
abbrev scr1V : View sig .tc .vmem S1024x1024 .bf16 := scr1M.view
abbrev scr2M : Memref sig .tc .vmem S1024x1024 .bf16 := Memref.whole cc0_scratch2
abbrev scr2V : View sig .tc .vmem S1024x1024 .bf16 := scr2M.view
/-- A latent result buffer and a context result buffer, through which their contents are stated. -/
abbrev latV : View sig .tc .vmem S2x1x256x1024 .bf16 := (Memref.whole cc0_stg9_0 : Memref sig .tc .vmem S2x1x256x1024 .bf16).view
abbrev ctxV : View sig .tc .vmem S1x1x256x1024 .bf16 := (Memref.whole cc0_stg10_0 : Memref sig .tc .vmem S1x1x256x1024 .bf16).view

/-- What the launch hands over beside the windows: the three scratch buffers at some contents and the generator register. -/
theorem free_eq (c : Dev nD) :
    (Pipeline.ΦA spec0 c : sProp 𝕄)
      = iprop(iprop((∃ d, owns (c : Thread nD τ) scr0M fullShare d) ∗ (∃ d, owns (c : Thread nD τ) scr1M fullShare d) ∗ (∃ d, owns (c : Thread nD τ) scr2M fullShare d)) ∗ (∃ r, prngReg c r)) := by
  unfold Pipeline.ΦA; rw [scopedRest0_eq]; simp only [scr0M, scr1M, scr2M, owns_whole]; try rfl

end Cert.Kernel3Ideal.Moe

end
-- ==== Proof.Moe.Ideal.First.lean ====
/- An expert's first step: the stores it makes into the latent result block and into the scratch, from the weights and the latent rows. -/
module

public import proofs.«01_k».proof.Proof.Moe.Ideal.Cases

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- An expert's first step: the stores it makes into the latent result block and into the scratch, from the weights and the latent rows. -/
def runFirst (c : Dev nD) (i : grid0.Coords) (arg2 : Memref sig .tc .vmem S2x1x256x1024 .bf16) (harg2 : arg2.IsWhole) (arg3 : Memref sig .tc .vmem S2x1x256x128 .f32) (harg3 : arg3.IsWhole) (arg4 : Memref sig .tc .vmem S2x1x6x1024 .f32) (harg4 : arg4.IsWhole) (arg5 : Memref sig .tc .vmem S1x1x256x1024 .bf16) (harg5 : arg5.IsWhole) (arg6 : Memref sig .tc .vmem S1x1x256x128 .f32) (harg6 : arg6.IsWhole) (arg7 : Memref sig .tc .vmem S1x1x6x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .f32) (harg10 : arg10.IsWhole) (arg11 : Memref sig .tc .vmem S2x1x256x1024 .bf16) (harg11 : arg11.IsWhole) (arg12 : Memref sig .tc .vmem S1x1x256x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (h0 : isFirst i) (h1 : isLatent i) (h2 : ¬isContext i)
    (x2 : Vec F S2x1x256x1024 .bf16) (x3 : Vec F S2x1x256x128 .f32) (x4 : Vec F S2x1x6x1024 .f32) (x8 : Vec F S1x1x1024x1024 .f32) (x9 : Vec F S1x1x1024x1024 .f32) (x10 : Vec F S1x1x1024x1024 .f32) :
    Σ' (L11 : List (View.Piece (Elt F) S2x1x256x1024 .bf16)), Σ' (L13 : List (View.Piece (Elt F) S1024x1024 .bf16)), Σ' (L14 : List (View.Piece (Elt F) S1024x1024 .bf16)), { L15 : List (View.Piece (Elt F) S1024x1024 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x2 ∗ owns (c : Thread nD τ) arg3 fullShare x3 ∗ owns (c : Thread nD τ) arg4 fullShare x4 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15)) -∗ K ⟨⟩))
          ⊢ wp frame (wpE (defs₀ (F := F)) Variants.none c none) E (cc0_moe_ffn i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_moe_ffn_eq_skeleton]; unfold cc0_moe_ffn_skel
    simp only [k0_part3_eq_skeleton, k0_part1_eq_skeleton, k0_part2_eq_skeleton]
    unfold owns
    iintro ⟨⟨%f2, %e2, H2⟩, ⟨%f3, %e3, H3⟩, ⟨%f4, %e4, H4⟩, ⟨%f8, %e8, H8⟩, ⟨%f9, %e9, H9⟩, ⟨%f10, %e10, H10⟩, ⟨%d11, %f11, -, H11⟩, ⟨%d13, %f13, -, H13⟩, ⟨%d14, %f14, -, H14⟩, ⟨%d15, %f15, -, H15⟩, Hk⟩
    obtain rfl := harg2.eq_unread e2; obtain rfl := harg3.eq_unread e3; obtain rfl := harg4.eq_unread e4; obtain rfl := harg8.eq_unread e8; obtain rfl := harg9.eq_unread e9; obtain rfl := harg10.eq_unread e10
    sl_exec (disch := first | sl_exact h0 | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H13]; · iexists _; iexact H13
    isplitl [H14]; · iexists _; iexact H14
    iexists _; iexact H15

/-- The stores into `arg11` cover it. -/
theorem runFirst_covers11 (c : Dev nD) (i : grid0.Coords) (arg2 : Memref sig .tc .vmem S2x1x256x1024 .bf16) (harg2 : arg2.IsWhole) (arg3 : Memref sig .tc .vmem S2x1x256x128 .f32) (harg3 : arg3.IsWhole) (arg4 : Memref sig .tc .vmem S2x1x6x1024 .f32) (harg4 : arg4.IsWhole) (arg5 : Memref sig .tc .vmem S1x1x256x1024 .bf16) (harg5 : arg5.IsWhole) (arg6 : Memref sig .tc .vmem S1x1x256x128 .f32) (harg6 : arg6.IsWhole) (arg7 : Memref sig .tc .vmem S1x1x6x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .f32) (harg10 : arg10.IsWhole) (arg11 : Memref sig .tc .vmem S2x1x256x1024 .bf16) (harg11 : arg11.IsWhole) (arg12 : Memref sig .tc .vmem S1x1x256x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (h0 : isFirst i) (h1 : isLatent i) (h2 : ¬isContext i)
    (x2 : Vec F S2x1x256x1024 .bf16) (x3 : Vec F S2x1x256x128 .f32) (x4 : Vec F S2x1x6x1024 .f32) (x8 : Vec F S1x1x1024x1024 .f32) (x9 : Vec F S1x1x1024x1024 .f32) (x10 : Vec F S1x1x1024x1024 .f32) (y : S2x1x256x1024.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 h0 h1 h2 x2 x3 x4 x8 x9 x10).1, y ∈ pc.1.set :=
  View.cover_of_tiledL (runFirst c i arg2 harg2 arg3 harg3 arg4 harg4 arg5 harg5 arg6 harg6 arg7 harg7 arg8 harg8 arg9 harg9 arg10 harg10 arg11 harg11 arg12 harg12 arg13 harg13 arg14 harg14 arg15 harg15 h0 h1 h2 x2 x3 x4 x8 x9 x10).1 S1x1x256x1024.size (by sl_kernel_rfl) y

/-- The stores into `arg13` cover it. -/
theorem runFirst_covers13 (c : Dev nD) (i : grid0.Coords) (arg2 : Memref sig .tc .vmem S2x1x256x1024 .bf16) (harg2 : arg2.IsWhole) (arg3 : Memref sig .tc .vmem S2x1x256x128 .f32) (harg3 : arg3.IsWhole) (arg4 : Memref sig .tc .vmem S2x1x6x1024 .f32) (harg4 : arg4.IsWhole) (arg5 : Memref sig .tc .vmem S1x1x256x1024 .bf16) (harg5 : arg5.IsWhole) (arg6 : Memref sig .tc .vmem S1x1x256x128 .f32) (harg6 : arg6.IsWhole) (arg7 : Memref sig .tc .vmem S1x1x6x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .f32) (harg10 : arg10.IsWhole) (arg11 : Memref sig .tc .vmem S2x1x256x1024 .bf16) (harg11 : arg11.IsWhole) (arg12 : Memref sig .tc .vmem S1x1x256x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (h0 : isFirst i) (h1 : isLatent i) (h2 : ¬isContext i)
    (x2 : Vec F S2x1x256x1024 .bf16) (x3 : Vec F S2x1x256x128 .f32) (x4 : Vec F S2x1x6x1024 .f32) (x8 : Vec F S1x1x1024x1024 .f32) (x9 : Vec F S1x1x1024x1024 .f32) (x10 : Vec F S1x1x1024x1024 .f32) (y : S1024x1024.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 h0 h1 h2 x2 x3 x4 x8 x9 x10).2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 arg13 harg13 arg14 harg14 arg15 harg15 h0 h1 h2 x2 x3 x4 x8 x9 x10).2.1 S256x1024.size (by sl_kernel_rfl) y

/-- The stores into `arg14` cover it. -/
theorem runFirst_covers14 (c : Dev nD) (i : grid0.Coords) (arg2 : Memref sig .tc .vmem S2x1x256x1024 .bf16) (harg2 : arg2.IsWhole) (arg3 : Memref sig .tc .vmem S2x1x256x128 .f32) (harg3 : arg3.IsWhole) (arg4 : Memref sig .tc .vmem S2x1x6x1024 .f32) (harg4 : arg4.IsWhole) (arg5 : Memref sig .tc .vmem S1x1x256x1024 .bf16) (harg5 : arg5.IsWhole) (arg6 : Memref sig .tc .vmem S1x1x256x128 .f32) (harg6 : arg6.IsWhole) (arg7 : Memref sig .tc .vmem S1x1x6x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .f32) (harg10 : arg10.IsWhole) (arg11 : Memref sig .tc .vmem S2x1x256x1024 .bf16) (harg11 : arg11.IsWhole) (arg12 : Memref sig .tc .vmem S1x1x256x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (h0 : isFirst i) (h1 : isLatent i) (h2 : ¬isContext i)
    (x2 : Vec F S2x1x256x1024 .bf16) (x3 : Vec F S2x1x256x128 .f32) (x4 : Vec F S2x1x6x1024 .f32) (x8 : Vec F S1x1x1024x1024 .f32) (x9 : Vec F S1x1x1024x1024 .f32) (x10 : Vec F S1x1x1024x1024 .f32) (y : S1024x1024.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 h0 h1 h2 x2 x3 x4 x8 x9 x10).2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 arg13 harg13 arg14 harg14 arg15 harg15 h0 h1 h2 x2 x3 x4 x8 x9 x10).2.2.1 S256x1024.size (by sl_kernel_rfl) y

/-- The stores into `arg15` cover it. -/
theorem runFirst_covers15 (c : Dev nD) (i : grid0.Coords) (arg2 : Memref sig .tc .vmem S2x1x256x1024 .bf16) (harg2 : arg2.IsWhole) (arg3 : Memref sig .tc .vmem S2x1x256x128 .f32) (harg3 : arg3.IsWhole) (arg4 : Memref sig .tc .vmem S2x1x6x1024 .f32) (harg4 : arg4.IsWhole) (arg5 : Memref sig .tc .vmem S1x1x256x1024 .bf16) (harg5 : arg5.IsWhole) (arg6 : Memref sig .tc .vmem S1x1x256x128 .f32) (harg6 : arg6.IsWhole) (arg7 : Memref sig .tc .vmem S1x1x6x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .f32) (harg10 : arg10.IsWhole) (arg11 : Memref sig .tc .vmem S2x1x256x1024 .bf16) (harg11 : arg11.IsWhole) (arg12 : Memref sig .tc .vmem S1x1x256x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (h0 : isFirst i) (h1 : isLatent i) (h2 : ¬isContext i)
    (x2 : Vec F S2x1x256x1024 .bf16) (x3 : Vec F S2x1x256x128 .f32) (x4 : Vec F S2x1x6x1024 .f32) (x8 : Vec F S1x1x1024x1024 .f32) (x9 : Vec F S1x1x1024x1024 .f32) (x10 : Vec F S1x1x1024x1024 .f32) (y : S1024x1024.Idx) :
    ∃ pc ∈ (runFirst c i arg2 harg2 arg3 harg3 arg4 harg4 arg5 harg5 arg6 harg6 arg7 harg7 arg8 harg8 arg9 harg9 arg10 harg10 arg11 harg11 arg12 harg12 arg13 harg13 arg14 harg14 arg15 harg15 h0 h1 h2 x2 x3 x4 x8 x9 x10).2.2.2.1, y ∈ pc.1.set :=
  View.cover_of_tiledL (runFirst c i arg2 harg2 arg3 harg3 arg4 harg4 arg5 harg5 arg6 harg6 arg7 harg7 arg8 harg8 arg9 harg9 arg10 harg10 arg11 harg11 arg12 harg12 arg13 harg13 arg14 harg14 arg15 harg15 h0 h1 h2 x2 x3 x4 x8 x9 x10).2.2.2.1 S256x1024.size (by sl_kernel_rfl) y

end Cert.Kernel3Ideal.Moe

end
-- ==== Proof.Moe.Ideal.Middle.lean ====
/- A later latent step: the stores it makes into the latent result block, from the scratch and the latent rows. -/
module

public import proofs.«01_k».proof.Proof.Moe.Ideal.Cases

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A later latent step: the stores it makes into the latent result block, from the scratch and the latent rows. -/
def runMiddle (c : Dev nD) (i : grid0.Coords) (arg2 : Memref sig .tc .vmem S2x1x256x1024 .bf16) (harg2 : arg2.IsWhole) (arg3 : Memref sig .tc .vmem S2x1x256x128 .f32) (harg3 : arg3.IsWhole) (arg4 : Memref sig .tc .vmem S2x1x6x1024 .f32) (harg4 : arg4.IsWhole) (arg5 : Memref sig .tc .vmem S1x1x256x1024 .bf16) (harg5 : arg5.IsWhole) (arg6 : Memref sig .tc .vmem S1x1x256x128 .f32) (harg6 : arg6.IsWhole) (arg7 : Memref sig .tc .vmem S1x1x6x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .f32) (harg10 : arg10.IsWhole) (arg11 : Memref sig .tc .vmem S2x1x256x1024 .bf16) (harg11 : arg11.IsWhole) (arg12 : Memref sig .tc .vmem S1x1x256x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (h0 : ¬isFirst i) (h1 : isLatent i) (h2 : ¬isContext i)
    (x2 : Vec F S2x1x256x1024 .bf16) (x3 : Vec F S2x1x256x128 .f32) (x4 : Vec F S2x1x6x1024 .f32) (x13 : Vec F S1024x1024 .bf16) (x14 : Vec F S1024x1024 .bf16) (x15 : Vec F S1024x1024 .bf16) :
    { L11 : List (View.Piece (Elt F) S2x1x256x1024 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg13 fullShare x13 ∗ owns (c : Thread nD τ) arg14 fullShare x14 ∗ owns (c : Thread nD τ) arg15 fullShare x15 ∗ (∃ d, owns (c : Thread nD τ) arg11 fullShare d)
            ∗ (iprop(owns (c : Thread nD τ) arg2 fullShare x2 ∗ owns (c : Thread nD τ) arg3 fullShare x3 ∗ owns (c : Thread nD τ) arg4 fullShare x4 ∗ owns (c : Thread nD τ) arg13 fullShare x13 ∗ owns (c : Thread nD τ) arg14 fullShare x14 ∗ owns (c : Thread nD τ) arg15 fullShare x15 ∗ (∃ f, arg11.view.loc (c : Thread nD τ) ↦[arg11.view.set]{fullShare} arg11.view.writes (Elt F) f L11)) -∗ K ⟨⟩))
          ⊢ wp frame (wpE (defs₀ (F := F)) Variants.none c none) E (cc0_moe_ffn i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_moe_ffn_eq_skeleton]; unfold cc0_moe_ffn_skel
    simp only [k0_part3_eq_skeleton, k0_part1_eq_skeleton, k0_part2_eq_skeleton]
    unfold owns
    iintro ⟨⟨%f2, %e2, H2⟩, ⟨%f3, %e3, H3⟩, ⟨%f4, %e4, H4⟩, ⟨%f13, %e13, H13⟩, ⟨%f14, %e14, H14⟩, ⟨%f15, %e15, H15⟩, ⟨%d11, %f11, -, H11⟩, Hk⟩
    obtain rfl := harg2.eq_unread e2; obtain rfl := harg3.eq_unread e3; obtain rfl := harg4.eq_unread e4; obtain rfl := harg13.eq_unread e13; obtain rfl := harg14.eq_unread e14; obtain rfl := harg15.eq_unread e15
    sl_exec (disch := first | sl_exact h0 | sl_exact h1 | sl_exact h2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    iexists _; iexact H11

/-- The stores into `arg11` cover it. -/
theorem runMiddle_covers11 (c : Dev nD) (i : grid0.Coords) (arg2 : Memref sig .tc .vmem S2x1x256x1024 .bf16) (harg2 : arg2.IsWhole) (arg3 : Memref sig .tc .vmem S2x1x256x128 .f32) (harg3 : arg3.IsWhole) (arg4 : Memref sig .tc .vmem S2x1x6x1024 .f32) (harg4 : arg4.IsWhole) (arg5 : Memref sig .tc .vmem S1x1x256x1024 .bf16) (harg5 : arg5.IsWhole) (arg6 : Memref sig .tc .vmem S1x1x256x128 .f32) (harg6 : arg6.IsWhole) (arg7 : Memref sig .tc .vmem S1x1x6x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .f32) (harg10 : arg10.IsWhole) (arg11 : Memref sig .tc .vmem S2x1x256x1024 .bf16) (harg11 : arg11.IsWhole) (arg12 : Memref sig .tc .vmem S1x1x256x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (h0 : ¬isFirst i) (h1 : isLatent i) (h2 : ¬isContext i)
    (x2 : Vec F S2x1x256x1024 .bf16) (x3 : Vec F S2x1x256x128 .f32) (x4 : Vec F S2x1x6x1024 .f32) (x13 : Vec F S1024x1024 .bf16) (x14 : Vec F S1024x1024 .bf16) (x15 : Vec F S1024x1024 .bf16) (y : S2x1x256x1024.Idx) :
    ∃ pc ∈ (runMiddle c i arg2 harg2 arg3 harg3 arg4 harg4 arg5 harg5 arg6 harg6 arg7 harg7 arg8 harg8 arg9 harg9 arg10 harg10 arg11 harg11 arg12 harg12 arg13 harg13 arg14 harg14 arg15 harg15 h0 h1 h2 x2 x3 x4 x13 x14 x15).1, y ∈ pc.1.set :=
  View.cover_of_tiledL (runMiddle c i arg2 harg2 arg3 harg3 arg4 harg4 arg5 harg5 arg6 harg6 arg7 harg7 arg8 harg8 arg9 harg9 arg10 harg10 arg11 harg11 arg12 harg12 arg13 harg13 arg14 harg14 arg15 harg15 h0 h1 h2 x2 x3 x4 x13 x14 x15).1 S1x1x256x1024.size (by sl_kernel_rfl) y

end Cert.Kernel3Ideal.Moe

end
-- ==== Proof.Moe.Ideal.Last.lean ====
/- An expert's last step: the store it makes into the context result block, from the scratch and the context rows. -/
module

public import proofs.«01_k».proof.Proof.Moe.Ideal.Cases

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- An expert's last step: the store it makes into the context result block, from the scratch and the context rows. -/
def runLast (c : Dev nD) (i : grid0.Coords) (arg2 : Memref sig .tc .vmem S2x1x256x1024 .bf16) (harg2 : arg2.IsWhole) (arg3 : Memref sig .tc .vmem S2x1x256x128 .f32) (harg3 : arg3.IsWhole) (arg4 : Memref sig .tc .vmem S2x1x6x1024 .f32) (harg4 : arg4.IsWhole) (arg5 : Memref sig .tc .vmem S1x1x256x1024 .bf16) (harg5 : arg5.IsWhole) (arg6 : Memref sig .tc .vmem S1x1x256x128 .f32) (harg6 : arg6.IsWhole) (arg7 : Memref sig .tc .vmem S1x1x6x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .f32) (harg10 : arg10.IsWhole) (arg11 : Memref sig .tc .vmem S2x1x256x1024 .bf16) (harg11 : arg11.IsWhole) (arg12 : Memref sig .tc .vmem S1x1x256x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (h0 : ¬isFirst i) (h1 : ¬isLatent i) (h2 : isContext i)
    (x5 : Vec F S1x1x256x1024 .bf16) (x6 : Vec F S1x1x256x128 .f32) (x7 : Vec F S1x1x6x1024 .f32) (x13 : Vec F S1024x1024 .bf16) (x14 : Vec F S1024x1024 .bf16) (x15 : Vec F S1024x1024 .bf16) :
    { L12 : List (View.Piece (Elt F) S1x1x256x1024 .bf16) //
      ∀ (E : Set ℕ) (K : PUnit → sProp 𝕄),
        iprop(owns (c : Thread nD τ) arg5 fullShare x5 ∗ owns (c : Thread nD τ) arg6 fullShare x6 ∗ owns (c : Thread nD τ) arg7 fullShare x7 ∗ owns (c : Thread nD τ) arg13 fullShare x13 ∗ owns (c : Thread nD τ) arg14 fullShare x14 ∗ owns (c : Thread nD τ) arg15 fullShare x15 ∗ (∃ d, owns (c : Thread nD τ) arg12 fullShare d)
            ∗ (iprop(owns (c : Thread nD τ) arg5 fullShare x5 ∗ owns (c : Thread nD τ) arg6 fullShare x6 ∗ owns (c : Thread nD τ) arg7 fullShare x7 ∗ owns (c : Thread nD τ) arg13 fullShare x13 ∗ owns (c : Thread nD τ) arg14 fullShare x14 ∗ owns (c : Thread nD τ) arg15 fullShare x15 ∗ (∃ f, arg12.view.loc (c : Thread nD τ) ↦[arg12.view.set]{fullShare} arg12.view.writes (Elt F) f L12)) -∗ K ⟨⟩))
          ⊢ wp frame (wpE (defs₀ (F := F)) Variants.none c none) E (cc0_moe_ffn i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_moe_ffn_eq_skeleton]; unfold cc0_moe_ffn_skel
    simp only [k0_part3_eq_skeleton, k0_part1_eq_skeleton, k0_part2_eq_skeleton]
    unfold owns
    iintro ⟨⟨%f5, %e5, H5⟩, ⟨%f6, %e6, H6⟩, ⟨%f7, %e7, H7⟩, ⟨%f13, %e13, H13⟩, ⟨%f14, %e14, H14⟩, ⟨%f15, %e15, H15⟩, ⟨%d12, %f12, -, H12⟩, Hk⟩
    obtain rfl := harg5.eq_unread e5; obtain rfl := harg6.eq_unread e6; obtain rfl := harg7.eq_unread e7; obtain rfl := harg13.eq_unread e13; obtain rfl := harg14.eq_unread e14; obtain rfl := harg15.eq_unread e15
    sl_exec (disch := first | sl_exact h0 | sl_exact h1 | sl_exact h2)
    sl_step
    iapply Hk
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    iexists _; iexact H12

/-- The stores into `arg12` cover it. -/
theorem runLast_covers12 (c : Dev nD) (i : grid0.Coords) (arg2 : Memref sig .tc .vmem S2x1x256x1024 .bf16) (harg2 : arg2.IsWhole) (arg3 : Memref sig .tc .vmem S2x1x256x128 .f32) (harg3 : arg3.IsWhole) (arg4 : Memref sig .tc .vmem S2x1x6x1024 .f32) (harg4 : arg4.IsWhole) (arg5 : Memref sig .tc .vmem S1x1x256x1024 .bf16) (harg5 : arg5.IsWhole) (arg6 : Memref sig .tc .vmem S1x1x256x128 .f32) (harg6 : arg6.IsWhole) (arg7 : Memref sig .tc .vmem S1x1x6x1024 .f32) (harg7 : arg7.IsWhole) (arg8 : Memref sig .tc .vmem S1x1x1024x1024 .f32) (harg8 : arg8.IsWhole) (arg9 : Memref sig .tc .vmem S1x1x1024x1024 .f32) (harg9 : arg9.IsWhole) (arg10 : Memref sig .tc .vmem S1x1x1024x1024 .f32) (harg10 : arg10.IsWhole) (arg11 : Memref sig .tc .vmem S2x1x256x1024 .bf16) (harg11 : arg11.IsWhole) (arg12 : Memref sig .tc .vmem S1x1x256x1024 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1024x1024 .bf16) (harg15 : arg15.IsWhole) (h0 : ¬isFirst i) (h1 : ¬isLatent i) (h2 : isContext i)
    (x5 : Vec F S1x1x256x1024 .bf16) (x6 : Vec F S1x1x256x128 .f32) (x7 : Vec F S1x1x6x1024 .f32) (x13 : Vec F S1024x1024 .bf16) (x14 : Vec F S1024x1024 .bf16) (x15 : Vec F S1024x1024 .bf16) (y : S1x1x256x1024.Idx) :
    ∃ pc ∈ (runLast c i arg2 harg2 arg3 harg3 arg4 harg4 arg5 harg5 arg6 harg6 arg7 harg7 arg8 harg8 arg9 harg9 arg10 harg10 arg11 harg11 arg12 harg12 arg13 harg13 arg14 harg14 arg15 harg15 h0 h1 h2 x5 x6 x7 x13 x14 x15).1, y ∈ pc.1.set :=
  View.cover_of_tiledL (runLast c i arg2 harg2 arg3 harg3 arg4 harg4 arg5 harg5 arg6 harg6 arg7 harg7 arg8 harg8 arg9 harg9 arg10 harg10 arg11 harg11 arg12 harg12 arg13 harg13 arg14 harg14 arg15 harg15 h0 h1 h2 x5 x6 x7 x13 x14 x15).1 S1x1x256x1024.size (by sl_kernel_rfl) y

end Cert.Kernel3Ideal.Moe

end
-- ==== Proof.Moe.Ideal.Frame.lean ====
/- What the two-set expert call leaves step by step, its body at each kind of step, and its run: it ends, the arguments are unchanged. -/
module

public import proofs.«01_k».proof.Proof.Moe.Ideal.First
public import proofs.«01_k».proof.Proof.Moe.Ideal.Middle
public import proofs.«01_k».proof.Proof.Moe.Ideal.Last

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a step leaves -/

/-- The latent result block after the first step of an expert. -/
def latFirst (c : Dev nD) (t : Fin cfg0.N) (h : t.val % 5 = 0) : Vec F S2x1x256x1024 .bf16 :=
  latV.read (Elt F) (latV.writes (Elt F) latV.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (scr0M) (Memref.isWhole_whole _) (scr1M) (Memref.isWhole_whole _) (scr2M) (Memref.isWhole_whole _) ((isFirst_iff t).mpr h) ((isLatent_iff t).mpr (by omega)) (fun e => absurd ((isContext_iff t).mp e) (by omega)) (iblk m c 0 t) (iblk m c 1 t) (iblk m c 2 t) (iblk m c 6 t) (iblk m c 7 t) (iblk m c 8 t)).1)
/-- Scratch buffer 0 after the first step of an expert. -/
def cast0 (c : Dev nD) (t : Fin cfg0.N) (h : t.val % 5 = 0) : Vec F S1024x1024 .bf16 :=
  scr0V.read (Elt F) (scr0V.writes (Elt F) scr0V.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (scr0M) (Memref.isWhole_whole _) (scr1M) (Memref.isWhole_whole _) (scr2M) (Memref.isWhole_whole _) ((isFirst_iff t).mpr h) ((isLatent_iff t).mpr (by omega)) (fun e => absurd ((isContext_iff t).mp e) (by omega)) (iblk m c 0 t) (iblk m c 1 t) (iblk m c 2 t) (iblk m c 6 t) (iblk m c 7 t) (iblk m c 8 t)).2.1)
/-- Scratch buffer 1 after the first step of an expert. -/
def cast1 (c : Dev nD) (t : Fin cfg0.N) (h : t.val % 5 = 0) : Vec F S1024x1024 .bf16 :=
  scr1V.read (Elt F) (scr1V.writes (Elt F) scr1V.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (scr0M) (Memref.isWhole_whole _) (scr1M) (Memref.isWhole_whole _) (scr2M) (Memref.isWhole_whole _) ((isFirst_iff t).mpr h) ((isLatent_iff t).mpr (by omega)) (fun e => absurd ((isContext_iff t).mp e) (by omega)) (iblk m c 0 t) (iblk m c 1 t) (iblk m c 2 t) (iblk m c 6 t) (iblk m c 7 t) (iblk m c 8 t)).2.2.1)
/-- Scratch buffer 2 after the first step of an expert. -/
def cast2 (c : Dev nD) (t : Fin cfg0.N) (h : t.val % 5 = 0) : Vec F S1024x1024 .bf16 :=
  scr2V.read (Elt F) (scr2V.writes (Elt F) scr2V.junk (runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (scr0M) (Memref.isWhole_whole _) (scr1M) (Memref.isWhole_whole _) (scr2M) (Memref.isWhole_whole _) ((isFirst_iff t).mpr h) ((isLatent_iff t).mpr (by omega)) (fun e => absurd ((isContext_iff t).mp e) (by omega)) (iblk m c 0 t) (iblk m c 1 t) (iblk m c 2 t) (iblk m c 6 t) (iblk m c 7 t) (iblk m c 8 t)).2.2.2.1)
/-- The latent result block after a later latent step, with the scratch buffers at `s0`, `s1`, `s2`. -/
def latMiddle (c : Dev nD) (t : Fin cfg0.N) (h : ¬t.val % 5 = 0) (h4 : t.val % 5 < 4) (s0 s1 s2 : Vec F S1024x1024 .bf16) : Vec F S2x1x256x1024 .bf16 :=
  latV.read (Elt F) (latV.writes (Elt F) latV.junk (runMiddle c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (scr0M) (Memref.isWhole_whole _) (scr1M) (Memref.isWhole_whole _) (scr2M) (Memref.isWhole_whole _) (fun e => h ((isFirst_iff t).mp e)) ((isLatent_iff t).mpr h4) (fun e => absurd ((isContext_iff t).mp e) (by omega)) (iblk m c 0 t) (iblk m c 1 t) (iblk m c 2 t) s0 s1 s2).1)
/-- The context result block after the last step of an expert, with the scratch buffers at `s0`, `s1`, `s2`. -/
def ctxLast (c : Dev nD) (t : Fin cfg0.N) (h : t.val % 5 = 4) (s0 s1 s2 : Vec F S1024x1024 .bf16) : Vec F S1x1x256x1024 .bf16 :=
  ctxV.read (Elt F) (ctxV.writes (Elt F) ctxV.junk (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (scr0M) (Memref.isWhole_whole _) (scr1M) (Memref.isWhole_whole _) (scr2M) (Memref.isWhole_whole _) (fun e => absurd ((isFirst_iff t).mp e) (by omega)) (fun e => absurd ((isLatent_iff t).mp e) (by omega)) ((isContext_iff t).mpr h) (iblk m c 3 t) (iblk m c 4 t) (iblk m c 5 t) s0 s1 s2).1)

/-- The first step of the expert that step `t` belongs to. -/
def start (t : Fin cfg0.N) : Fin cfg0.N := ⟨t.val - t.val % 5, Nat.lt_of_le_of_lt (Nat.sub_le _ _) t.isLt⟩
theorem start_mod (t : Fin cfg0.N) : (start t).val % 5 = 0 := by
  show (t.val - t.val % 5) % 5 = 0
  omega
/-- The step before `t`. -/
def prev (t : Fin cfg0.N) : Fin cfg0.N := ⟨t.val - 1, Nat.lt_of_le_of_lt (Nat.sub_le _ _) t.isLt⟩
theorem start_first (t : Fin cfg0.N) (h : t.val % 5 = 0) : start t = t := Fin.ext (by
  show t.val - t.val % 5 = t.val
  omega)
theorem start_prev (t : Fin cfg0.N) (h : ¬t.val % 5 = 0) : start (prev t) = start t := Fin.ext (by
  show t.val - 1 - (t.val - 1) % 5 = t.val - t.val % 5
  omega)

/-- Scratch buffer 0 after step `t`: what the expert's first step left there. -/
def scr0 (c : Dev nD) (t : Fin cfg0.N) : Vec F S1024x1024 .bf16 := cast0 m c (start t) (start_mod t)
theorem scr0_first (c : Dev nD) (t : Fin cfg0.N) (h : t.val % 5 = 0) : scr0 m c t = cast0 m c t h := by
  have key : ∀ (u : Fin cfg0.N) (hu : u.val % 5 = 0), u = t → cast0 m c u hu = cast0 m c t h := by
    rintro u hu rfl; rfl
  exact key _ _ (start_first t h)
theorem scr0_prev (c : Dev nD) (t : Fin cfg0.N) (h : ¬t.val % 5 = 0) : scr0 m c (prev t) = scr0 m c t := by
  have key : ∀ (u v : Fin cfg0.N) (hu : u.val % 5 = 0) (hv : v.val % 5 = 0), u = v → cast0 m c u hu = cast0 m c v hv := by
    rintro u v hu hv rfl; rfl
  exact key _ _ _ _ (start_prev t h)
/-- Scratch buffer 1 after step `t`: what the expert's first step left there. -/
def scr1 (c : Dev nD) (t : Fin cfg0.N) : Vec F S1024x1024 .bf16 := cast1 m c (start t) (start_mod t)
theorem scr1_first (c : Dev nD) (t : Fin cfg0.N) (h : t.val % 5 = 0) : scr1 m c t = cast1 m c t h := by
  have key : ∀ (u : Fin cfg0.N) (hu : u.val % 5 = 0), u = t → cast1 m c u hu = cast1 m c t h := by
    rintro u hu rfl; rfl
  exact key _ _ (start_first t h)
theorem scr1_prev (c : Dev nD) (t : Fin cfg0.N) (h : ¬t.val % 5 = 0) : scr1 m c (prev t) = scr1 m c t := by
  have key : ∀ (u v : Fin cfg0.N) (hu : u.val % 5 = 0) (hv : v.val % 5 = 0), u = v → cast1 m c u hu = cast1 m c v hv := by
    rintro u v hu hv rfl; rfl
  exact key _ _ _ _ (start_prev t h)
/-- Scratch buffer 2 after step `t`: what the expert's first step left there. -/
def scr2 (c : Dev nD) (t : Fin cfg0.N) : Vec F S1024x1024 .bf16 := cast2 m c (start t) (start_mod t)
theorem scr2_first (c : Dev nD) (t : Fin cfg0.N) (h : t.val % 5 = 0) : scr2 m c t = cast2 m c t h := by
  have key : ∀ (u : Fin cfg0.N) (hu : u.val % 5 = 0), u = t → cast2 m c u hu = cast2 m c t h := by
    rintro u hu rfl; rfl
  exact key _ _ (start_first t h)
theorem scr2_prev (c : Dev nD) (t : Fin cfg0.N) (h : ¬t.val % 5 = 0) : scr2 m c (prev t) = scr2 m c t := by
  have key : ∀ (u v : Fin cfg0.N) (hu : u.val % 5 = 0) (hv : v.val % 5 = 0), u = v → cast2 m c u hu = cast2 m c v hv := by
    rintro u v hu hv rfl; rfl
  exact key _ _ _ _ (start_prev t h)

/-- The latent result block after a latent step. -/
def latStep (c : Dev nD) (t : Fin cfg0.N) (h4 : t.val % 5 < 4) : Vec F S2x1x256x1024 .bf16 :=
  if h : t.val % 5 = 0 then latFirst m c t h else latMiddle m c t h h4 (scr0 m c t) (scr1 m c t) (scr2 m c t)
/-- The latent result block after any step: a context step leaves what the step before it left. -/
def lat (c : Dev nD) (t : Fin cfg0.N) : Vec F S2x1x256x1024 .bf16 :=
  if h4 : t.val % 5 < 4 then latStep m c t h4 else latStep m c (prev t) (by show (t.val - 1) % 5 < 4; omega)
theorem lat_first (c : Dev nD) (t : Fin cfg0.N) (h : t.val % 5 = 0) : lat m c t = latFirst m c t h := by
  have h4 : t.val % 5 < 4 := by omega
  unfold lat; rw [dif_pos h4]; unfold latStep; rw [dif_pos h]
theorem lat_middle (c : Dev nD) (t : Fin cfg0.N) (h : ¬t.val % 5 = 0) (h4 : t.val % 5 < 4) :
    lat m c t = latMiddle m c t h h4 (scr0 m c t) (scr1 m c t) (scr2 m c t) := by
  unfold lat; rw [dif_pos h4]; unfold latStep; rw [dif_neg h]
theorem lat_last (c : Dev nD) (t : Fin cfg0.N) (h : t.val % 5 = 4) : lat m c t = lat m c (prev t) := by
  have hp : (prev t).val % 5 < 4 := by show (t.val - 1) % 5 < 4; omega
  have h4 : ¬t.val % 5 < 4 := by omega
  unfold lat; rw [dif_neg h4, dif_pos hp]
/-- The context result block after a step: named after an expert's last step, anything before. -/
def ctx (c : Dev nD) (t : Fin cfg0.N) : Vec F S1x1x256x1024 .bf16 :=
  if h : t.val % 5 = 4 then ctxLast m c t h (scr0 m c t) (scr1 m c t) (scr2 m c t) else ctxV.read (Elt F) ctxV.junk
theorem ctx_last (c : Dev nD) (t : Fin cfg0.N) (h : t.val % 5 = 4) :
    ctx m c t = ctxLast m c t h (scr0 m c t) (scr1 m c t) (scr2 m c t) := by
  unfold ctx; rw [dif_pos h]

/-! ## The proof data -/

/-- The scratch buffers at what step `t` leaves, and the generator register. -/
abbrev held (c : Dev nD) (t : Fin cfg0.N) : sProp 𝕄 :=
  iprop(iprop(owns (c : Thread nD τ) scr0M fullShare (scr0 m c t) ∗ owns (c : Thread nD τ) scr1M fullShare (scr1 m c t) ∗ owns (c : Thread nD τ) scr2M fullShare (scr2 m c t)) ∗ (∃ r, prngReg c r))
/-- The invariant before step `n`: at the start the scratch buffers hold anything, later what the step before left. -/
def inv (c : Dev nD) : (n : ℕ) → n ≤ cfg0.N → sProp 𝕄
  | 0, _ => Pipeline.ΦA spec0 c
  | n + 1, hn => held m c ⟨n, hn⟩

theorem held_free (c : Dev nD) (t : Fin cfg0.N) : held m c t ⊢ (Pipeline.ΦA spec0 c : sProp 𝕄) := by
  rw [free_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg
theorem inv_free (c : Dev nD) : ∀ (n : ℕ) (h : n ≤ cfg0.N), inv m c n h ⊢ (Pipeline.ΦA spec0 c : sProp 𝕄)
  | 0, _ => .rfl
  | n + 1, hn => held_free m c ⟨n, hn⟩
/-- Before a step that is not the first of its expert, the scratch buffers hold what that step leaves there as well. -/
theorem inv_later (c : Dev nD) (t : Fin cfg0.N) (h : ¬t.val % 5 = 0) : inv m c t.val (Nat.le_of_lt t.isLt) = held m c t := by
  have key : ∀ (n : ℕ) (hn : n ≤ cfg0.N) (hz : n ≠ 0), inv m c n hn = held m c ⟨n - 1, by omega⟩ := by
    intro n hn hz
    cases n with
    | zero => exact absurd rfl hz
    | succ n => rfl
  rw [key t.val _ (by omega)]
  show held m c (prev t) = held m c t
  unfold held
  rw [scr0_prev m c t h, scr1_prev m c t h, scr2_prev m c t h]

/-- The proof data: the arrays as the region finds them, each input's buffer at its block, the results' at `lat` and `ctx`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => lat m c t
    | ⟨10, _⟩ => ctx m c t
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem inv_castSucc (c : Dev nD) (t : Fin cfg0.N) :
    (dats m 0 c).Φ t.castSucc = inv m c t.val (Nat.le_of_lt t.isLt) := by
  dsimp only [dats]; exact Pipeline.Dat.Φ_castSucc (inv m c) t
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = lat m c t := by dsimp only [dats]
theorem after0_10 (c : Dev nD) (t : Fin cfg0.N) : (dats m 0 c).after 10 t = ctx m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The two results at the steps that do not store into them -/

theorem idle9_of (t : Fin cfg0.N) (h : t.val % 5 < 4) : cfg0.idle 9 (cfg0.grid.coords t) = false := by
  show (!(k0_cond2 (grid0.coords t) == 1#1)) = false
  rw [show k0_cond2 (grid0.coords t) = 1#1 from (isLatent_iff t).mpr h]; rfl
theorem idle10_of (t : Fin cfg0.N) (h : t.val % 5 = 4) : cfg0.idle 10 (cfg0.grid.coords t) = false := by
  show (!(k0_cond3 (grid0.coords t) == 1#1)) = false
  rw [show k0_cond3 (grid0.coords t) = 1#1 from (isContext_iff t).mpr h]; rfl
theorem idle10_at (t : Fin cfg0.N) (h : ¬t.val % 5 = 4) : cfg0.idle 10 (cfg0.grid.coords t) = true := by
  show (!(k0_cond3 (grid0.coords t) == 1#1)) = true
  rw [show (k0_cond3 (grid0.coords t) == 1#1) = false from beq_eq_false_iff_ne.mpr fun e => h ((isContext_iff t).mp e)]; rfl
theorem idle9_at (t : Fin cfg0.N) (h : t.val % 5 = 4) : cfg0.idle 9 (cfg0.grid.coords t) = true := by
  show (!(k0_cond2 (grid0.coords t) == 1#1)) = true
  rw [show (k0_cond2 (grid0.coords t) == 1#1) = false from beq_eq_false_iff_ne.mpr fun e => absurd ((isLatent_iff t).mp e) (by omega)]; rfl
/-- The latent block is written back after every step but the fourth of an expert, whose block the fifth keeps. -/
theorem flush9 : ∀ t : Fin cfg0.N, (cfg0.win 9).flush t = true ↔ t.val % 5 ≠ 3 :=
  (by decide +kernel : ∀ t : Fin grid0.N, win0_9.flush t = true ↔ t.val % 5 ≠ 3)
theorem flush10_off (t : Fin cfg0.N) (h : ¬t.val % 5 = 4) : (cfg0.win 10).flush t = false :=
  Bool.eq_false_iff.mpr fun e => h ((flush0_10 t).mp e)

/-- At an expert's last step the latent buffer is found at what the step before left. -/
theorem before0_9 (c : Dev nD) (t : Fin cfg0.N) (h : t.val % 5 = 4) (d) : (dats m 0 c).before 9 t d = lat m c t := by
  have hf : (cfg0.win 9).flush (prev t) = false := Bool.eq_false_iff.mpr fun e =>
    absurd ((flush9 (prev t)).mp e) (by show ¬((t.val - 1) % 5 ≠ 3); omega)
  rw [(dats m 0 c).before_of_pos 9 t (by omega) rfl d, lat_last m c t h]
  rw [if_neg (by rw [show (cfg0.win 9).flush ⟨t.val - 1, _⟩ = false from hf]; exact Bool.false_ne_true)]
  show (dats m 0 c).left 9 (prev t) d = _
  unfold Dat.left
  rw [idle9_of (prev t) (by show (t.val - 1) % 5 < 4; omega)]
  show (dats m 0 c).kept 9 (prev t) d = _
  unfold Dat.kept
  rw [after0_9]
  rfl

theorem post9 (c : Dev nD) (t : Fin cfg0.N) :
    owns (c : Thread nD τ) (ms9 t) fullShare (lat m c t) ⊢ (dats m 0 c).leavesExact 9 t := by
  unfold Dat.leavesExact
  by_cases h : t.val % 5 < 4
  · rw [idle9_of t h]; dsimp only; rw [after0_9]
  · have h4 : t.val % 5 = 4 := by omega
    rw [idle9_at t h4, (flush9 t).mpr (by omega)]; dsimp only; rw [after0_9]
theorem post10_last (c : Dev nD) (t : Fin cfg0.N) (h : t.val % 5 = 4) :
    owns (c : Thread nD τ) (ms10 t) fullShare (ctx m c t) ⊢ (dats m 0 c).leavesExact 10 t := by
  unfold Dat.leavesExact
  rw [idle10_of t h]; dsimp only; rw [after0_10]
theorem post10_other (c : Dev nD) (t : Fin cfg0.N) (h : ¬t.val % 5 = 4) :
    iprop(∃ d, owns (c : Thread nD τ) (ms10 t) fullShare ((dats m 0 c).before 10 t d)) ⊢ (dats m 0 c).leavesExact 10 t := by
  unfold Dat.leavesExact
  rw [idle10_at t h, flush10_off t h]

/-! ## The body at a step -/

/-- What the body is called with, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))
/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ (dats m 0 c).leavesExact 9 t ∗ (dats m 0 c).leavesExact 10 t)

set_option maxHeartbeats 6400000 in
/-- An expert's first step. -/
theorem body_first (c : Dev nD) (t : Fin cfg0.N) (h : t.val % 5 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8]
  rw [show (dats m 0 c).Φ t.succ = held m c t from rfl]
  rw [inv_castSucc m c t]
  refine (sep_mono_left (inv_free m c _ _)).trans ?_
  rw [free_eq]
  rw [show held m c t = iprop(iprop(owns (c : Thread nD τ) scr0M fullShare (cast0 m c t h) ∗ owns (c : Thread nD τ) scr1M fullShare (cast1 m c t h) ∗ owns (c : Thread nD τ) scr2M fullShare (cast2 m c t h)) ∗ (∃ r, prngReg c r)) from by
    unfold held; rw [scr0_first m c t h, scr1_first m c t h, scr2_first m c t h]]
  unfold cast0 cast1 cast2
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
  iapply ((runFirst c (grid0.coords t) _ _ _ _ _ _ _ _ _ _ _ _ _ _ _ _ _ _ _ _ _ _ _ _ _ _ _ _ ((isFirst_iff t).mpr h) ((isLatent_iff t).mpr (by omega)) (fun e => absurd ((isContext_iff t).mp e) (by omega)) (iblk m c 0 t) (iblk m c 1 t) (iblk m c 2 t) (iblk m c 6 t) (iblk m c 7 t) (iblk m c 8 t)).2.2.2.2 Set.univ _)
  isplitl [H0]; · iexact H0
  isplitl [H1]; · iexact H1
  isplitl [H2]; · iexact H2
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  iintro ⟨H0, H1, H2, H6, H7, H8, ⟨%e9, H9⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (runFirst_covers13 c _ _ _ _ _ _ _ _ _ _ _ _ _ _ _ _ _ _ _ _ _ _ _ _ _ _ _ _ _ _ _ _ _ _ _ _ _ _ )
      isplitl [HS1]
      · unfold owns; iexists _; isplitr
        swap; · iexact HS1
        ipureintro; exact View.read_writes_of_cover _ _ _ _ _ (runFirst_covers14 c _ _ _ _ _ _ _ _ _ _ _ _ _ _ _ _ _ _ _ _ _ _ _ _ _ _ _ _ _ _ _ _ _ _ _ _ _ _ )
      unfold owns; iexists _; isplitr
      swap; · iexact HS2
      ipureintro; exact View.read_writes_of_cover _ _ _ _ _ (runFirst_covers15 c _ _ _ _ _ _ _ _ _ _ _ _ _ _ _ _ _ _ _ _ _ _ _ _ _ _ _ _ _ _ _ _ _ _ _ _ _ _ )
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (post9 m c t)
    rw [lat_first m c t h]; unfold latFirst
    unfold owns; iexists _; isplitr
    swap; · iexact H9
    ipureintro; exact View.read_writes_of_cover _ _ _ _ _ (runFirst_covers11 c _ _ _ _ _ _ _ _ _ _ _ _ _ _ _ _ _ _ _ _ _ _ _ _ _ _ _ _ _ _ _ _ _ _ _ _ _ _ )
  iapply (post10_other m c t (by omega))
  iexact H10

set_option maxHeartbeats 6400000 in
/-- A later latent step. -/
theorem body_middle (c : Dev nD) (t : Fin cfg0.N) (h : ¬t.val % 5 = 0) (h4 : t.val % 5 < 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8]
  rw [show (dats m 0 c).Φ t.succ = held m c t from rfl]
  rw [inv_castSucc m c t, inv_later m c t h]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
  iapply ((runMiddle c (grid0.coords t) _ _ _ _ _ _ _ _ _ _ _ _ _ _ _ _ _ _ _ _ _ _ _ _ _ _ _ _ (fun e => h ((isFirst_iff t).mp e)) ((isLatent_iff t).mpr h4) (fun e => absurd ((isContext_iff t).mp e) (by omega)) (iblk m c 0 t) (iblk m c 1 t) (iblk m c 2 t) _ _ _).2 Set.univ _)
  isplitl [H0]; · iexact H0
  isplitl [H1]; · iexact H1
  isplitl [H2]; · iexact H2
  isplitl [HS0]; · iexact HS0
  isplitl [HS1]; · iexact HS1
  isplitl [HS2]; · iexact HS2
  isplitl [H9]; · iexists _; iexact H9
  iintro ⟨H0, H1, H2, HS0, HS1, HS2, ⟨%e9, H9⟩⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (post9 m c t)
    rw [lat_middle m c t h h4]; unfold latMiddle
    unfold owns; iexists _; isplitr
    swap; · iexact H9
    ipureintro; exact View.read_writes_of_cover _ _ _ _ _ (runMiddle_covers11 c _ _ _ _ _ _ _ _ _ _ _ _ _ _ _ _ _ _ _ _ _ _ _ _ _ _ _ _ _ _ _ _ _ _ _ _ _ _ )
  iapply (post10_other m c t (by omega))
  iexact H10

set_option maxHeartbeats 6400000 in
/-- An expert's last step, on the context rows. -/
theorem body_last (c : Dev nD) (t : Fin cfg0.N) (h : t.val % 5 = 4) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8]
  rw [show (dats m 0 c).Φ t.succ = held m c t from rfl]
  simp only [before0_9 m c t h]
  rw [inv_castSucc m c t, inv_later m c t (by omega)]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runLast c (grid0.coords t) _ _ _ _ _ _ _ _ _ _ _ _ _ _ _ _ _ _ _ _ _ _ _ _ _ _ _ _ (fun e => absurd ((isFirst_iff t).mp e) (by omega)) (fun e => absurd ((isLatent_iff t).mp e) (by omega)) ((isContext_iff t).mpr h) (iblk m c 3 t) (iblk m c 4 t) (iblk m c 5 t) _ _ _).2 Set.univ _)
  isplitl [H3]; · iexact H3
  isplitl [H4]; · iexact H4
  isplitl [H5]; · iexact H5
  isplitl [HS0]; · iexact HS0
  isplitl [HS1]; · iexact HS1
  isplitl [HS2]; · iexact HS2
  isplitl [H10]; · iexists _; iexact H10
  iintro ⟨H3, H4, H5, HS0, HS1, HS2, ⟨%e10, H10⟩⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (post9 m c t)
    iexact H9
  iapply (post10_last m c t h)
  rw [ctx_last m c t h]; unfold ctxLast
  unfold owns; iexists _; isplitr
  swap; · iexact H10
  ipureintro; exact View.read_writes_of_cover _ _ _ _ _ (runLast_covers12 c _ _ _ _ _ _ _ _ _ _ _ _ _ _ _ _ _ _ _ _ _ _ _ _ _ _ _ _ _ _ _ _ _ _ _ _ _ _ )

theorem body_at (c : Dev nD) (t : Fin cfg0.N) :
    bodyPre m c t ⊢ wp frame (wpE (defs₀ (F := F)) Variants.none c none) Set.univ (bodyAt0 t) (fun _ => bodyPost m c t) := by
  by_cases h : t.val % 5 = 0
  · exact body_first m c t h
  · by_cases h4 : t.val % 5 < 4
    · exact body_middle m c t h h4
    · exact body_last m c t (by omega)

theorem body_row (t : Fin cfg0.N) :
    defs₀ (F := F) .tc cfg0.body (cfg0.bodyArgs t (cfg0.slots t)) = bodyAt0 t := by
  unfold defs₀; rw [Defs.onTc_tc]

/-- The body meets the pipeline's obligation at every step. -/
theorem body_ok (c : Dev nD) : BodyObligation (dats (F := F) m 0 c) (defs₀ (F := F)) Variants.none () Set.univ := fun t => by
  rw [bigSep_W0, bigSep_W0, body_row]
  exact triple_restated (body_at m c t) rfl .rfl fun _ => .rfl

theorem enter (c : Dev nD) : Pipeline.ΦA spec0 c ⊢ (dats m 0 c).Φ 0 := by
  rw [show (dats m 0 c).Φ 0 = Pipeline.ΦA spec0 c from rfl]
theorem leave (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl]
  exact inv_free m c _ _

/-! ## The run -/

set_option backward.isDefEq.respectTransparency.types false in
/-- Every execution ends, with the arrays at what the proof data say and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_ok m c).loose) (hq := fun _ _ _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_quiet m ρ)

/-- Every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiet m ρ))

/-- Every execution ends with the two results at what the write-backs leave and the arguments unchanged. -/
theorem run_results : θ_run defs (onTc (τ := τ) (main (F := F))) ⟨m, fun _ => 0, ρ⟩ (fun r => ∀ c : Dev nD,
      r.2.mem ((c.tc : Thread nD τ).loc main_v8_0) = (dats m 0 c).arrAt 9 cfg0.N
      ∧ r.2.mem ((c.tc : Thread nD τ).loc main_v8_1) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h.2 c).1 9, (h.2 c).1 10, h.1 c⟩)
    (θ_run_and (frame_of m ρ (dats m) (A_eq m) (run_main m ρ)) (run_main m ρ))

end Cert.Kernel3Ideal.Moe

end
-- ==== Proof.Moe.Body.lean ====
/- What one step of the two-set expert call stores: the cast weights, a block of latent rows, a block of context rows. -/
module

public import proofs.«01_k».proof.Proof.Moe.Ideal.Frame
public import proofs.«01_k».proof.Proof.Ffn.Expert
public import Idealize.ShloMosaic.Lib.Pipeline.ValueKit

@[expose] public section

set_option maxRecDepth 16384

noncomputable section

namespace Cert.Kernel3Ideal.Moe

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- Two positions of a matrix agree when their rows do. -/
theorem row_eq {a b n k : ℕ} {i : Fin a} {j : Fin b} {r r' : Fin n} {l : Fin k} (h : r.val = r'.val) :
    ix4 i j r l = ix4 i j r' l := by rw [Fin.ext h]

/-- The gate matrix that an expert's first step casts into the scratch. -/
theorem cast0_at (c : Dev nD) (t : Fin cfg0.N) (ht : t.val % 5 = 0) (d f : Fin 1024) :
    cast0 m c t ht (ix2 d f) = iblk m c 6 t (ix4 0 0 d f) := by
  frame_out
  generalize (iblk m c 6 t) = w
  canon_tiles x h
  all_goals
    idx_vars x
    open_payloads
    pointwise [k0_pay6, k0_pay7, k0_pay8, k0_pay9]
    obtain rfl : f = _ := Fin.ext h1
    exact congrArg w (row_eq (by rw [h0]))

/-- The up matrix that an expert's first step casts into the scratch. -/
theorem cast1_at (c : Dev nD) (t : Fin cfg0.N) (ht : t.val % 5 = 0) (d f : Fin 1024) :
    cast1 m c t ht (ix2 d f) = iblk m c 7 t (ix4 0 0 d f) := by
  frame_out
  generalize (iblk m c 7 t) = w
  canon_tiles x h
  all_goals
    idx_vars x
    open_payloads
    pointwise [k0_pay10, k0_pay11, k0_pay12, k0_pay13, k0_pay14]
    obtain rfl : f = _ := Fin.ext h1
    exact congrArg w (row_eq (by rw [h0]))

/-- The down matrix that an expert's first step casts into the scratch. -/
theorem cast2_at (c : Dev nD) (t : Fin cfg0.N) (ht : t.val % 5 = 0) (d f : Fin 1024) :
    cast2 m c t ht (ix2 d f) = iblk m c 8 t (ix4 0 0 d f) := by
  frame_out
  generalize (iblk m c 8 t) = w
  canon_tiles x h
  all_goals
    idx_vars x
    open_payloads
    pointwise [k0_pay15, k0_pay1, k0_pay2, k0_pay3]
    obtain rfl : f = _ := Fin.ext h1
    exact congrArg w (row_eq (by rw [h0]))

/-- The expert of a step's 512 latent rows, at a row and a lane. -/
theorem rows_at (x : Vec Ideal S2x1x256x1024 .bf16) (g u w : Vec Ideal S1024x1024 .bf16) (b : Fin 2) (r : Fin 256) (l : Fin 1024) :
    k0_pay16 x g u w (ix2 ⟨b * 256 + r, by omega⟩ l)
      = Ffn.expert (fun d => x (ix4 b 0 r d)) (fun d f => g (ix2 d f)) (fun d f => u (ix2 d f)) (fun f => w (ix2 f l)) := by
  pointwise [k0_pay16]
  rfl

/-- The first batch's stored rows. -/
theorem low_at (x : Vec Ideal S2x1x256x1024 .bf16) (g u w : Vec Ideal S1024x1024 .bf16) (gt : Vec Ideal S1x1x256x128 .f32) (md : Vec Ideal S1x1x6x1024 .f32)
    (z z' : Fin 1) (r : Fin 256) (l : Fin 1024) :
    k0_pay17 x g u w gt md (ix4 z z' r l)
      = Ffn.expert (fun d => x (ix4 0 0 r d)) (fun d f => g (ix2 d f)) (fun d f => u (ix2 d f)) (fun f => w (ix2 f l)) * gt (ix4 0 0 r 0) * md (ix4 0 0 5 l) := by
  refine Eq.trans ?_ (congrArg (fun s => s * gt (ix4 0 0 r 0) * md (ix4 0 0 5 l)) (rows_at x g u w 0 r l))
  pointwise [k0_pay17]

/-- The second batch's stored rows. -/
theorem high_at (x : Vec Ideal S2x1x256x1024 .bf16) (g u w : Vec Ideal S1024x1024 .bf16) (gt : Vec Ideal S1x1x256x128 .f32) (md : Vec Ideal S1x1x6x1024 .f32)
    (z z' : Fin 1) (r : Fin 256) (l : Fin 1024) :
    k0_pay4 (k0_pay18 x g u w) (k0_pay19 gt) md (ix4 z z' r l)
      = Ffn.expert (fun d => x (ix4 1 0 r d)) (fun d f => g (ix2 d f)) (fun d f => u (ix2 d f)) (fun f => w (ix2 f l)) * gt (ix4 0 0 r 0) * md (ix4 0 0 5 l) := by
  refine Eq.trans ?_ (congrArg (fun s => s * gt (ix4 0 0 r 0) * md (ix4 0 0 5 l)) (rows_at x g u w 1 r l))
  pointwise [k0_pay4, k0_pay18, k0_pay19]

/-- The stored context rows. -/
theorem context_at (x : Vec Ideal S1x1x256x1024 .bf16) (g u w : Vec Ideal S1024x1024 .bf16) (gt : Vec Ideal S1x1x256x128 .f32) (md : Vec Ideal S1x1x6x1024 .f32)
    (z z' : Fin 1) (r : Fin 256) (l : Fin 1024) :
    k0_pay5 x g u w gt md (ix4 z z' r l)
      = Ffn.expert (fun d => x (ix4 0 0 r d)) (fun d f => g (ix2 d f)) (fun d f => u (ix2 d f)) (fun f => w (ix2 f l)) * gt (ix4 0 0 r 0) * md (ix4 0 0 5 l) := by
  pointwise [k0_pay5]
  rfl

/-- A load of the whole of a scratch buffer reads what the pieces written left there. -/
theorem readCov_all {κ : Kind} {sp : Space} (v : View sig κ sp S1024x1024 .bf16) (L : List (View.Piece (Elt Ideal) S1024x1024 .bf16))
    (inb : ∀ a, (![0, 0] : Fin 2 → ℕ) a + S1024x1024.size a ≤ S1024x1024.size a) (d f : Fin 1024) :
    v.readCov L (Rect.unit (s := S1024x1024) ![0, 0] S1024x1024.size inb).toLoadRect (ix2 d f) = View.canon L (ix2 d f) := by
  rw [View.readCov_eq_canon']
  refine congrArg (View.canon L) ?_
  blk_ext
  · show 0 + 1 * d.val = d.val
    omega
  · show 0 + 1 * f.val = f.val
    omega

/-- An entry of a step's block, from its rows, gates, modulation and the three matrices. -/
def entry {n : ℕ} (x : Fin n → Fin 256 → Fin 1024 → EReal) (gt : Fin n → Fin 256 → EReal) (md : Fin n → Fin 1024 → EReal) (g u w : Fin 1024 → Fin 1024 → EReal)
    (b : Fin n) (r : Fin 256) (l : Fin 1024) : EReal :=
  Ffn.expert (x b r) g u (fun f => w f l) * gt b r * md b l

/-- An expert's entries agree when its rows and matrices do. -/
theorem expert_congr {x x' : Fin 1024 → EReal} {G G' U U' : Fin 1024 → Fin 1024 → EReal} {D D' : Fin 1024 → EReal}
    (hx : ∀ d, x d = x' d) (hG : ∀ d f, G d f = G' d f) (hU : ∀ d f, U d f = U' d f) (hD : ∀ f, D f = D' f) :
    Ffn.expert x G U D = Ffn.expert x' G' U' D' := by
  obtain rfl : x = x' := funext hx
  obtain rfl : G = G' := funext fun d => funext (hG d)
  obtain rfl : U = U' := funext fun d => funext (hU d)
  obtain rfl : D = D' := funext hD
  rfl

/-- What an expert's first step stores for the latent rows. -/
theorem latFirst_at (c : Dev nD) (t : Fin cfg0.N) (ht : t.val % 5 = 0) (b : Fin 2) (z : Fin 1) (r : Fin 256) (l : Fin 1024) :
    latFirst m c t ht (ix4 b z r l) = entry (fun b r d => iblk m c 0 t (ix4 b 0 r d)) (fun b r => iblk m c 1 t (ix4 b 0 r 0)) (fun b l => iblk m c 2 t (ix4 b 0 5 l))
      (fun d f => iblk m c 6 t (ix4 0 0 d f)) (fun d f => iblk m c 7 t (ix4 0 0 d f)) (fun d f => iblk m c 8 t (ix4 0 0 d f)) b r l := by
  have e3 := cast0_at m c t ht
  have e4 := cast1_at m c t ht
  have e5 := cast2_at m c t ht
  revert e3 e4 e5
  frame_out
  intro e3 e4 e5
  generalize (iblk m c 0 t) = y0
  generalize (iblk m c 1 t) = y1
  generalize (iblk m c 2 t) = y2
  canon_tiles x h
  · idx_vars x
    refine (high_at _ _ _ _ _ _ _ _ _ _).trans ?_
    obtain rfl : b = 1 := Fin.ext (by rw [h0]; omega)
    obtain rfl : r = _ := Fin.ext h2
    obtain rfl : l = _ := Fin.ext h3
    refine congrArg₂ (· * ·) (congrArg₂ (· * ·) (expert_congr (fun _ => ?_) (fun d f => (readCov_all _ _ _ d f).trans (e3 d f)) (fun d f => (readCov_all _ _ _ d f).trans (e4 d f)) (fun f => (readCov_all _ _ _ f _).trans (e5 f _))) ?_) ?_
    all_goals
      clear e3 e4 e5
      first
        | rfl
        | pointwise
  · idx_vars x
    refine (low_at _ _ _ _ _ _ _ _ _ _).trans ?_
    obtain rfl : b = 0 := Fin.ext (by show b.val = 0; omega)
    obtain rfl : r = _ := Fin.ext h2
    obtain rfl : l = _ := Fin.ext h3
    refine congrArg₂ (· * ·) (congrArg₂ (· * ·) (expert_congr (fun _ => ?_) (fun d f => (readCov_all _ _ _ d f).trans (e3 d f)) (fun d f => (readCov_all _ _ _ d f).trans (e4 d f)) (fun f => (readCov_all _ _ _ f _).trans (e5 f _))) ?_) ?_
    all_goals
      clear e3 e4 e5
      first
        | rfl
        | pointwise

/-- What a later latent step stores, from the scratch's matrices. -/
theorem latMiddle_at (c : Dev nD) (t : Fin cfg0.N) (ht : ¬t.val % 5 = 0) (ht4 : t.val % 5 < 4) (s0 s1 s2 : Vec Ideal S1024x1024 .bf16) (b : Fin 2) (z : Fin 1) (r : Fin 256) (l : Fin 1024) :
    latMiddle m c t ht ht4 s0 s1 s2 (ix4 b z r l) = entry (fun b r d => iblk m c 0 t (ix4 b 0 r d)) (fun b r => iblk m c 1 t (ix4 b 0 r 0)) (fun b l => iblk m c 2 t (ix4 b 0 5 l))
      (fun d f => s0 (ix2 d f)) (fun d f => s1 (ix2 d f)) (fun d f => s2 (ix2 d f)) b r l := by
  frame_out
  generalize (iblk m c 0 t) = y0
  generalize (iblk m c 1 t) = y1
  generalize (iblk m c 2 t) = y2
  canon_tiles x h
  · idx_vars x
    refine (high_at _ _ _ _ _ _ _ _ _ _).trans ?_
    obtain rfl : b = 1 := Fin.ext (by rw [h0]; omega)
    obtain rfl : r = _ := Fin.ext h2
    obtain rfl : l = _ := Fin.ext h3
    refine congrArg₂ (· * ·) (congrArg₂ (· * ·) (expert_congr (fun _ => ?_) (fun _ _ => congrFun (Memref.IsWhole.read_unread _ _) _) (fun _ _ => congrFun (Memref.IsWhole.read_unread _ _) _) (fun _ => congrFun (Memref.IsWhole.read_unread _ _) _)) ?_) ?_
    all_goals
      first
        | rfl
        | pointwise
  · idx_vars x
    refine (low_at _ _ _ _ _ _ _ _ _ _).trans ?_
    obtain rfl : b = 0 := Fin.ext (by show b.val = 0; omega)
    obtain rfl : r = _ := Fin.ext h2
    obtain rfl : l = _ := Fin.ext h3
    refine congrArg₂ (· * ·) (congrArg₂ (· * ·) (expert_congr (fun _ => ?_) (fun _ _ => congrFun (Memref.IsWhole.read_unread _ _) _) (fun _ _ => congrFun (Memref.IsWhole.read_unread _ _) _) (fun _ => congrFun (Memref.IsWhole.read_unread _ _) _)) ?_) ?_
    all_goals
      first
        | rfl
        | pointwise

/-- What an expert's last step stores for the context rows, from the scratch's matrices. -/
theorem ctxLast_at (c : Dev nD) (t : Fin cfg0.N) (ht : t.val % 5 = 4) (s0 s1 s2 : Vec Ideal S1024x1024 .bf16) (b z : Fin 1) (r : Fin 256) (l : Fin 1024) :
    ctxLast m c t ht s0 s1 s2 (ix4 b z r l) = entry (fun b r d => iblk m c 3 t (ix4 b 0 r d)) (fun b r => iblk m c 4 t (ix4 b 0 r 0)) (fun b l => iblk m c 5 t (ix4 b 0 5 l))
      (fun d f => s0 (ix2 d f)) (fun d f => s1 (ix2 d f)) (fun d f => s2 (ix2 d f)) b r l := by
  frame_out
  generalize (iblk m c 3 t) = y3
  generalize (iblk m c 4 t) = y4
  generalize (iblk m c 5 t) = y5
  obtain rfl : b = 0 := Subsingleton.elim _ _
  refine (context_at _ _ _ _ _ _ _ _ _ _).trans ?_
  refine congrArg₂ (· * ·) (congrArg₂ (· * ·) (expert_congr (fun _ => ?_) (fun _ _ => congrFun (Memref.IsWhole.read_unread _ _) _) (fun _ _ => congrFun (Memref.IsWhole.read_unread _ _) _) (fun _ => congrFun (Memref.IsWhole.read_unread _ _) _)) ?_) ?_
  all_goals
    first
      | rfl
      | pointwise

end Cert.Kernel3Ideal.Moe

end
-- ==== Proof.Moe.Array.lean ====
/- What the two-set expert call leaves in its two result arrays. -/
module

public import proofs.«01_k».proof.Proof.Moe.Body

@[expose] public section

set_option maxRecDepth 16384

noncomputable section

namespace Cert.Kernel3Ideal.Moe

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

/-- The latent slots' rows. -/
abbrev argX (c : Dev nD) : FVec Ideal S8x16x256x1024 .bf16 := m (c.tc.loc main_arg0)

/-- The latent slots' gates. -/
abbrev argG (c : Dev nD) : FVec Ideal S8x16x256 .f32 := m (c.tc.loc main_arg1)

/-- The context slots' rows. -/
abbrev argXC (c : Dev nD) : FVec Ideal S1x16x256x1024 .bf16 := m (c.tc.loc main_arg2)

/-- The context slots' gates. -/
abbrev argGC (c : Dev nD) : FVec Ideal S1x16x256 .f32 := m (c.tc.loc main_arg3)

/-- The latent rows' modulation. -/
abbrev argM (c : Dev nD) : FVec Ideal S8x6x1024 .f32 := m (c.tc.loc main_arg4)

/-- The context rows' modulation. -/
abbrev argMC (c : Dev nD) : FVec Ideal S6x1024 .f32 := m (c.tc.loc main_arg5)

/-- The gate matrices. -/
abbrev argWG (c : Dev nD) : FVec Ideal S4x16x1024x1024 .f32 := m (c.tc.loc main_arg6)

/-- The up matrices. -/
abbrev argWU (c : Dev nD) : FVec Ideal S4x16x1024x1024 .f32 := m (c.tc.loc main_arg7)

/-- The down matrices. -/
abbrev argWD (c : Dev nD) : FVec Ideal S4x16x1024x1024 .f32 := m (c.tc.loc main_arg8)

/-- The latent gates as the kernel is handed them: each along a row of lanes. -/
def wideG (g : FVec Ideal S8x16x256 .f32) : FVec Ideal S8x16x256x128 .f32 :=
  broadcastInDim S8x16x256x128 ![0, 1, 2, 3] bcast_S8x16x256x1_S8x16x256x128_0_1_2_3 (broadcastInDim S8x16x256x1 ![0, 1, 2] bcast_S8x16x256_S8x16x256x1_0_1_2 g)

/-- The context gates as the kernel is handed them. -/
def wideGC (g : FVec Ideal S1x16x256 .f32) : FVec Ideal S1x16x256x128 .f32 :=
  broadcastInDim S1x16x256x128 ![0, 1, 2, 3] bcast_S1x16x256x1_S1x16x256x128_0_1_2_3 (broadcastInDim S1x16x256x1 ![0, 1, 2] bcast_S1x16x256_S1x16x256x1_0_1_2 g)

/-- The modulations as the kernel is handed them: the latent rows' beside the context rows'. -/
def bothM (a : FVec Ideal S8x6x1024 .f32) (b : FVec Ideal S6x1024 .f32) : FVec Ideal S8x2x6x1024 .f32 :=
  concatenate S8x2x6x1024 1 [⟨S8x1x6x1024, broadcastInDim S8x1x6x1024 ![0, 2, 3] bcast_S8x6x1024_S8x1x6x1024_0_2_3 a⟩,
    ⟨S8x1x6x1024, broadcastInDim S8x1x6x1024 ![0, 1, 2, 3] bcast_S1x1x6x1024_S8x1x6x1024_0_1_2_3 (broadcastInDim S1x1x6x1024 ![2, 3] bcast_S6x1024_S1x1x6x1024_2_3 b)⟩]
    concatenates_S8x1x6x1024_S8x1x6x1024_S8x2x6x1024_d1

/-- The latent gates at launch. -/
theorem entryG (c : Dev nD) : V m c main_v5 = wideG (argG m c) := by
  unfold V
  after_results
  try rfl

/-- The context gates at launch. -/
theorem entryGC (c : Dev nD) : V m c main_v7 = wideGC (argGC m c) := by
  unfold V
  after_results
  try rfl

/-- The modulations at launch. -/
theorem entryM (c : Dev nD) : V m c main_v3 = bothM (argM m c) (argMC m c) := by
  unfold V
  after_results
  try rfl

/-- A latent gate as handed over. -/
theorem wideG_at (g : FVec Ideal S8x16x256 .f32) (b : Fin 8) (e : Fin 16) (r : Fin 256) (l : Fin 128) : wideG g (ix4 b e r l) = g (ix3 b e r) := by
  pointwise [wideG]

/-- A context gate as handed over. -/
theorem wideGC_at (g : FVec Ideal S1x16x256 .f32) (b : Fin 1) (e : Fin 16) (r : Fin 256) (l : Fin 128) : wideGC g (ix4 b e r l) = g (ix3 b e r) := by
  obtain rfl : b = 0 := Subsingleton.elim _ _
  pointwise [wideGC]

/-- The latent rows' modulation as handed over. -/
theorem bothM_lat (a : FVec Ideal S8x6x1024 .f32) (s : FVec Ideal S6x1024 .f32) (b : Fin 8) (k : Fin 6) (l : Fin 1024) : bothM a s (ix4 b 0 k l) = a (ix3 b k l) := by
  pointwise [bothM]

/-- The context rows' modulation as handed over. -/
theorem bothM_ctx (a : FVec Ideal S8x6x1024 .f32) (s : FVec Ideal S6x1024 .f32) (b : Fin 8) (k : Fin 6) (l : Fin 1024) : bothM a s (ix4 b 1 k l) = s (ix2 k l) := by
  pointwise [bothM]

/-- The latent tile a step stands at: the steps past the last tile stay at it. -/
abbrev tileOf (t : Fin cfg0.N) : ℕ := min (t.val % 5) 3

/-- The block each window reads or writes at a step. -/
theorem idx : ∀ t : Fin cfg0.N, win0_0.index t = ![tileOf t, t.val / 5, 0, 0] ∧ win0_1.index t = ![tileOf t, t.val / 5, 0, 0]
    ∧ win0_2.index t = ![tileOf t, 0, 0, 0] ∧ win0_3.index t = ![0, t.val / 5, 0, 0] ∧ win0_4.index t = ![0, t.val / 5, 0, 0]
    ∧ win0_5.index t = ![0, 1, 0, 0] ∧ win0_6.index t = ![0, t.val / 5, 0, 0] ∧ win0_7.index t = ![0, t.val / 5, 0, 0]
    ∧ win0_8.index t = ![0, t.val / 5, 0, 0] ∧ win0_9.index t = ![tileOf t, t.val / 5, 0, 0] ∧ win0_10.index t = ![0, t.val / 5, 0, 0] :=
  (by decide +kernel : ∀ t : Fin grid0.N, _)

/-- There are 80 steps. -/
theorem t_lt (t : Fin cfg0.N) : t.val < 80 := t.isLt

/-- The expert of a step. -/
abbrev expertOf (t : Fin cfg0.N) : Fin 16 := ⟨t.val / 5, by have := t_lt t; omega⟩

/-- The batch of a step's half. -/
abbrev batchOf (t : Fin cfg0.N) (b : Fin 2) : Fin 8 := ⟨tileOf t * 2 + b, by have : tileOf t ≤ 3 := Nat.min_le_right _ _; omega⟩

/-- The latent rows' block at a step. -/
theorem blkX (c : Dev nD) (t : Fin cfg0.N) (b : Fin 2) (z : Fin 1) (r : Fin 256) (l : Fin 1024) :
    iblk m c 0 t (ix4 b z r l) = argX m c (ix4 (batchOf t b) (expertOf t) r l) := by
  refine Eq.trans ?_ (congrFun (V_main_arg0 m c) _)
  blk_ext [iblk, idx t]

/-- The latent gates' block at a step. -/
theorem blkG (c : Dev nD) (t : Fin cfg0.N) (b : Fin 2) (z : Fin 1) (r : Fin 256) (l : Fin 128) :
    iblk m c 1 t (ix4 b z r l) = argG m c (ix3 (batchOf t b) (expertOf t) r) := by
  refine Eq.trans ?_ (wideG_at (argG m c) (batchOf t b) (expertOf t) r l)
  refine Eq.trans ?_ (congrFun (entryG m c) _)
  blk_ext [iblk, idx t]

/-- The latent modulation's block at a step. -/
theorem blkM (c : Dev nD) (t : Fin cfg0.N) (b : Fin 2) (z : Fin 1) (k : Fin 6) (l : Fin 1024) :
    iblk m c 2 t (ix4 b z k l) = argM m c (ix3 (batchOf t b) k l) := by
  refine Eq.trans ?_ (bothM_lat (argM m c) (argMC m c) (batchOf t b) k l)
  refine Eq.trans ?_ (congrFun (entryM m c) _)
  blk_ext [iblk, idx t]

/-- The context rows' block at a step. -/
theorem blkXC (c : Dev nD) (t : Fin cfg0.N) (b z : Fin 1) (r : Fin 256) (l : Fin 1024) :
    iblk m c 3 t (ix4 b z r l) = argXC m c (ix4 b (expertOf t) r l) := by
  refine Eq.trans ?_ (congrFun (V_main_arg2 m c) _)
  blk_ext [iblk, idx t]

/-- The context gates' block at a step. -/
theorem blkGC (c : Dev nD) (t : Fin cfg0.N) (b z : Fin 1) (r : Fin 256) (l : Fin 128) :
    iblk m c 4 t (ix4 b z r l) = argGC m c (ix3 b (expertOf t) r) := by
  refine Eq.trans ?_ (wideGC_at (argGC m c) b (expertOf t) r l)
  refine Eq.trans ?_ (congrFun (entryGC m c) _)
  blk_ext [iblk, idx t]

/-- The context modulation's block at a step. -/
theorem blkMC (c : Dev nD) (t : Fin cfg0.N) (b z : Fin 1) (k : Fin 6) (l : Fin 1024) :
    iblk m c 5 t (ix4 b z k l) = argMC m c (ix2 k l) := by
  refine Eq.trans ?_ (bothM_ctx (argM m c) (argMC m c) 0 k l)
  refine Eq.trans ?_ (congrFun (entryM m c) _)
  blk_ext [iblk, idx t]

/-- The gate matrix at a step. -/
theorem blkWG (c : Dev nD) (t : Fin cfg0.N) (z z' : Fin 1) (d f : Fin 1024) :
    iblk m c 6 t (ix4 z z' d f) = argWG m c (ix4 0 (expertOf t) d f) := by
  refine Eq.trans ?_ (congrFun (V_main_arg6 m c) _)
  blk_ext [iblk, idx t]

/-- The up matrix at a step. -/
theorem blkWU (c : Dev nD) (t : Fin cfg0.N) (z z' : Fin 1) (d f : Fin 1024) :
    iblk m c 7 t (ix4 z z' d f) = argWU m c (ix4 0 (expertOf t) d f) := by
  refine Eq.trans ?_ (congrFun (V_main_arg7 m c) _)
  blk_ext [iblk, idx t]

/-- The down matrix at a step. -/
theorem blkWD (c : Dev nD) (t : Fin cfg0.N) (z z' : Fin 1) (d f : Fin 1024) :
    iblk m c 8 t (ix4 z z' d f) = argWD m c (ix4 0 (expertOf t) d f) := by
  refine Eq.trans ?_ (congrFun (V_main_arg8 m c) _)
  blk_ext [iblk, idx t]

/-- A step and its expert's first step belong to the same expert. -/
theorem expertOf_start (t : Fin cfg0.N) : expertOf (start t) = expertOf t := Fin.ext (by
  show (t.val - t.val % 5) / 5 = t.val / 5
  omega)

/-- The scratch's gate matrix is the one of the step's own expert. -/
theorem scr0_at (c : Dev nD) (t : Fin cfg0.N) (d f : Fin 1024) : scr0 m c t (ix2 d f) = argWG m c (ix4 0 (expertOf t) d f) := by
  unfold scr0
  rw [cast0_at, blkWG, expertOf_start]

/-- The scratch's up matrix is the one of the step's own expert. -/
theorem scr1_at (c : Dev nD) (t : Fin cfg0.N) (d f : Fin 1024) : scr1 m c t (ix2 d f) = argWU m c (ix4 0 (expertOf t) d f) := by
  unfold scr1
  rw [cast1_at, blkWU, expertOf_start]

/-- The scratch's down matrix is the one of the step's own expert. -/
theorem scr2_at (c : Dev nD) (t : Fin cfg0.N) (d f : Fin 1024) : scr2 m c t (ix2 d f) = argWD m c (ix4 0 (expertOf t) d f) := by
  unfold scr2
  rw [cast2_at, blkWD, expertOf_start]

/-- The first result: every latent slot through its expert, its gate and its modulation. -/
def LAT (X : FVec Ideal S8x16x256x1024 .bf16) (g : FVec Ideal S8x16x256 .f32) (M : FVec Ideal S8x6x1024 .f32) (G U D : FVec Ideal S4x16x1024x1024 .f32) : FVec Ideal S8x16x256x1024 .bf16 :=
  fun i => Ffn.expert (fun d => X (ix4 (i 0) (i 1) (i 2) d)) (fun d f => G (ix4 0 (i 1) d f)) (fun d f => U (ix4 0 (i 1) d f)) (fun f => D (ix4 0 (i 1) f (i 3)))
    * g (ix3 (i 0) (i 1) (i 2)) * M (ix3 (i 0) 5 (i 3))

/-- The second result: every context slot through its expert, its gate and the context's modulation. -/
def CTX (X : FVec Ideal S1x16x256x1024 .bf16) (g : FVec Ideal S1x16x256 .f32) (M : FVec Ideal S6x1024 .f32) (G U D : FVec Ideal S4x16x1024x1024 .f32) : FVec Ideal S1x16x256x1024 .bf16 :=
  fun i => Ffn.expert (fun d => X (ix4 (i 0) (i 1) (i 2) d)) (fun d f => G (ix4 0 (i 1) d f)) (fun d f => U (ix4 0 (i 1) d f)) (fun f => D (ix4 0 (i 1) f (i 3)))
    * g (ix3 (i 0) (i 1) (i 2)) * M (ix2 5 (i 3))

/-- A latent step stores its block of the first result. -/
theorem lat_step (c : Dev nD) (t : Fin cfg0.N) (h4 : t.val % 5 < 4) (b : Fin 2) (z : Fin 1) (r : Fin 256) (l : Fin 1024) :
    lat m c t (ix4 b z r l) = LAT (argX m c) (argG m c) (argM m c) (argWG m c) (argWU m c) (argWD m c) (ix4 (batchOf t b) (expertOf t) r l) := by
  by_cases hA : t.val % 5 = 0
  · rw [lat_first m c t hA]
    refine (latFirst_at m c t hA b z r l).trans ?_
    exact congrArg₂ (· * ·) (congrArg₂ (· * ·) (expert_congr (fun d => blkX m c t b 0 r d) (fun d f => blkWG m c t 0 0 d f) (fun d f => blkWU m c t 0 0 d f) (fun f => blkWD m c t 0 0 f l))
      (blkG m c t b 0 r 0)) (blkM m c t b 0 5 l)
  · rw [lat_middle m c t hA h4]
    refine (latMiddle_at m c t hA h4 _ _ _ b z r l).trans ?_
    exact congrArg₂ (· * ·) (congrArg₂ (· * ·) (expert_congr (fun d => blkX m c t b 0 r d) (fun d f => scr0_at m c t d f) (fun d f => scr1_at m c t d f) (fun f => scr2_at m c t f l))
      (blkG m c t b 0 r 0)) (blkM m c t b 0 5 l)

/-- After any step the latent buffer holds the step's block of the first result. -/
theorem lat_at (c : Dev nD) (t : Fin cfg0.N) (b : Fin 2) (z : Fin 1) (r : Fin 256) (l : Fin 1024) :
    lat m c t (ix4 b z r l) = LAT (argX m c) (argG m c) (argM m c) (argWG m c) (argWU m c) (argWD m c) (ix4 (batchOf t b) (expertOf t) r l) := by
  by_cases h4 : t.val % 5 < 4
  · exact lat_step m c t h4 b z r l
  · have h : t.val % 5 = 4 := by omega
    rw [lat_last m c t h]
    refine (lat_step m c (prev t) (by show (t.val - 1) % 5 < 4; omega) b z r l).trans ?_
    have eb : batchOf (prev t) b = batchOf t b := Fin.ext (by
      show min ((t.val - 1) % 5) 3 * 2 + b.val = min (t.val % 5) 3 * 2 + b.val
      omega)
    have ee : expertOf (prev t) = expertOf t := Fin.ext (by
      show (t.val - 1) / 5 = t.val / 5
      omega)
    rw [eb, ee]

/-- After an expert's last step the context buffer holds the step's block of the second result. -/
theorem ctx_at (c : Dev nD) (t : Fin cfg0.N) (h : t.val % 5 = 4) (b z : Fin 1) (r : Fin 256) (l : Fin 1024) :
    ctx m c t (ix4 b z r l) = CTX (argXC m c) (argGC m c) (argMC m c) (argWG m c) (argWU m c) (argWD m c) (ix4 b (expertOf t) r l) := by
  rw [ctx_last m c t h]
  refine (ctxLast_at m c t h _ _ _ b z r l).trans ?_
  exact congrArg₂ (· * ·) (congrArg₂ (· * ·) (expert_congr (fun d => blkXC m c t b 0 r d) (fun d f => scr0_at m c t d f) (fun d f => scr1_at m c t d f) (fun f => scr2_at m c t f l))
    (blkGC m c t b 0 r 0)) (blkMC m c t b 0 5 l)

/-- The first result array after the run. -/
theorem final_lat (c : Dev nD) : (dats m 0 c).arrAt 9 cfg0.N
    = LAT (argX m c) (argG m c) (argM m c) (argWG m c) (argWU m c) (argWD m c) := by
  refine (dats m 0 c).arrAt_eq_of_covers 9 _ (by decide +kernel) fun t _ y => ?_
  blk_simp
  rw [after0_9]
  idx_vars y
  refine (lat_at m c t _ _ _ _).trans (congrArg _ ?_)
  blk_ext [idx t]

/-- The second result array after the run. -/
theorem final_ctx (c : Dev nD) : (dats m 0 c).arrAt 10 cfg0.N
    = CTX (argXC m c) (argGC m c) (argMC m c) (argWG m c) (argWU m c) (argWD m c) := by
  refine (dats m 0 c).arrAt_eq_of_covers 10 _ (by decide +kernel) fun t hf y => ?_
  have ht : t.val % 5 = 4 := (flush0_10 t).mp hf
  blk_simp
  rw [after0_10]
  idx_vars y
  refine (ctx_at m c t ht _ _ _ _).trans (congrArg _ ?_)
  blk_ext [idx t]

end Cert.Kernel3Ideal.Moe

end
-- ==== Proof.Moe.Reference.lean ====
/- What the two-set expert call's reference computes: its two results read at an index. -/
module

public import proofs.«01_k».proof.Proof.Gen.Reference3Ideal
public import proofs.«01_k».proof.Proof.Ffn.Expert

@[expose] public section

set_option maxRecDepth 16384

noncomputable section

namespace Cert.Reference3Ideal.Value

open Idealize.ShloMosaic Idealize.ShloMosaic.TcCoe Idealize.SL.Sem
open Cert.Reference3Ideal Cert.Reference3Ideal.Gen

/-- One layer's weights. -/
def layer (W : FVec Ideal S4x16x1024x1024 .f32) : FVec Ideal S16x1024x1024 .f32 :=
  shapeCast _ (extractStridedSlice S1x16x1024x1024 ![0, 0, 0, 0] W slices_S4x16x1024x1024_S1x16x1024x1024_0_0_0_0) shapeCasts_S1x16x1024x1024_S16x1024x1024

/-- A layer's weight. -/
theorem layer_at (W : FVec Ideal S4x16x1024x1024 .f32) (e : Fin 16) (d f : Fin 1024) : layer W (ix3 e d f) = W (ix4 0 e d f) := by
  pointwise [layer]

/-- Every latent slot times its expert's matrix. -/
def proj (W : FVec Ideal S16x1024x1024 .f32) (X : FVec Ideal S8x16x256x1024 .f32) : FVec Ideal S8x16x256x1024 .f32 :=
  transpose S8x16x256x1024 [2, 0, 3, 1] (Host.dotGeneral dot_S16x1024x1024_S8x16x256x1024_S16x1024x8x256_1_3_2_02_0_1 none W X) transposes_S16x1024x8x256_S8x16x256x1024_2_0_3_1

/-- The gated product of two projections. -/
def gated (A U : FVec Ideal S8x16x256x1024 .f32) : FVec Ideal S8x16x256x1024 .f32 :=
  mulf (mulf A (Host.divf (broadcastInDim S8x16x256x1024 ![] bcast_S_S8x16x256x1024 (constant S_ .f32 0x3F800000#32))
    (addf (broadcastInDim S8x16x256x1024 ![] bcast_S_S8x16x256x1024 (constant S_ .f32 0x3F800000#32)) (Host.exp (Host.negf A))))) U

/-- The output scaled by the slots' gates and the modulation's last row. -/
def scaled (O : FVec Ideal S8x16x256x1024 .f32) (g : FVec Ideal S8x16x256 .f32) (M : FVec Ideal S8x6x1024 .f32) : FVec Ideal S8x16x256x1024 .bf16 :=
  truncf .bf16 (mulf (broadcastInDim S8x16x256x1024 ![0, 1, 2, 3] bcast_S8x1x1x1024_S8x16x256x1024_0_1_2_3 (broadcastInDim S8x1x1x1024 ![0, 3] bcast_S8x1024_S8x1x1x1024_0_3
      (shapeCast _ (extractStridedSlice S8x1x1024 ![0, 5, 0] M slices_S8x6x1024_S8x1x1024_0_5_0) shapeCasts_S8x1x1024_S8x1024)))
    (mulf O (broadcastInDim S8x16x256x1024 ![0, 1, 2, 3] bcast_S8x16x256x1_S8x16x256x1024_0_1_2_3 (broadcastInDim S8x16x256x1 ![0, 1, 2] bcast_S8x16x256_S8x16x256x1_0_1_2 g))))
    bitsLt_bf16_f32

/-- The reference's latent result. -/
def REF (X : FVec Ideal S8x16x256x1024 .bf16) (g : FVec Ideal S8x16x256 .f32) (M : FVec Ideal S8x6x1024 .f32) (G U D : FVec Ideal S4x16x1024x1024 .f32) : FVec Ideal S8x16x256x1024 .bf16 :=
  scaled (proj (layer D) (gated (proj (layer G) (extf .f32 X bitsLt_bf16_f32)) (proj (layer U) (extf .f32 X bitsLt_bf16_f32)))) g M

/-- An entry of a projection. -/
theorem proj_at (W : FVec Ideal S16x1024x1024 .f32) (X : FVec Ideal S8x16x256x1024 .f32) (b : Fin 8) (e : Fin 16) (r : Fin 256) (f : Fin 1024) :
    proj W X (ix4 b e r f) = ∑ d : Fin 1024, X (ix4 b e r d) * W (ix3 e d f) := by
  refine Eq.trans ?_ (Finset.sum_congr rfl fun d _ => mul_comm (W (ix3 e d f)) (X (ix4 b e r d)))
  pointwise [proj]

/-- An entry of the gated product. -/
theorem gated_at (A U : FVec Ideal S8x16x256x1024 .f32) (b : Fin 8) (e : Fin 16) (r : Fin 256) (f : Fin 1024) :
    gated A U (ix4 b e r f) = Ffn.silu (A (ix4 b e r f)) * U (ix4 b e r f) := by
  pointwise [gated, Ffn.silu]

/-- An entry of the scaled output. -/
theorem scaled_at (O : FVec Ideal S8x16x256x1024 .f32) (g : FVec Ideal S8x16x256 .f32) (M : FVec Ideal S8x6x1024 .f32) (b : Fin 8) (e : Fin 16) (r : Fin 256) (l : Fin 1024) :
    scaled O g M (ix4 b e r l) = O (ix4 b e r l) * g (ix3 b e r) * M (ix3 b 5 l) := by
  refine Eq.trans ?_ (mul_comm (M (ix3 b 5 l)) (O (ix4 b e r l) * g (ix3 b e r)))
  pointwise [scaled]

/-- An entry of the reference's latent result. -/
theorem REF_at (X : FVec Ideal S8x16x256x1024 .bf16) (g : FVec Ideal S8x16x256 .f32) (M : FVec Ideal S8x6x1024 .f32) (G U D : FVec Ideal S4x16x1024x1024 .f32)
    (b : Fin 8) (e : Fin 16) (r : Fin 256) (l : Fin 1024) :
    REF X g M G U D (ix4 b e r l)
      = Ffn.expert (fun d => X (ix4 b e r d)) (fun d f => G (ix4 0 e d f)) (fun d f => U (ix4 0 e d f)) (fun f => D (ix4 0 e f l)) * g (ix3 b e r) * M (ix3 b 5 l) := by
  unfold REF
  rw [scaled_at, proj_at]
  unfold Ffn.expert Ffn.hidden
  simp only [gated_at, proj_at, layer_at]
  rfl

/-- Every context slot times its expert's matrix. -/
def projC (W : FVec Ideal S16x1024x1024 .f32) (X : FVec Ideal S1x16x256x1024 .f32) : FVec Ideal S1x16x256x1024 .f32 :=
  transpose S1x16x256x1024 [2, 0, 3, 1] (Host.dotGeneral dot_S16x1024x1024_S1x16x256x1024_S16x1024x1x256_1_3_2_02_0_1 none W X) transposes_S16x1024x1x256_S1x16x256x1024_2_0_3_1

/-- The gated product of two projections. -/
def gatedC (A U : FVec Ideal S1x16x256x1024 .f32) : FVec Ideal S1x16x256x1024 .f32 :=
  mulf (mulf A (Host.divf (broadcastInDim S1x16x256x1024 ![] bcast_S_S1x16x256x1024 (constant S_ .f32 0x3F800000#32))
    (addf (broadcastInDim S1x16x256x1024 ![] bcast_S_S1x16x256x1024 (constant S_ .f32 0x3F800000#32)) (Host.exp (Host.negf A))))) U

/-- The output scaled by the slots' gates and the modulation's last row. -/
def scaledC (O : FVec Ideal S1x16x256x1024 .f32) (g : FVec Ideal S1x16x256 .f32) (M : FVec Ideal S6x1024 .f32) : FVec Ideal S1x16x256x1024 .bf16 :=
  truncf .bf16 (mulf (broadcastInDim S1x16x256x1024 ![0, 1, 2, 3] bcast_S1x1x1x1024_S1x16x256x1024_0_1_2_3 (broadcastInDim S1x1x1x1024 ![0, 3] bcast_S1x1024_S1x1x1x1024_0_3
      (shapeCast _ (extractStridedSlice S1x1x1024 ![0, 5, 0] (broadcastInDim S1x6x1024 ![1, 2] bcast_S6x1024_S1x6x1024_1_2 M) slices_S1x6x1024_S1x1x1024_0_5_0) shapeCasts_S1x1x1024_S1x1024)))
    (mulf O (broadcastInDim S1x16x256x1024 ![0, 1, 2, 3] bcast_S1x16x256x1_S1x16x256x1024_0_1_2_3 (broadcastInDim S1x16x256x1 ![0, 1, 2] bcast_S1x16x256_S1x16x256x1_0_1_2 g))))
    bitsLt_bf16_f32

/-- The reference's context result. -/
def REFC (X : FVec Ideal S1x16x256x1024 .bf16) (g : FVec Ideal S1x16x256 .f32) (M : FVec Ideal S6x1024 .f32) (G U D : FVec Ideal S4x16x1024x1024 .f32) : FVec Ideal S1x16x256x1024 .bf16 :=
  scaledC (projC (layer D) (gatedC (projC (layer G) (extf .f32 X bitsLt_bf16_f32)) (projC (layer U) (extf .f32 X bitsLt_bf16_f32)))) g M

/-- An entry of a projection. -/
theorem projC_at (W : FVec Ideal S16x1024x1024 .f32) (X : FVec Ideal S1x16x256x1024 .f32) (b : Fin 1) (e : Fin 16) (r : Fin 256) (f : Fin 1024) :
    projC W X (ix4 b e r f) = ∑ d : Fin 1024, X (ix4 b e r d) * W (ix3 e d f) := by
  obtain rfl : b = 0 := Subsingleton.elim _ _
  refine Eq.trans ?_ (Finset.sum_congr rfl fun d _ => mul_comm (W (ix3 e d f)) (X (ix4 0 e r d)))
  pointwise [projC]

/-- An entry of the gated product. -/
theorem gatedC_at (A U : FVec Ideal S1x16x256x1024 .f32) (b : Fin 1) (e : Fin 16) (r : Fin 256) (f : Fin 1024) :
    gatedC A U (ix4 b e r f) = Ffn.silu (A (ix4 b e r f)) * U (ix4 b e r f) := by
  pointwise [gatedC, Ffn.silu]

/-- An entry of the scaled output. -/
theorem scaledC_at (O : FVec Ideal S1x16x256x1024 .f32) (g : FVec Ideal S1x16x256 .f32) (M : FVec Ideal S6x1024 .f32) (b : Fin 1) (e : Fin 16) (r : Fin 256) (l : Fin 1024) :
    scaledC O g M (ix4 b e r l) = O (ix4 b e r l) * g (ix3 b e r) * M (ix2 5 l) := by
  obtain rfl : b = 0 := Subsingleton.elim _ _
  refine Eq.trans ?_ (mul_comm (M (ix2 5 l)) (O (ix4 0 e r l) * g (ix3 0 e r)))
  pointwise [scaledC]

/-- An entry of the reference's context result. -/
theorem REFC_at (X : FVec Ideal S1x16x256x1024 .bf16) (g : FVec Ideal S1x16x256 .f32) (M : FVec Ideal S6x1024 .f32) (G U D : FVec Ideal S4x16x1024x1024 .f32)
    (b : Fin 1) (e : Fin 16) (r : Fin 256) (l : Fin 1024) :
    REFC X g M G U D (ix4 b e r l)
      = Ffn.expert (fun d => X (ix4 b e r d)) (fun d f => G (ix4 0 e d f)) (fun d f => U (ix4 0 e d f)) (fun f => D (ix4 0 e f l)) * g (ix3 b e r) * M (ix2 5 l) := by
  unfold REFC
  rw [scaledC_at, projC_at]
  unfold Ffn.expert Ffn.hidden
  simp only [gatedC_at, projC_at, layer_at]
  rfl

end Cert.Reference3Ideal.Value

end
-- ==== Proof.Moe.Equal.lean ====
/- The two-set expert call's equations: the kernel's two results are the reference's. -/
module

public import proofs.«01_k».proof.Proof.Moe.Array
public import proofs.«01_k».proof.Proof.Moe.Reference

@[expose] public section

set_option maxRecDepth 16384

noncomputable section

namespace Cert.Moe

open Idealize.ShloMosaic
open Cert.Kernel3Ideal (S8x16x256x1024 S8x16x256 S8x6x1024 S4x16x1024x1024 S1x16x256x1024 S1x16x256 S6x1024)

/-- The latent results agree, whatever the rows, gates, modulation and matrices. -/
theorem LAT_eq (X : FVec Ideal S8x16x256x1024 .bf16) (g : FVec Ideal S8x16x256 .f32) (M : FVec Ideal S8x6x1024 .f32) (G U D : FVec Ideal S4x16x1024x1024 .f32) :
    Cert.Kernel3Ideal.Moe.LAT X g M G U D = Cert.Reference3Ideal.Value.REF X g M G U D := by
  funext j
  idx_vars j
  exact (Cert.Reference3Ideal.Value.REF_at X g M G U D j0 j1 j2 j3).symm

/-- The context results agree likewise. -/
theorem CTX_eq (X : FVec Ideal S1x16x256x1024 .bf16) (g : FVec Ideal S1x16x256 .f32) (M : FVec Ideal S6x1024 .f32) (G U D : FVec Ideal S4x16x1024x1024 .f32) :
    Cert.Kernel3Ideal.Moe.CTX X g M G U D = Cert.Reference3Ideal.Value.REFC X g M G U D := by
  funext j
  idx_vars j
  exact (Cert.Reference3Ideal.Value.REFC_at X g M G U D j0 j1 j2 j3).symm

end Cert.Moe

end
-- ==== Proof.Inproj.Spec.lean ====
/- The in-projection's mathematics on plain functions: norms, modulation, heads and rotation. -/
module

public import Idealize.ShloMosaic.Lib.Pipeline.ValueKit

@[expose] public section

set_option maxRecDepth 16384

noncomputable section

namespace Cert.Inproj

open Idealize.ShloMosaic

/-- A row divided by its root mean square, scaled by a gain, then scaled and shifted by a modulation. -/
def modRow (x g sc sh : Fin 1024 → EReal) (d : Fin 1024) : EReal :=
  x d * Ideal.rsqrt (Ideal.div (∑ k : Fin 1024, x k * x k) (Ideal.ofBits FTy.f32 1149239296#32) + Ideal.ofBits FTy.f32 897988541#32) * g d * (1 + sc d) + sh d

/-- A head divided by its root mean square and scaled by a gain. -/
def headNorm (a g : Fin 64 → EReal) (f : Fin 64) : EReal :=
  a f * Ideal.rsqrt (Ideal.div (∑ k : Fin 64, a k * a k) (Ideal.ofBits FTy.f32 1115684864#32) + Ideal.ofBits FTy.f32 897988541#32) * g f

/-- The lane a lane turns with: sixteen on in the lower sixteen of a half, sixteen back in the upper. -/
def mate (f : Fin 64) : Fin 64 := if h : f.val % 32 < 16 then ⟨f.val + 16, by omega⟩ else ⟨f.val - 16, by omega⟩

/-- A lane's half of its head. -/
def half (f : Fin 64) : Fin 2 := ⟨f.val / 32, by omega⟩

/-- A lane's place among the sixteen angles. -/
def place (f : Fin 64) : Fin 16 := ⟨f.val % 16, by omega⟩

/-- A head turned: the first half by the row's angles, the second by the column's. -/
def turn (a : Fin 64 → EReal) (c s : Fin 2 → Fin 16 → EReal) (f : Fin 64) : EReal :=
  if f.val % 32 < 16 then a f * c (half f) (place f) - a (mate f) * s (half f) (place f)
  else a f * c (half f) (place f) + a (mate f) * s (half f) (place f)

/-- A head of a row: turned when the row is a latent, as it is when it is a context row. -/
def headRow (c s : Fin 2048 → Fin 2 → Fin 16 → EReal) (t : Fin 2304) (a : Fin 64 → EReal) (f : Fin 64) : EReal :=
  if h : t.val < 2048 then turn a (c ⟨t.val, h⟩) (s ⟨t.val, h⟩) f else a f

/-- A row of the sequence: the latents, then the context. -/
def rowX (x : Fin 8 → Fin 2048 → Fin 1024 → EReal) (cx : Fin 8 → Fin 256 → Fin 1024 → EReal) (b : Fin 8) (t : Fin 2304) (d : Fin 1024) : EReal :=
  if h : t.val < 2048 then x b ⟨t.val, h⟩ d else cx b ⟨t.val - 2048, by omega⟩ d

/-- A row's modulation. -/
def rowM (ml : Fin 8 → Fin 6 → Fin 1024 → EReal) (mc : Fin 6 → Fin 1024 → EReal) (b : Fin 8) (t : Fin 2304) (k : Fin 6) (d : Fin 1024) : EReal :=
  if t.val < 2048 then ml b k d else mc k d

/-- A column of the projection of a normalised, modulated row. -/
def proj (x : Fin 8 → Fin 2048 → Fin 1024 → EReal) (cx : Fin 8 → Fin 256 → Fin 1024 → EReal) (ml : Fin 8 → Fin 6 → Fin 1024 → EReal) (mc : Fin 6 → Fin 1024 → EReal)
    (g : Fin 1024 → EReal) (w : Fin 1024 → Fin 2832 → EReal) (b : Fin 8) (t : Fin 2304) (j : Fin 2832) : EReal :=
  ∑ d : Fin 1024, modRow (rowX x cx b t) g (rowM ml mc b t 1) (rowM ml mc b t 0) d * w d j

/-- A lane's cosine in the table that all lanes of a row share: one past the latents. -/
def cosLane (c : Fin 2048 → Fin 2 → Fin 16 → EReal) (t : Fin 2304) (f : Fin 64) : EReal :=
  if h : t.val < 2048 then c ⟨t.val, h⟩ (half f) (place f) else 1

/-- A lane's signed sine in that table: nothing past the latents. -/
def sinLane (s : Fin 2048 → Fin 2 → Fin 16 → EReal) (t : Fin 2304) (f : Fin 64) : EReal :=
  if h : t.val < 2048 then (if f.val % 32 < 16 then -s ⟨t.val, h⟩ (half f) (place f) else s ⟨t.val, h⟩ (half f) (place f)) else 0

/-- Turning by the lane tables is turning the latent rows and keeping the context rows. -/
theorem lane_turn (c s : Fin 2048 → Fin 2 → Fin 16 → EReal) (t : Fin 2304) (a : Fin 64 → EReal) (f : Fin 64) :
    a f * cosLane c t f + a (mate f) * sinLane s t f = headRow c s t a f := by
  unfold cosLane sinLane headRow turn
  by_cases h : t.val < 2048
  · rw [dif_pos h, dif_pos h, dif_pos h]
    by_cases h' : f.val % 32 < 16
    · rw [if_pos h', if_pos h', mul_neg, sub_eq_add_neg]
    · rw [if_neg h', if_neg h']
  · rw [dif_neg h, dif_neg h, dif_neg h, mul_one, mul_zero, add_zero]

/-- The pattern of 1/64 and the pattern of 64 are reciprocal. -/
theorem by64 (x : EReal) : x * Ideal.ofBits FTy.f32 1015021568#32 = Ideal.div x (Ideal.ofBits FTy.f32 1115684864#32) := by
  have h1 : Ideal.ofBits FTy.f32 1015021568#32 = ((1 / 64 : ℝ) : EReal) := by
    simp [Ideal.ofBits, Ideal.ieee, -EReal.coe_mul]
    norm_num
  have h2 : Ideal.ofBits FTy.f32 1115684864#32 = ((64 : ℝ) : EReal) := by
    simp [Ideal.ofBits, Ideal.ieee, -EReal.coe_mul]
    norm_num
  rw [h1, h2, Ideal.div_coe (by norm_num : (64 : ℝ) ≠ 0)]

/-- A sum against a column of zeros and ones, one over a head's lanes, is the sum over the head. -/
theorem head_sum (H N : ℕ) (hN : H * 64 = N) (s G : Fin N → EReal) (e : ℕ) (he : e < H)
    (hG : ∀ x : Fin N, G x = if x.val / 64 = e then 1 else 0) :
    ∑ x : Fin N, s x * G x = ∑ f : Fin 64, s ⟨e * 64 + f.val, by have := f.isLt; omega⟩ := by
  rw [Fin.sum_univ_tiles H 64 hN]
  rw [Finset.sum_eq_single (⟨e, he⟩ : Fin H)]
  · refine Finset.sum_congr rfl fun f _ => ?_
    rw [hG, if_pos (by have := f.isLt; show (e * 64 + f.val) / 64 = e; omega), mul_one]
  · intro j _ hj
    refine Finset.sum_eq_zero fun f _ => ?_
    rw [hG, if_neg, mul_zero]
    intro h
    refine hj (Fin.ext ?_)
    have := f.isLt
    have h' : (j.val * 64 + f.val) / 64 = e := h
    show j.val = e
    omega
  · intro h
    exact absurd (Finset.mem_univ _) h

/-- A normalised lane of the row of heads is its head's normalised lane. -/
theorem lane_norm (H N : ℕ) (hN : H * 64 = N) (a g G : Fin N → EReal) (e : ℕ) (he : e < H) (f : Fin 64) (l : Fin N) (hl : l.val = e * 64 + f.val)
    (hG : ∀ x : Fin N, G x = if x.val / 64 = e then 1 else 0) :
    a l * Ideal.rsqrt ((∑ x : Fin N, a x * a x * G x) * Ideal.ofBits FTy.f32 1015021568#32 + Ideal.ofBits FTy.f32 897988541#32) * g l
      = headNorm (fun k => a ⟨e * 64 + k.val, by have := k.isLt; omega⟩) (fun k => g ⟨e * 64 + k.val, by have := k.isLt; omega⟩) f := by
  rw [head_sum H N hN (fun x => a x * a x) G e he hG, by64]
  have hb : e * 64 + f.val < N := by rw [← hl]; exact l.isLt
  rw [show l = ⟨e * 64 + f.val, hb⟩ from Fin.ext hl]
  rfl

end Cert.Inproj

end
-- ==== Proof.Inproj.Body.lean ====
/- What a tile's point of the in-projection stores, entry by entry, from the blocks it reads. -/
module

public import proofs.«01_k».proof.Proof.Gen.Kernel4Ideal.Skeleton
public import proofs.«01_k».proof.Proof.Inproj.Spec

@[expose] public section

set_option maxRecDepth 16384

noncomputable section

namespace Cert.Kernel4Ideal.Inproj

open Idealize.ShloMosaic Idealize.ShloMosaic.TcCoe Idealize.SL.Sem
open Cert.Kernel4Ideal Cert.Kernel4Ideal.Gen
open Cert.Inproj

/-- A lane of the row of heads. -/
abbrev lane {H N : ℕ} (hN : H * 64 = N) (e : Fin H) (f : Fin 64) : Fin N :=
  ⟨e.val * 64 + f.val, by have := e.isLt; have := f.isLt; omega⟩

/-- A normalised, modulated row of a tile. -/
def tileRow (md : Vec Ideal S1x1x6x1024 .f32) (x : Vec Ideal S1x256x1024 .f32) (g : Vec Ideal S1x1024 .f32) (r : Fin 256) : Fin 1024 → EReal :=
  modRow (fun d => x (ix3 0 r d)) (fun d => g (ix2 0 d)) (fun d => md (ix4 0 0 1 d)) (fun d => md (ix4 0 0 0 d))

/-- An entry of the tile's normalised, modulated rows. -/
theorem rows_at (md : Vec Ideal S1x1x6x1024 .f32) (x : Vec Ideal S1x256x1024 .f32) (g : Vec Ideal S1x1024 .f32) (r : Fin 256) (d : Fin 1024) :
    k0_pay4 md x g (ix2 r d) = tileRow md x g r d := by
  pointwise [k0_pay4, tileRow, modRow]

/-- An entry of the query columns' projection. -/
theorem queries_at (md : Vec Ideal S1x1x6x1024 .f32) (x : Vec Ideal S1x256x1024 .f32) (g : Vec Ideal S1x1024 .f32) (w : Vec Ideal S1024x512 .bf16) (r : Fin 256) (l : Fin 512) :
    k0_pay8 md x g w (ix2 r l) = ∑ d : Fin 1024, k0_pay4 md x g (ix2 r d) * w (ix2 d l) := by
  generalize hh : k0_pay4 md x g = h
  unfold k0_pay8
  rw [hh]
  pointwise

/-- The kernel's test whether a lane is in the lower sixteen of a half. -/
def low (n : ℕ) : BitVec 1 :=
  IntOp.cmpi .slt
    (Scalar.select
      (IntOp.andi
        (IntOp.xori (IntOp.cmpi .slt (IntOp.remsi ArithUnit.vector (BitVec.ofNat 32 n) (Scalar.select (Scalar.cmpi .eq 32#32 0#32) 1#32 32#32)) 0#32)
          (Scalar.cmpi .slt (Scalar.select (Scalar.cmpi .eq 32#32 0#32) 1#32 32#32) 0#32))
        (IntOp.cmpi .ne (IntOp.remsi ArithUnit.vector (BitVec.ofNat 32 n) (Scalar.select (Scalar.cmpi .eq 32#32 0#32) 1#32 32#32)) 0#32))
      (IntOp.addi (IntOp.remsi ArithUnit.vector (BitVec.ofNat 32 n) (Scalar.select (Scalar.cmpi .eq 32#32 0#32) 1#32 32#32))
        (Scalar.select (Scalar.cmpi .eq 32#32 0#32) 1#32 32#32))
      (IntOp.remsi ArithUnit.vector (BitVec.ofNat 32 n) (Scalar.select (Scalar.cmpi .eq 32#32 0#32) 1#32 32#32)))
    16#32

/-- The test tells the lanes apart. -/
theorem low_eq : ∀ n : Fin 512, low n.val = BitVec.ofBool (decide (n.val % 32 < 16)) := by
  decide +kernel

/-- The kernel's choice between the two rotations of a row of lanes takes the lane's mate. -/
theorem choose_mate {H : ℕ} (hH : H ≤ 8) (e : Fin H) (f : Fin 64) (p q u : EReal) (hp : f.val % 32 < 16 → p = u) (hq : ¬f.val % 32 < 16 → q = u) :
    Scalar.select (low (e.val * 64 + f.val)) p q = u := by
  have hl := low_eq ⟨e.val * 64 + f.val, by have := e.isLt; have := f.isLt; omega⟩
  have hm : (e.val * 64 + f.val) % 32 = f.val % 32 := by omega
  by_cases h : f.val % 32 < 16
  · have : low (e.val * 64 + f.val) = 1#1 := hl.trans (by show BitVec.ofBool (decide ((e.val * 64 + f.val) % 32 < 16)) = 1#1; rw [hm, decide_eq_true h]; rfl)
    rw [this]
    exact hp h
  · have : low (e.val * 64 + f.val) = 0#1 := hl.trans (by show BitVec.ofBool (decide ((e.val * 64 + f.val) % 32 < 16)) = 0#1; rw [hm, decide_eq_false h]; rfl)
    rw [this]
    exact hq h

/-- The query block: normalised heads turned by the tile's tables and scaled. -/
theorem turned512_at (C S : FVec Ideal S256x512 .f32) (G : FVec Ideal S512x512 .bf16) (a : FVec Ideal S256x512 .f32) (g : Vec Ideal S1x512 .f32)
    (hG : ∀ x l : Fin 512, G (ix2 x l) = if x.val / 64 = l.val / 64 then 1 else 0) (r : Fin 256) (e : Fin 8) (f : Fin 64) :
    k0_pay9 C S G a g (ix2 r (lane rfl e f))
      = (headNorm (fun k => a (ix2 r (lane rfl e k))) (fun k => g (ix2 0 (lane rfl e k))) f * C (ix2 r (lane rfl e f))
          + headNorm (fun k => a (ix2 r (lane rfl e k))) (fun k => g (ix2 0 (lane rfl e k))) (mate f) * S (ix2 r (lane rfl e f)))
        * Ideal.ofBits FTy.f32 1040187392#32 := by
  have he := e.isLt
  have hf := f.isLt
  have hn : ∀ (k : Fin 64) (l : Fin 512), l.val = e.val * 64 + k.val →
      a (ix2 r l) * Ideal.rsqrt ((∑ x : Fin 512, a (ix2 r x) * a (ix2 r x) * G (ix2 x l)) * Ideal.ofBits FTy.f32 1015021568#32 + Ideal.ofBits FTy.f32 897988541#32) * g (ix2 0 l)
        = headNorm (fun k => a (ix2 r (lane rfl e k))) (fun k => g (ix2 0 (lane rfl e k))) k := fun k l hl =>
    lane_norm 8 512 rfl (fun x => a (ix2 r x)) (fun x => g (ix2 0 x)) (fun x => G (ix2 x l)) e.val e.isLt k l hl fun x => by
      have hk := k.isLt
      rw [hG, show l.val / 64 = e.val by omega]
  pointwise [k0_pay9]
  refine congrArg (· * _) (congrArg₂ (· + ·) (congrArg (· * _) (hn f _ rfl)) (congrArg (· * _) ?_))
  refine choose_mate (le_refl 8) e f _ _ _ (fun h => hn (mate f) _ ?_) (fun h => hn (mate f) _ ?_)
  · unfold mate
    rw [dif_pos h]
    show (e.val * 64 + f.val + 512 - 496) % 512 = e.val * 64 + (f.val + 16)
    omega
  · unfold mate
    rw [dif_neg h]
    show (e.val * 64 + f.val + 512 - 16) % 512 = e.val * 64 + (f.val - 16)
    omega

/-- The key row's lanes before they are turned. -/
theorem keys_at (h : FVec Ideal S256x1024 .bf16) (G : FVec Ideal S512x512 .bf16) (w : Vec Ideal S1024x128 .bf16) (g : Vec Ideal S1x128 .f32)
    (hG : ∀ x l : Fin 512, G (ix2 x l) = if x.val / 64 = l.val / 64 then 1 else 0) (r : Fin 256) (e : Fin 2) (k : Fin 64) (l : Fin 128) (hl : l.val = e.val * 64 + k.val) :
    k0_pay11 h G w g (ix2 r l)
      = headNorm (fun k => ∑ d : Fin 1024, h (ix2 r d) * w (ix2 d (lane rfl e k))) (fun k => g (ix2 0 (lane rfl e k))) k := by
  have he := e.isLt
  have hk := k.isLt
  refine Eq.trans ?_ (lane_norm 2 128 rfl (fun x => ∑ d : Fin 1024, h (ix2 r d) * w (ix2 d x)) (fun x => g (ix2 0 x))
    (fun x => G (ix2 ⟨x.val, by omega⟩ ⟨l.val, by omega⟩)) e.val e.isLt k l hl fun x => by
      rw [hG]
      show (if x.val / 64 = l.val / 64 then (1 : EReal) else 0) = _
      rw [show l.val / 64 = e.val by omega])
  pointwise [k0_pay11]

/-- The key block: normalised heads turned by the tile's tables. -/
theorem turned128_at (C S : FVec Ideal S256x512 .f32) (h : FVec Ideal S256x1024 .bf16) (G : FVec Ideal S512x512 .bf16) (w : Vec Ideal S1024x128 .bf16) (g : Vec Ideal S1x128 .f32)
    (hG : ∀ x l : Fin 512, G (ix2 x l) = if x.val / 64 = l.val / 64 then 1 else 0) (z : Fin 1) (r : Fin 256) (e : Fin 2) (f : Fin 64) :
    k0_pay17 (k0_pay11 h G w g) (k0_pay12 C) (k0_pay13 S) k0_pay14 (k0_pay15 h G w g) (k0_pay16 h G w g) (ix3 z r (lane rfl e f))
      = headNorm (fun k => ∑ d : Fin 1024, h (ix2 r d) * w (ix2 d (lane rfl e k))) (fun k => g (ix2 0 (lane rfl e k))) f
          * C (ix2 r ⟨e.val * 64 + f.val, by have := e.isLt; have := f.isLt; omega⟩)
        + headNorm (fun k => ∑ d : Fin 1024, h (ix2 r d) * w (ix2 d (lane rfl e k))) (fun k => g (ix2 0 (lane rfl e k))) (mate f)
          * S (ix2 r ⟨e.val * 64 + f.val, by have := e.isLt; have := f.isLt; omega⟩) := by
  have he := e.isLt
  have hf := f.isLt
  have hn := keys_at h G w g hG r e
  unfold k0_pay15 k0_pay16
  generalize k0_pay11 h G w g = n at hn ⊢
  pointwise [k0_pay17, k0_pay12, k0_pay13, k0_pay14]
  refine congrArg₂ (· + ·) (congrArg (· * _) (hn f _ rfl)) (congrArg (· * _) ?_)
  refine choose_mate (by omega) e f _ _ _ (fun h => hn (mate f) _ ?_) (fun h => hn (mate f) _ ?_)
  · unfold mate
    rw [dif_pos h]
    show (e.val * 64 + f.val + 128 - 112) % 128 = e.val * 64 + (f.val + 16)
    omega
  · unfold mate
    rw [dif_neg h]
    show (e.val * 64 + f.val + 128 - 16) % 128 = e.val * 64 + (f.val - 16)
    omega

/-- The value columns' projection of a tile. -/
def valueCols (h : FVec Ideal S256x1024 .bf16) (w : Vec Ideal S1024x128 .bf16) : FVec Ideal S256x128 .bf16 :=
  truncf .bf16 (matmul dot_S256x1024_S1024x128_S256x128_1_0_0_1_n_n none h (shapeCast S1024x128 w shapeCasts_S1024x128_S1024x128 : FVec Ideal S1024x128 .bf16) (constant S256x128 .f32 0x00000000#32)) bitsLt_bf16_f32

/-- An entry of that projection. -/
theorem valueCols_at (h : FVec Ideal S256x1024 .bf16) (w : Vec Ideal S1024x128 .bf16) (r : Fin 256) (l : Fin 128) :
    valueCols h w (ix2 r l) = ∑ d : Fin 1024, h (ix2 r d) * w (ix2 d l) := by
  pointwise [valueCols]

/-- The value block: each head's lanes, then as many ones. -/
theorem values_at (h : FVec Ideal S256x1024 .bf16) (w : Vec Ideal S1024x128 .bf16) (z : Fin 1) (r : Fin 256) (l : Fin 256) :
    k0_pay18 h w (ix3 z r l)
      = if l.val % 128 < 64 then ∑ d : Fin 1024, h (ix2 r d) * w (ix2 d ⟨l.val / 128 * 64 + l.val % 64, by omega⟩) else 1 := by
  rw [← valueCols_at]
  have hp : valueCols h w = truncf .bf16 (matmul dot_S256x1024_S1024x128_S256x128_1_0_0_1_n_n none h (shapeCast S1024x128 w shapeCasts_S1024x128_S1024x128 : FVec Ideal S1024x128 .bf16) (constant S256x128 .f32 0x00000000#32)) bitsLt_bf16_f32 := rfl
  unfold k0_pay18
  rw [← hp]
  generalize valueCols h w = p
  clear hp
  pointwise
  have hl := l.isLt
  by_cases h0 : l.val < 64
  · refine (dif_pos h0).trans (Eq.trans ?_ (if_pos (by omega)).symm)
    refine congrArg (fun j => p (ix2 r j)) (Fin.ext ?_)
    show l.val = l.val / 128 * 64 + l.val % 64
    omega
  · refine (dif_neg h0).trans ?_
    by_cases h1 : l.val - 64 < 64
    · exact (dif_pos h1).trans (if_neg (by omega)).symm
    · refine (dif_neg h1).trans ?_
      by_cases h2 : l.val - 64 - 64 < 64
      · refine (dif_pos h2).trans (Eq.trans ?_ (if_pos (by omega)).symm)
        refine congrArg (fun j => p (ix2 r j)) (Fin.ext ?_)
        show 64 + (l.val - 64 - 64) = l.val / 128 * 64 + l.val % 64
        omega
      · exact (dif_neg h2).trans (if_neg (by omega)).symm

/-- The second attention's query and key block. -/
theorem qk_at (h : FVec Ideal S256x1024 .bf16) (w : Vec Ideal S1024x1024 .bf16) (z : Fin 1) (r : Fin 256) (l : Fin 1024) :
    k0_pay19 h w (ix3 z r l) = ∑ d : Fin 1024, h (ix2 r d) * w (ix2 d l) := by
  pointwise [k0_pay19]

/-- The second attention's value block, lanes along rows. -/
theorem vb_at (h : FVec Ideal S256x1024 .bf16) (w : Vec Ideal S1024x512 .bf16) (z : Fin 1) (l : Fin 512) (r : Fin 256) :
    k0_pay20 h w (ix3 z l r) = ∑ d : Fin 1024, h (ix2 r d) * w (ix2 d l) := by
  pointwise [k0_pay20]

/-- The output gate's block. -/
theorem ob_at (h : FVec Ideal S256x1024 .bf16) (w : Vec Ideal S1024x512 .bf16) (z : Fin 1) (r : Fin 256) (l : Fin 512) :
    k0_pay21 h w (ix3 z r l) = ∑ d : Fin 1024, h (ix2 r d) * w (ix2 d l) := by
  pointwise [k0_pay21]

end Cert.Kernel4Ideal.Inproj

end
-- ==== Proof.Inproj.Entry.lean ====
/- The in-projection's operands as the host lays them out, and each at a lane. -/
module

public import proofs.«01_k».proof.Proof.Gen.Kernel4Ideal.Frame
public import proofs.«01_k».proof.Proof.Inproj.Body

@[expose] public section

set_option maxRecDepth 16384

noncomputable section

namespace Cert.Kernel4Ideal.Inproj

open Idealize.ShloMosaic Idealize.ShloMosaic.TcCoe Idealize.SL.Sem
open Cert.Kernel4Ideal Cert.Kernel4Ideal.Gen
open Cert.Inproj

/-- The sequence: the latents, then the context. -/
def seqX (a : FVec Ideal S8x2048x1024 .f32) (b : FVec Ideal S8x256x1024 .f32) : FVec Ideal S8x2304x1024 .f32 :=
  concatenate S8x2304x1024 1 [⟨S8x2048x1024, a⟩, ⟨S8x256x1024, b⟩] concatenates_S8x2048x1024_S8x256x1024_S8x2304x1024_d1

/-- The modulations: the latents' beside the context's. -/
def modM (a : FVec Ideal S8x6x1024 .f32) (b : FVec Ideal S6x1024 .f32) : FVec Ideal S8x2x6x1024 .f32 :=
  concatenate S8x2x6x1024 1 [⟨S8x1x6x1024, broadcastInDim S8x1x6x1024 ![0, 2, 3] bcast_S8x6x1024_S8x1x6x1024_0_2_3 a⟩,
    ⟨S8x1x6x1024, broadcastInDim S8x1x6x1024 ![0, 1, 2, 3] bcast_S1x1x6x1024_S8x1x6x1024_0_1_2_3 (broadcastInDim S1x1x6x1024 ![2, 3] bcast_S6x1024_S1x1x6x1024_2_3 b)⟩]
    concatenates_S8x1x6x1024_S8x1x6x1024_S8x2x6x1024_d1

/-- The rows' gain. -/
def gainX (a : FVec Ideal S4x1024 .f32) : FVec Ideal S1x1024 .f32 :=
  broadcastInDim S1x1024 ![1] bcast_S1024_S1x1024_1
    (shapeCast S1024 (extractStridedSlice S1x1024 ![0, 0] a slices_S4x1024_S1x1024_0_0 : FVec Ideal S1x1024 .f32) shapeCasts_S1x1024_S1024)

/-- The weights with their columns of zeros. -/
def wideW (a : FVec Ideal S2x1024x2832 .f32) : FVec Ideal S1024x2944 .bf16 :=
  truncf .bf16 (concatenate S1024x2944 1 [⟨S1024x2832, (shapeCast S1024x2832 (extractStridedSlice S1x1024x2832 ![0, 0, 0] a slices_S2x1024x2832_S1x1024x2832_0_0_0 : FVec Ideal S1x1024x2832 .f32) shapeCasts_S1x1024x2832_S1024x2832 : FVec Ideal S1024x2832 .f32)⟩,
    ⟨S1024x112, (broadcastInDim S1024x112 ![] bcast_S_S1024x112 (constant S_ .f32 0x00000000#32 : FVec Ideal S_ .f32) : FVec Ideal S1024x112 .f32)⟩] concatenates_S1024x2832_S1024x112_S1024x2944_d1 : FVec Ideal S1024x2944 .f32) bitsLt_bf16_f32

/-- A half's sixteen angles. -/
def rowPart (a : FVec Ideal S2048x2x16 .f32) : FVec Ideal S2048x16 .f32 :=
  shapeCast S2048x16 (extractStridedSlice S2048x1x16 ![0, 0, 0] a slices_S2048x2x16_S2048x1x16_0_0_0 : FVec Ideal S2048x1x16 .f32) shapeCasts_S2048x1x16_S2048x16

/-- The other half's sixteen angles. -/
def colPart (a : FVec Ideal S2048x2x16 .f32) : FVec Ideal S2048x16 .f32 :=
  shapeCast S2048x16 (extractStridedSlice S2048x1x16 ![0, 1, 0] a slices_S2048x2x16_S2048x1x16_0_1_0 : FVec Ideal S2048x1x16 .f32) shapeCasts_S2048x1x16_S2048x16

/-- Four runs of sixteen lanes side by side. -/
def four (a b c d : FVec Ideal S2048x16 .f32) : FVec Ideal S2048x64 .f32 :=
  concatenate S2048x64 1 [⟨S2048x16, a⟩, ⟨S2048x16, b⟩, ⟨S2048x16, c⟩, ⟨S2048x16, d⟩] concatenates_S2048x16_S2048x16_S2048x16_S2048x16_S2048x64_d1

/-- A head's table along the lanes of eight heads. -/
def tiled (a : FVec Ideal S2048x64 .f32) : FVec Ideal S2048x512 .f32 :=
  shapeCast S2048x512 (broadcastInDim S1x2048x8x64 ![0, 1, 2, 3] bcast_S1x2048x1x64_S1x2048x8x64_0_1_2_3
    (shapeCast S1x2048x1x64 a shapeCasts_S2048x64_S1x2048x1x64 : FVec Ideal S1x2048x1x64 .f32) : FVec Ideal S1x2048x8x64 .f32) shapeCasts_S1x2048x8x64_S2048x512

/-- A table over the sequence: one value in all of the context's rows. -/
def longer (a : FVec Ideal S2048x512 .f32) (z : BitVec 32) : FVec Ideal S2304x512 .f32 :=
  concatenate S2304x512 0 [⟨S2048x512, a⟩, ⟨S256x512, (broadcastInDim S256x512 ![] bcast_S_S256x512 (constant S_ .f32 z : FVec Ideal S_ .f32) : FVec Ideal S256x512 .f32)⟩] concatenates_S2048x512_S256x512_S2304x512_d0

/-- The cosines along the lanes. -/
def cosT (a : FVec Ideal S2048x2x16 .f32) : FVec Ideal S2304x512 .f32 :=
  longer (tiled (four (rowPart a) (rowPart a) (colPart a) (colPart a))) 0x3F800000#32

/-- The signed sines along the lanes. -/
def sinT (a : FVec Ideal S2048x2x16 .f32) : FVec Ideal S2304x512 .f32 :=
  longer (tiled (four (Host.negf (rowPart a)) (rowPart a) (Host.negf (colPart a)) (colPart a))) 0x00000000#32

/-- The query heads' gain along the lanes. -/
def gainQ (a : FVec Ideal S2x64 .f32) : FVec Ideal S1x512 .f32 :=
  broadcastInDim S1x512 ![1] bcast_S512_S1x512_1 (shapeCast S512 (broadcastInDim S8x64 ![0, 1] bcast_S1x64_S8x64_0_1
    (shapeCast S1x64 (shapeCast S64 (extractStridedSlice S1x64 ![0, 0] a slices_S2x64_S1x64_0_0 : FVec Ideal S1x64 .f32) shapeCasts_S1x64_S64 : FVec Ideal S64 .f32) shapeCasts_S64_S1x64 : FVec Ideal S1x64 .f32) : FVec Ideal S8x64 .f32) shapeCasts_S8x64_S512)

/-- The key heads' gain along the lanes. -/
def gainK (a : FVec Ideal S2x64 .f32) : FVec Ideal S1x128 .f32 :=
  broadcastInDim S1x128 ![1] bcast_S128_S1x128_1 (shapeCast S128 (broadcastInDim S2x64 ![0, 1] bcast_S1x64_S2x64_0_1
    (shapeCast S1x64 (shapeCast S64 (extractStridedSlice S1x64 ![0, 0] a slices_S2x64_S1x64_0_0 : FVec Ideal S1x64 .f32) shapeCasts_S1x64_S64 : FVec Ideal S64 .f32) shapeCasts_S64_S1x64 : FVec Ideal S1x64 .f32) : FVec Ideal S2x64 .f32) shapeCasts_S2x64_S128)

/-- Each lane's head, rounded down as the host does it, for lanes along either axis. -/
def headOf {s : Shape} (hb : S_.BroadcastsInDim s (![] : Fin 0 → Fin s.rank)) (a : IVec s 32) : IVec s 32 :=
  select (andi (cmpi .ne (signi a) (broadcastInDim s ![] hb (signi (constantI S_ 32 64#32 : IVec S_ 32))))
      (cmpi .ne (Host.remsi a (broadcastInDim s ![] hb (constantI S_ 32 64#32 : IVec S_ 32))) (broadcastInDim s ![] hb (constantI S_ 32 0#32 : IVec S_ 32))))
    (subi (Host.divsi a (broadcastInDim s ![] hb (constantI S_ 32 64#32 : IVec S_ 32))) (broadcastInDim s ![] hb (constantI S_ 32 1#32 : IVec S_ 32)))
    (Host.divsi a (broadcastInDim s ![] hb (constantI S_ 32 64#32 : IVec S_ 32)))

/-- One where two lanes belong to one head, zero elsewhere. -/
def sameHead : FVec Ideal S512x512 .bf16 :=
  uitofp .bf16 (cmpi .eq
    (broadcastInDim S512x512 ![0, 1] bcast_S512x1_S512x512_0_1 (headOf bcast_S_S512x1 (broadcastInDim S512x1 ![0] bcast_S512_S512x1_0 (iotaInDim S512 32 0))))
    (broadcastInDim S512x512 ![0, 1] bcast_S1x512_S512x512_0_1 (headOf bcast_S_S1x512 (broadcastInDim S1x512 ![1] bcast_S512_S1x512_1 (iotaInDim S512 32 0)))))

/-- The sequence at a lane. -/
theorem seqX_at (a : FVec Ideal S8x2048x1024 .f32) (b : FVec Ideal S8x256x1024 .f32) (i : Fin 8) (t : Fin 2304) (d : Fin 1024) :
    seqX a b (ix3 i t d) = rowX (fun i t d => a (ix3 i t d)) (fun i t d => b (ix3 i t d)) i t d := by
  unfold rowX
  pointwise [seqX]

/-- The latents' modulation at a lane. -/
theorem modM_lat (a : FVec Ideal S8x6x1024 .f32) (s : FVec Ideal S6x1024 .f32) (b : Fin 8) (k : Fin 6) (l : Fin 1024) : modM a s (ix4 b 0 k l) = a (ix3 b k l) := by
  pointwise [modM]

/-- The context's modulation at a lane. -/
theorem modM_ctx (a : FVec Ideal S8x6x1024 .f32) (s : FVec Ideal S6x1024 .f32) (b : Fin 8) (k : Fin 6) (l : Fin 1024) : modM a s (ix4 b 1 k l) = s (ix2 k l) := by
  pointwise [modM]

/-- The gain at a lane. -/
theorem gainX_at (a : FVec Ideal S4x1024 .f32) (z : Fin 1) (l : Fin 1024) : gainX a (ix2 z l) = a (ix2 0 l) := by
  obtain rfl : z = 0 := Subsingleton.elim _ _
  pointwise [gainX]

/-- A weight of one of the projection's own columns. -/
theorem wideW_at (a : FVec Ideal S2x1024x2832 .f32) (d : Fin 1024) (j : Fin 2944) (h : j.val < 2832) : wideW a (ix2 d j) = a (ix3 0 d ⟨j.val, h⟩) := by
  pointwise [wideW]
  exact dif_pos h

/-- The four runs at a lane. -/
theorem four_at (a b c d : FVec Ideal S2048x16 .f32) (t : Fin 2048) (f : Fin 64) :
    four a b c d (ix2 t f) = if f.val < 32 then (if f.val % 32 < 16 then a (ix2 t (place f)) else b (ix2 t (place f)))
      else (if f.val % 32 < 16 then c (ix2 t (place f)) else d (ix2 t (place f))) := by
  pointwise [four]
  have hf := f.isLt
  by_cases h1 : f.val < 16
  · rw [if_pos (by omega : f.val < 32), if_pos (by omega : f.val % 32 < 16)]
    exact (dif_pos h1).trans (congrArg a (congrArg (ix2 t) (Fin.ext (by show f.val = f.val % 16; omega))))
  refine (dif_neg h1).trans ?_
  by_cases h2 : f.val - 16 < 16
  · rw [if_pos (by omega : f.val < 32), if_neg (by omega : ¬ f.val % 32 < 16)]
    exact (dif_pos h2).trans (congrArg b (congrArg (ix2 t) (Fin.ext (by show f.val - 16 = f.val % 16; omega))))
  refine (dif_neg h2).trans ?_
  by_cases h3 : f.val - 16 - 16 < 16
  · rw [if_neg (by omega : ¬ f.val < 32), if_pos (by omega : f.val % 32 < 16)]
    exact (dif_pos h3).trans (congrArg c (congrArg (ix2 t) (Fin.ext (by show f.val - 16 - 16 = f.val % 16; omega))))
  refine (dif_neg h3).trans ?_
  rw [if_neg (by omega : ¬ f.val < 32), if_neg (by omega : ¬ f.val % 32 < 16)]
  exact congrArg d (congrArg (ix2 t) (Fin.ext (by show f.val - 16 - 16 - 16 = f.val % 16; omega)))

/-- A half's angles at a place. -/
theorem rowPart_at (a : FVec Ideal S2048x2x16 .f32) (t : Fin 2048) (p : Fin 16) : rowPart a (ix2 t p) = a (ix3 t 0 p) := by
  pointwise [rowPart]

/-- The other half's angles at a place. -/
theorem colPart_at (a : FVec Ideal S2048x2x16 .f32) (t : Fin 2048) (p : Fin 16) : colPart a (ix2 t p) = a (ix3 t 1 p) := by
  pointwise [colPart]

/-- The tiled table at a lane. -/
theorem tiled_at (a : FVec Ideal S2048x64 .f32) (t : Fin 2048) (l : Fin 512) : tiled a (ix2 t l) = a (ix2 t ⟨l.val % 64, by omega⟩) := by
  pointwise [tiled]

/-- The longer table at a lane. -/
theorem longer_at (a : FVec Ideal S2048x512 .f32) (z : BitVec 32) (t : Fin 2304) (l : Fin 512) :
    longer a z (ix2 t l) = if h : t.val < 2048 then a (ix2 ⟨t.val, h⟩ l) else Ideal.ofBits FTy.f32 z := by
  pointwise [longer]

/-- The cosine of a lane of a head. -/
theorem cosT_at (a : FVec Ideal S2048x2x16 .f32) (t : Fin 2304) (f : Fin 64) (l : Fin 512) (hl : l.val % 64 = f.val) :
    cosT a (ix2 t l) = cosLane (fun t h p => a (ix3 t h p)) t f := by
  unfold cosT cosLane
  rw [longer_at]
  by_cases h : t.val < 2048
  · rw [dif_pos h, dif_pos h, tiled_at, show (⟨l.val % 64, by omega⟩ : Fin 64) = f from Fin.ext hl, four_at, rowPart_at, colPart_at, ite_self, ite_self]
    have hf := f.isLt
    by_cases h1 : f.val < 32
    · rw [if_pos h1, show half f = 0 from Fin.ext (by show f.val / 32 = 0; omega)]
    · rw [if_neg h1, show half f = 1 from Fin.ext (by show f.val / 32 = 1; omega)]
  · rw [dif_neg h, dif_neg h]
    exact Ideal.ofBits_one_f32

/-- The signed sine of a lane of a head. -/
theorem sinT_at (a : FVec Ideal S2048x2x16 .f32) (t : Fin 2304) (f : Fin 64) (l : Fin 512) (hl : l.val % 64 = f.val) :
    sinT a (ix2 t l) = sinLane (fun t h p => a (ix3 t h p)) t f := by
  unfold sinT sinLane
  rw [longer_at]
  by_cases h : t.val < 2048
  · rw [dif_pos h, dif_pos h, tiled_at, show (⟨l.val % 64, by omega⟩ : Fin 64) = f from Fin.ext hl, four_at, rowPart_at, colPart_at]
    have hn (v : FVec Ideal S2048x16 .f32) (i : S2048x16.Idx) : Host.negf v i = -v i := rfl
    rw [hn, hn, rowPart_at, colPart_at]
    have hf := f.isLt
    by_cases h1 : f.val < 32
    · rw [if_pos h1, show half f = 0 from Fin.ext (by show f.val / 32 = 0; omega)]
    · rw [if_neg h1, show half f = 1 from Fin.ext (by show f.val / 32 = 1; omega)]
  · rw [dif_neg h, dif_neg h]
    exact Ideal.ofBits_zero_f32

/-- The query gain at a lane. -/
theorem gainQ_at (a : FVec Ideal S2x64 .f32) (z : Fin 1) (l : Fin 512) : gainQ a (ix2 z l) = a (ix2 0 ⟨l.val % 64, by omega⟩) := by
  obtain rfl : z = 0 := Subsingleton.elim _ _
  pointwise [gainQ]

/-- The key gain at a lane. -/
theorem gainK_at (a : FVec Ideal S2x64 .f32) (z : Fin 1) (l : Fin 128) : gainK a (ix2 z l) = a (ix2 0 ⟨l.val % 64, by omega⟩) := by
  obtain rfl : z = 0 := Subsingleton.elim _ _
  pointwise [gainK]

/-- A lane's head, as the integers that stand for lanes give it. -/
theorem head_int : ∀ l : Fin 512,
    Scalar.select
      (IntOp.andi (IntOp.cmpi CmpIPredicate.ne (if BitVec.ofNat 32 l.val = 0 then 0 else if (BitVec.ofNat 32 l.val).msb = true then -1 else 1)
          (if 64#32 = 0 then (0 : BitVec 32) else if (64#32).msb = true then -1 else 1))
        (IntOp.cmpi CmpIPredicate.ne (IntOp.remsi ArithUnit.host (BitVec.ofNat 32 l.val) 64#32) 0#32))
      (IntOp.subi (IntOp.divsi ArithUnit.host (BitVec.ofNat 32 l.val) 64#32) 1#32)
      (IntOp.divsi ArithUnit.host (BitVec.ofNat 32 l.val) 64#32) = BitVec.ofNat 32 (l.val / 64) := by
  decide +kernel

/-- Whether two lanes are in one head, as a number. -/
theorem head_eq : ∀ x l : Fin 8, IntOp.cmpi CmpIPredicate.eq (BitVec.ofNat 32 x.val) (BitVec.ofNat 32 l.val) = if x.val = l.val then 1#1 else 0#1 := by
  decide +kernel

/-- The matrix of heads at a pair of lanes. -/
theorem sameHead_at (x l : Fin 512) : sameHead (ix2 x l) = if x.val / 64 = l.val / 64 then 1 else 0 := by
  pointwise [sameHead, headOf]
  refine (congrArg (FloatOps.uitofp (F := Idealize.ShloMosaic.Ideal) FTy.bf16) ((congrArg₂ (IntOp.cmpi CmpIPredicate.eq) (head_int x) (head_int l)).trans
    (head_eq ⟨x.val / 64, by omega⟩ ⟨l.val / 64, by omega⟩))).trans ?_
  show FloatOps.uitofp (F := Idealize.ShloMosaic.Ideal) FTy.bf16 (if x.val / 64 = l.val / 64 then 1#1 else 0#1) = _
  split
  · show ((((1#1 : BitVec 1).toNat : ℕ) : ℝ) : EReal) = 1
    simp
  · show ((((0#1 : BitVec 1).toNat : ℕ) : ℝ) : EReal) = 0
    simp

end Cert.Kernel4Ideal.Inproj

end
-- ==== Proof.Inproj.Launched.lean ====
/- What the in-projection finds in its operands at launch. -/
module

public import proofs.«01_k».proof.Proof.Inproj.Entry

@[expose] public section

set_option maxRecDepth 16384

noncomputable section

namespace Cert.Kernel4Ideal.Inproj

open Idealize.ShloMosaic Idealize.ShloMosaic.TcCoe Idealize.SL.Sem
open Cert.Kernel4Ideal Cert.Kernel4Ideal.Gen
open Cert.Inproj

variable (m : (ℓ : Loc nD τ sig) → Buf (Elt Ideal) ℓ)

/-- The latents. -/
abbrev argX (c : Dev nD) : FVec Ideal S8x2048x1024 .f32 := m (c.tc.loc main_arg0)

/-- The context. -/
abbrev argCX (c : Dev nD) : FVec Ideal S8x256x1024 .f32 := m (c.tc.loc main_arg1)

/-- The latents' modulation. -/
abbrev argM (c : Dev nD) : FVec Ideal S8x6x1024 .f32 := m (c.tc.loc main_arg2)

/-- The context's modulation. -/
abbrev argMC (c : Dev nD) : FVec Ideal S6x1024 .f32 := m (c.tc.loc main_arg3)

/-- The rows' gains. -/
abbrev argG1 (c : Dev nD) : FVec Ideal S4x1024 .f32 := m (c.tc.loc main_arg4)

/-- The weights. -/
abbrev argW (c : Dev nD) : FVec Ideal S2x1024x2832 .f32 := m (c.tc.loc main_arg5)

/-- The cosines. -/
abbrev argC (c : Dev nD) : FVec Ideal S2048x2x16 .f32 := m (c.tc.loc main_arg6)

/-- The sines. -/
abbrev argS (c : Dev nD) : FVec Ideal S2048x2x16 .f32 := m (c.tc.loc main_arg7)

/-- The query gains. -/
abbrev argGQ (c : Dev nD) : FVec Ideal S2x64 .f32 := m (c.tc.loc main_arg8)

/-- The key gains. -/
abbrev argGK (c : Dev nD) : FVec Ideal S2x64 .f32 := m (c.tc.loc main_arg9)

/-- The sequence at launch. -/
theorem entryX (c : Dev nD) : V m c main_v0 = seqX (argX m c) (argCX m c) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  try rfl

/-- The modulations at launch. -/
theorem entryM (c : Dev nD) : V m c main_v4 = modM (argM m c) (argMC m c) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  try rfl

/-- The gain at launch. -/
theorem entryG (c : Dev nD) : V m c main_v52 = gainX (argG1 m c) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  try rfl

/-- The weights at launch. -/
theorem entryW (c : Dev nD) : V m c main_v44 = wideW (argW m c) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  try rfl

/-- The cosines at launch. -/
theorem entryC (c : Dev nD) : V m c main_v28 = cosT (argC m c) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  try rfl

/-- The sines at launch. -/
theorem entryS (c : Dev nD) : V m c main_v30 = sinT (argS m c) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  try rfl

/-- The query gain at launch. -/
theorem entryGQ (c : Dev nD) : V m c main_v58 = gainQ (argGQ m c) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  try rfl

/-- The key gain at launch. -/
theorem entryGK (c : Dev nD) : V m c main_v64 = gainK (argGK m c) := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  try rfl

/-- The matrix of heads at launch. -/
theorem entryH (c : Dev nD) : V m c main_v39 = sameHead := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results
  try rfl

end Cert.Kernel4Ideal.Inproj

end
-- ==== Proof.Inproj.Stored.lean ====
/- What a point of the in-projection leaves in its output blocks, from its input blocks. -/
module

public import proofs.«01_k».proof.Proof.Gen.Kernel4Ideal.Frame
public import proofs.«01_k».proof.Proof.Inproj.Body

@[expose] public section

set_option maxRecDepth 16384

noncomputable section

namespace Cert.Kernel4Ideal.Inproj

open Idealize.ShloMosaic Idealize.ShloMosaic.TcCoe Idealize.SL.Sem
open Cert.Kernel4Ideal Cert.Kernel4Ideal.Gen
open Cert.Inproj

/-- A column of a tile's projection. -/
def tileProj (x0 : Vec Ideal S1x256x1024 .f32) (x1 : Vec Ideal S1x1x6x1024 .f32) (x2 : Vec Ideal S1x1024 .f32) (x3 : Vec Ideal S1024x2944 .bf16) (r : Fin 256) (j : Fin 2944) : EReal :=
  ∑ d : Fin 1024, tileRow x1 x0 x2 r d * x3 (ix2 d j)

/-- A head's norm depends on its lanes and gains alone. -/
theorem head_congr {a a' g g' : Fin 64 → EReal} (ha : ∀ k, a k = a' k) (hg : ∀ k, g k = g' k) (f : Fin 64) : headNorm a g f = headNorm a' g' f := by
  rw [funext ha, funext hg]

variable (x0 : Vec Ideal S1x256x1024 .f32) (x1 : Vec Ideal S1x1x6x1024 .f32) (x2 : Vec Ideal S1x1024 .f32) (x3 : Vec Ideal S1024x2944 .bf16)
  (x4 x5 : Vec Ideal S256x512 .f32) (x6 : Vec Ideal S1x512 .f32) (x7 : Vec Ideal S1x128 .f32) (x8 : Vec Ideal S512x512 .bf16) (x9 : Vec Ideal S1x128 .f32) (x10 : Vec Ideal S256x256 .bf16)

/-- A column read through a column range of the weights. -/
theorem ld_col {n : ℕ} (o : ℕ) (inb : ∀ a, (![0, o] : Fin 2 → ℕ) a + (⟨2, ![1024, n]⟩ : Shape).size a ≤ S1024x2944.size a) (d : Fin 1024) (l : Fin n) (j : Fin 2944) (hj : j.val = o + l.val) :
    View.ld x3 (Rect.unit (s := S1024x2944) ![0, o] (⟨2, ![1024, n]⟩ : Shape).size inb) (ix2 d l) = x3 (ix2 d j) := by
  refine congrArg x3 ?_
  blk_ext
  · show 0 + 1 * d.val = d.val
    omega
  · show o + 1 * l.val = j.val
    omega

/-- The second attention's query and key block. -/
theorem stored_qk (z : Fin 1) (r : Fin 256) (l : Fin 1024) :
    out0_14 x0 x1 x2 x3 x4 x5 x6 x7 x8 x9 x10 (ix3 z r l) = tileProj x0 x1 x2 x3 r ⟨768 + l.val, by omega⟩ := by
  unfold_out out0_14
  frame_out
  refine (qk_at _ _ z r l).trans (Finset.sum_congr rfl fun d _ => congrArg₂ (· * ·) (rows_at x1 x0 x2 r d) ?_)
  exact ld_col x3 768 _ d l _ rfl

/-- The output gate's block. -/
theorem stored_ob (z : Fin 1) (r : Fin 256) (l : Fin 512) :
    out0_16 x0 x1 x2 x3 x4 x5 x6 x7 x8 x9 x10 (ix3 z r l) = tileProj x0 x1 x2 x3 r ⟨2304 + l.val, by omega⟩ := by
  unfold_out out0_16
  frame_out
  refine (ob_at _ _ z r l).trans (Finset.sum_congr rfl fun d _ => congrArg₂ (· * ·) (rows_at x1 x0 x2 r d) ?_)
  exact ld_col x3 2304 _ d l _ rfl

/-- The second attention's value block. -/
theorem stored_vb (z : Fin 1) (r : Fin 256) (l : Fin 512) :
    out0_15 x0 x1 x2 x3 x4 x5 x6 x7 x8 x9 x10 (ix3 z l r) = tileProj x0 x1 x2 x3 r ⟨1792 + l.val, by omega⟩ := by
  unfold_out out0_15
  frame_out
  refine (vb_at _ _ z l r).trans (Finset.sum_congr rfl fun d _ => congrArg₂ (· * ·) (rows_at x1 x0 x2 r d) ?_)
  exact ld_col x3 1792 _ d l _ rfl

/-- The value block. -/
theorem stored_v (z : Fin 1) (r : Fin 256) (l : Fin 256) :
    out0_13 x0 x1 x2 x3 x4 x5 x6 x7 x8 x9 x10 (ix3 z r l)
      = if l.val % 128 < 64 then tileProj x0 x1 x2 x3 r ⟨640 + (l.val / 128 * 64 + l.val % 64), by omega⟩ else 1 := by
  unfold_out out0_13
  frame_out
  refine (values_at _ _ z r l).trans ?_
  by_cases hl : l.val % 128 < 64
  · rw [if_pos hl, if_pos hl]
    refine Finset.sum_congr rfl fun d _ => congrArg₂ (· * ·) (rows_at x1 x0 x2 r d) ?_
    exact ld_col x3 640 _ d _ _ rfl
  · rw [if_neg hl, if_neg hl]

/-- The query block, given that the lane matrix tells the heads apart. -/
theorem stored_q (hG : ∀ x l : Fin 512, x8 (ix2 x l) = if x.val / 64 = l.val / 64 then 1 else 0) (z : Fin 1) (r : Fin 256) (e : Fin 8) (f : Fin 64) :
    out0_11 x0 x1 x2 x3 x4 x5 x6 x7 x8 x9 x10 (ix3 z r (lane rfl e f))
      = (headNorm (fun k => tileProj x0 x1 x2 x3 r ⟨e.val * 64 + k.val, by omega⟩) (fun k => x6 (ix2 0 (lane rfl e k))) f * x4 (ix2 r (lane rfl e f))
          + headNorm (fun k => tileProj x0 x1 x2 x3 r ⟨e.val * 64 + k.val, by omega⟩) (fun k => x6 (ix2 0 (lane rfl e k))) (mate f) * x5 (ix2 r (lane rfl e f)))
        * Ideal.ofBits FTy.f32 1040187392#32 := by
  unfold_out out0_11
  frame_out
  have hn : ∀ k : Fin 64, headNorm (fun k => k0_pay8 x1 x0 x2 (View.ld x3 r0_5) (ix2 r (lane rfl e k))) (fun k => x6 (ix2 0 (lane rfl e k))) k
      = headNorm (fun k => tileProj x0 x1 x2 x3 r ⟨e.val * 64 + k.val, by omega⟩) (fun k => x6 (ix2 0 (lane rfl e k))) k := fun k => by
    refine head_congr (fun k => ?_) (fun k => ?_) k
    · refine (queries_at _ _ _ _ r _).trans (Finset.sum_congr rfl fun d _ => congrArg₂ (· * ·) (rows_at x1 x0 x2 r d) ?_)
      exact ld_col x3 0 _ d _ _ (by show e.val * 64 + k.val = 0 + (e.val * 64 + k.val); omega)
    · rfl
  refine Eq.trans (b := k0_pay9 (k0_pay5 x4) (k0_pay6 x5) (k0_pay7 x8)
    (k0_pay8 x1 x0 x2 (View.ld x3 r0_5)) x6 (ix2 r (lane rfl e f))) ?_ ?_
  · pointwise [k0_pay10]
  refine (turned512_at _ _ _ _ _ (fun x l => ?_) r e f).trans ?_
  · refine Eq.trans ?_ (hG x l)
    pointwise [k0_pay7]
  · refine congrArg (· * _) (congrArg₂ (· + ·) (congrArg₂ (· * ·) (hn f) ?_) (congrArg₂ (· * ·) (hn (mate f)) ?_))
    · pointwise [k0_pay5]
    · pointwise [k0_pay6]

/-- The key block, given the same. -/
theorem stored_k (hG : ∀ x l : Fin 512, x8 (ix2 x l) = if x.val / 64 = l.val / 64 then 1 else 0) (z : Fin 1) (r : Fin 256) (e : Fin 2) (f : Fin 64) :
    out0_12 x0 x1 x2 x3 x4 x5 x6 x7 x8 x9 x10 (ix3 z r (lane rfl e f))
      = headNorm (fun k => tileProj x0 x1 x2 x3 r ⟨512 + (e.val * 64 + k.val), by omega⟩) (fun k => x7 (ix2 0 (lane rfl e k))) f * x4 (ix2 r ⟨e.val * 64 + f.val, by omega⟩)
        + headNorm (fun k => tileProj x0 x1 x2 x3 r ⟨512 + (e.val * 64 + k.val), by omega⟩) (fun k => x7 (ix2 0 (lane rfl e k))) (mate f) * x5 (ix2 r ⟨e.val * 64 + f.val, by omega⟩) := by
  unfold_out out0_12
  frame_out
  have hn : ∀ k : Fin 64, headNorm (fun k => ∑ d : Fin 1024, k0_pay4 x1 x0 x2 (ix2 r d) * View.ld x3 r0_8 (ix2 d (lane rfl e k))) (fun k => x7 (ix2 0 (lane rfl e k))) k
      = headNorm (fun k => tileProj x0 x1 x2 x3 r ⟨512 + (e.val * 64 + k.val), by omega⟩) (fun k => x7 (ix2 0 (lane rfl e k))) k := fun k => by
    refine head_congr (fun k => ?_) (fun k => ?_) k
    · refine Finset.sum_congr rfl fun d _ => congrArg₂ (· * ·) (rows_at x1 x0 x2 r d) ?_
      exact ld_col x3 512 _ d _ _ rfl
    · rfl
  refine (turned128_at _ _ _ _ _ _ (fun x l => ?_) z r e f).trans ?_
  · refine Eq.trans ?_ (hG x l)
    pointwise [k0_pay7]
  · refine congrArg₂ (· + ·) (congrArg₂ (· * ·) (hn f) ?_) (congrArg₂ (· * ·) (hn (mate f)) ?_)
    · pointwise [k0_pay5]
    · pointwise [k0_pay6]

end Cert.Kernel4Ideal.Inproj

end
-- ==== Proof.Inproj.Array.lean ====
/- What the in-projection leaves in its six result arrays. -/
module

public import proofs.«01_k».proof.Proof.Inproj.Launched
public import proofs.«01_k».proof.Proof.Inproj.Stored

@[expose] public section

set_option maxRecDepth 16384

noncomputable section

namespace Cert.Kernel4Ideal.Inproj

open Idealize.ShloMosaic Idealize.ShloMosaic.TcCoe Idealize.SL.Sem
open Idealize.ShloMosaic.Pipeline (Dat)
open Cert.Kernel4Ideal Cert.Kernel4Ideal.Gen
open Cert.Inproj

variable (m : (ℓ : Loc nD τ sig) → Buf (Elt Ideal) ℓ)

/-- The block each window reads or writes at a step. -/
theorem idx : ∀ t : Fin cfg0.N, win0_0.index t = ![t.val / 9, t.val % 9, 0] ∧ win0_2.index t = ![0, 0] ∧ win0_3.index t = ![0, 0]
    ∧ win0_4.index t = ![t.val % 9, 0] ∧ win0_5.index t = ![t.val % 9, 0] ∧ win0_6.index t = ![0, 0] ∧ win0_7.index t = ![0, 0] ∧ win0_8.index t = ![0, 0]
    ∧ win0_11.index t = ![t.val / 9, t.val % 9, 0] ∧ win0_12.index t = ![t.val / 9, t.val % 9, 0] ∧ win0_13.index t = ![t.val / 9, t.val % 9, 0]
    ∧ win0_14.index t = ![t.val / 9, t.val % 9, 0] ∧ win0_15.index t = ![t.val / 9, 0, t.val % 9] ∧ win0_16.index t = ![t.val / 9, t.val % 9, 0] :=
  (by decide +kernel : ∀ t : Fin grid0.N, _)

/-- A latent tile takes the latents' modulation. -/
theorem idxLat : ∀ t : Fin cfg0.N, t.val % 9 < 8 → win0_1.index t = ![t.val / 9, 0, 0, 0] :=
  (by decide +kernel : ∀ t : Fin grid0.N, _)

/-- The context tile takes the context's modulation. -/
theorem idxCtx : ∀ t : Fin cfg0.N, ¬ t.val % 9 < 8 → win0_1.index t = ![t.val / 9, 1, 0, 0] :=
  (by decide +kernel : ∀ t : Fin grid0.N, _)

/-- There are 72 steps. -/
theorem t_lt (t : Fin cfg0.N) : t.val < 72 := t.isLt

/-- The batch of a step. -/
abbrev batchOf (t : Fin cfg0.N) : Fin 8 := ⟨t.val / 9, by have := t_lt t; omega⟩

/-- A row of a step's tile in the sequence. -/
abbrev rowOf (t : Fin cfg0.N) (r : Fin 256) : Fin 2304 := ⟨t.val % 9 * 256 + r.val, by omega⟩

/-- The rows' block. -/
theorem blkX (c : Dev nD) (t : Fin cfg0.N) (z : Fin 1) (r : Fin 256) (d : Fin 1024) :
    iblk m c 0 t (ix3 z r d) = seqX (argX m c) (argCX m c) (ix3 (batchOf t) (rowOf t r) d) := by
  refine Eq.trans ?_ (congrFun (entryX m c) _)
  blk_ext [iblk, idx t]

/-- The modulation's block. -/
theorem blkM (c : Dev nD) (t : Fin cfg0.N) (z z' : Fin 1) (r : Fin 256) (k : Fin 6) (d : Fin 1024) :
    iblk m c 1 t (ix4 z z' k d) = rowM (fun b k d => argM m c (ix3 b k d)) (fun k d => argMC m c (ix2 k d)) (batchOf t) (rowOf t r) k d := by
  unfold rowM
  by_cases h : t.val % 9 < 8
  · rw [if_pos (by show t.val % 9 * 256 + r.val < 2048; omega)]
    refine Eq.trans ?_ (modM_lat (argM m c) (argMC m c) (batchOf t) k d)
    refine Eq.trans ?_ (congrFun (entryM m c) _)
    blk_ext [iblk, idxLat t h]
  · rw [if_neg (by show ¬ t.val % 9 * 256 + r.val < 2048; omega)]
    refine Eq.trans ?_ (modM_ctx (argM m c) (argMC m c) (batchOf t) k d)
    refine Eq.trans ?_ (congrFun (entryM m c) _)
    blk_ext [iblk, idxCtx t h]

/-- The gain's block. -/
theorem blkG (c : Dev nD) (t : Fin cfg0.N) (z : Fin 1) (d : Fin 1024) : iblk m c 2 t (ix2 z d) = argG1 m c (ix2 0 d) := by
  refine Eq.trans ?_ (gainX_at (argG1 m c) z d)
  refine Eq.trans ?_ (congrFun (entryG m c) _)
  blk_ext [iblk, idx t]

/-- The weights' block. -/
theorem blkW (c : Dev nD) (t : Fin cfg0.N) (d : Fin 1024) (j : Fin 2944) : iblk m c 3 t (ix2 d j) = wideW (argW m c) (ix2 d j) := by
  refine Eq.trans ?_ (congrFun (entryW m c) _)
  blk_ext [iblk, idx t]

/-- The cosines' block. -/
theorem blkC (c : Dev nD) (t : Fin cfg0.N) (r : Fin 256) (l : Fin 512) (f : Fin 64) (hl : l.val % 64 = f.val) :
    iblk m c 4 t (ix2 r l) = cosLane (fun t h p => argC m c (ix3 t h p)) (rowOf t r) f := by
  refine Eq.trans ?_ (cosT_at (argC m c) (rowOf t r) f l hl)
  refine Eq.trans ?_ (congrFun (entryC m c) _)
  blk_ext [iblk, idx t]

/-- The sines' block. -/
theorem blkS (c : Dev nD) (t : Fin cfg0.N) (r : Fin 256) (l : Fin 512) (f : Fin 64) (hl : l.val % 64 = f.val) :
    iblk m c 5 t (ix2 r l) = sinLane (fun t h p => argS m c (ix3 t h p)) (rowOf t r) f := by
  refine Eq.trans ?_ (sinT_at (argS m c) (rowOf t r) f l hl)
  refine Eq.trans ?_ (congrFun (entryS m c) _)
  blk_ext [iblk, idx t]

/-- The query gain's block. -/
theorem blkGQ (c : Dev nD) (t : Fin cfg0.N) (z : Fin 1) (e : Fin 8) (k : Fin 64) : iblk m c 6 t (ix2 z (lane rfl e k)) = argGQ m c (ix2 0 k) := by
  refine Eq.trans ?_ ((gainQ_at (argGQ m c) z (lane rfl e k)).trans (congrArg (argGQ m c) (congrArg (ix2 0) (Fin.ext (by
    show (e.val * 64 + k.val) % 64 = k.val
    omega)))))
  refine Eq.trans ?_ (congrFun (entryGQ m c) _)
  blk_ext [iblk, idx t]

/-- The key gain's block. -/
theorem blkGK (c : Dev nD) (t : Fin cfg0.N) (z : Fin 1) (e : Fin 2) (k : Fin 64) : iblk m c 7 t (ix2 z (lane rfl e k)) = argGK m c (ix2 0 k) := by
  refine Eq.trans ?_ ((gainK_at (argGK m c) z (lane rfl e k)).trans (congrArg (argGK m c) (congrArg (ix2 0) (Fin.ext (by
    show (e.val * 64 + k.val) % 64 = k.val
    omega)))))
  refine Eq.trans ?_ (congrFun (entryGK m c) _)
  blk_ext [iblk, idx t]

/-- The matrix of heads' block. -/
theorem blkH (c : Dev nD) (t : Fin cfg0.N) (x l : Fin 512) : @Eq EReal (iblk m c 8 t (ix2 x l)) (if x.val / 64 = l.val / 64 then 1 else 0) := by
  refine Eq.trans ?_ (sameHead_at x l)
  refine Eq.trans ?_ (congrFun (entryH m c) _)
  blk_ext [iblk, idx t]

/-- The projection over the arguments' arrays. -/
def PR (X : FVec Ideal S8x2048x1024 .f32) (CX : FVec Ideal S8x256x1024 .f32) (M : FVec Ideal S8x6x1024 .f32) (MC : FVec Ideal S6x1024 .f32)
    (G : FVec Ideal S4x1024 .f32) (W : FVec Ideal S2x1024x2832 .f32) : Fin 8 → Fin 2304 → Fin 2832 → EReal :=
  proj (fun b t d => X (ix3 b t d)) (fun b t d => CX (ix3 b t d)) (fun b k d => M (ix3 b k d)) (fun k d => MC (ix2 k d)) (fun d => G (ix2 0 d)) (fun d j => W (ix3 0 d j))

/-- The projection of the launch arrays. -/
abbrev pr (c : Dev nD) : Fin 8 → Fin 2304 → Fin 2832 → EReal := PR (argX m c) (argCX m c) (argM m c) (argMC m c) (argG1 m c) (argW m c)

/-- A modulated row depends on its entries alone. -/
theorem modRow_congr {x x' g g' s s' h h' : Fin 1024 → EReal} (hx : ∀ d, x d = x' d) (hg : ∀ d, g d = g' d) (hs : ∀ d, s d = s' d) (hh : ∀ d, h d = h' d) (d : Fin 1024) :
    modRow x g s h d = modRow x' g' s' h' d := by
  rw [funext hx, funext hg, funext hs, funext hh]

/-- A column of a step's tile is a column of the projection. -/
theorem tile_proj (c : Dev nD) (t : Fin cfg0.N) (r : Fin 256) (j : Fin 2944) (hj : j.val < 2832) :
    tileProj (iblk m c 0 t) (iblk m c 1 t) (iblk m c 2 t) (iblk m c 3 t) r j = pr m c (batchOf t) (rowOf t r) ⟨j.val, hj⟩ := by
  unfold tileProj pr PR proj
  refine Finset.sum_congr rfl fun d _ => congrArg₂ (· * ·) ?_ ((blkW m c t d j).trans (wideW_at (argW m c) d j hj))
  unfold tileRow
  exact modRow_congr (fun d => (blkX m c t 0 r d).trans (seqX_at (argX m c) (argCX m c) (batchOf t) (rowOf t r) d)) (fun d => blkG m c t 0 d)
    (fun d => blkM m c t 0 0 r 1 d) (fun d => blkM m c t 0 0 r 0 d) d

/-- A lane of a normalised and turned head of the columns from an offset on. -/
def headLane (P : Fin 8 → Fin 2304 → Fin 2832 → EReal) (C S : FVec Ideal S2048x2x16 .f32) (G : FVec Ideal S2x64 .f32) (b : Fin 8) (t : Fin 2304) (o : ℕ) (ho : o + 64 ≤ 2832) (f : Fin 64) : EReal :=
  headRow (fun t h p => C (ix3 t h p)) (fun t h p => S (ix3 t h p)) t (headNorm (fun k => P b t ⟨o + k.val, by omega⟩) (fun k => G (ix2 0 k))) f

/-- The queries. -/
def QR (P : Fin 8 → Fin 2304 → Fin 2832 → EReal) (C S : FVec Ideal S2048x2x16 .f32) (G : FVec Ideal S2x64 .f32) : FVec Ideal S8x2304x512 .bf16 :=
  fun i => headLane P C S G (i 0) (i 1) ((i 2).val / 64 * 64) (by have : (i 2).val < 512 := (i 2).isLt; omega) ⟨(i 2).val % 64, by omega⟩ * Ideal.ofBits FTy.f32 1040187392#32

/-- The keys. -/
def KR (P : Fin 8 → Fin 2304 → Fin 2832 → EReal) (C S : FVec Ideal S2048x2x16 .f32) (G : FVec Ideal S2x64 .f32) : FVec Ideal S8x2304x128 .bf16 :=
  fun i => headLane P C S G (i 0) (i 1) (512 + (i 2).val / 64 * 64) (by have : (i 2).val < 128 := (i 2).isLt; omega) ⟨(i 2).val % 64, by omega⟩

/-- The values, each head beside a head of ones. -/
def VR (P : Fin 8 → Fin 2304 → Fin 2832 → EReal) : FVec Ideal S8x2304x256 .bf16 :=
  fun i => if (i 2).val % 128 < 64 then P (i 0) (i 1) ⟨640 + ((i 2).val / 128 * 64 + (i 2).val % 64), by have : (i 2).val < 256 := (i 2).isLt; omega⟩ else 1

/-- The second attention's queries and keys. -/
def QKR (P : Fin 8 → Fin 2304 → Fin 2832 → EReal) : FVec Ideal S8x2304x1024 .bf16 :=
  fun i => P (i 0) (i 1) ⟨768 + (i 2).val, by have : (i 2).val < 1024 := (i 2).isLt; omega⟩

/-- The second attention's values, transposed. -/
def VBR (P : Fin 8 → Fin 2304 → Fin 2832 → EReal) : FVec Ideal S8x512x2304 .bf16 :=
  fun i => P (i 0) (i 2) ⟨1792 + (i 1).val, by have : (i 1).val < 512 := (i 1).isLt; omega⟩

/-- The output gate. -/
def OBR (P : Fin 8 → Fin 2304 → Fin 2832 → EReal) : FVec Ideal S8x2304x512 .bf16 :=
  fun i => P (i 0) (i 1) ⟨2304 + (i 2).val, by have : (i 2).val < 512 := (i 2).isLt; omega⟩

/-- A head's lane depends on the head's first column by value. -/
theorem headLane_congr (P : Fin 8 → Fin 2304 → Fin 2832 → EReal) (C S : FVec Ideal S2048x2x16 .f32) (G : FVec Ideal S2x64 .f32) (b : Fin 8) (t : Fin 2304) {o o' : ℕ} (ho : o + 64 ≤ 2832) (ho' : o' + 64 ≤ 2832)
    (h : o = o') {f f' : Fin 64} (hf : f = f') : headLane P C S G b t o ho f = headLane P C S G b t o' ho' f' := by
  subst h
  subst hf
  rfl

/-- A step's query block. -/
theorem point_q (c : Dev nD) (t : Fin cfg0.N) (z : Fin 1) (r : Fin 256) (l : Fin 512) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 z r l)
      = QR (pr m c) (argC m c) (argS m c) (argGQ m c) (ix3 (batchOf t) (rowOf t r) l) := by
  have hl : l = lane (H := 8) rfl ⟨l.val / 64, by omega⟩ ⟨l.val % 64, by omega⟩ := Fin.ext (by show l.val = l.val / 64 * 64 + l.val % 64; omega)
  rw [hl]
  generalize (⟨l.val / 64, by omega⟩ : Fin 8) = e
  generalize (⟨l.val % 64, by omega⟩ : Fin 64) = f
  refine (stored_q _ _ _ _ _ _ _ _ _ _ _ (blkH m c t) z r e f).trans ?_
  have hn : ∀ f' : Fin 64, headNorm (fun k => tileProj (iblk m c 0 t) (iblk m c 1 t) (iblk m c 2 t) (iblk m c 3 t) r ⟨e.val * 64 + k.val, by omega⟩) (fun k => iblk m c 6 t (ix2 0 (lane rfl e k))) f'
      = headNorm (fun k => pr m c (batchOf t) (rowOf t r) ⟨e.val * 64 + k.val, by omega⟩) (fun k => argGQ m c (ix2 0 k)) f' := fun f' =>
    head_congr (fun k => tile_proj m c t r ⟨e.val * 64 + k.val, by omega⟩ (by show e.val * 64 + k.val < 2832; omega)) (fun k => blkGQ m c t 0 e k) f'
  have hm : (lane (N := 512) rfl e f).val % 64 = f.val := by show (e.val * 64 + f.val) % 64 = f.val; omega
  rw [hn f, hn (mate f), blkC m c t r _ f hm, blkS m c t r _ f hm, lane_turn]
  refine congrArg (· * Ideal.ofBits FTy.f32 1040187392#32) (headLane_congr (pr m c) (argC m c) (argS m c) (argGQ m c) (batchOf t) (rowOf t r) (o := e.val * 64) (by omega) _ ?_ ?_)
  · show e.val * 64 = (e.val * 64 + f.val) / 64 * 64
    omega
  · refine Fin.ext ?_
    show f.val = (e.val * 64 + f.val) % 64
    omega

/-- A step's key block. -/
theorem point_k (c : Dev nD) (t : Fin cfg0.N) (z : Fin 1) (r : Fin 256) (l : Fin 128) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 z r l)
      = KR (pr m c) (argC m c) (argS m c) (argGK m c) (ix3 (batchOf t) (rowOf t r) l) := by
  have hl : l = lane (H := 2) rfl ⟨l.val / 64, by omega⟩ ⟨l.val % 64, by omega⟩ := Fin.ext (by show l.val = l.val / 64 * 64 + l.val % 64; omega)
  rw [hl]
  generalize (⟨l.val / 64, by omega⟩ : Fin 2) = e
  generalize (⟨l.val % 64, by omega⟩ : Fin 64) = f
  refine (stored_k _ _ _ _ _ _ _ _ _ _ _ (blkH m c t) z r e f).trans ?_
  have hn : ∀ f' : Fin 64, headNorm (fun k => tileProj (iblk m c 0 t) (iblk m c 1 t) (iblk m c 2 t) (iblk m c 3 t) r ⟨512 + (e.val * 64 + k.val), by omega⟩) (fun k => iblk m c 7 t (ix2 0 (lane rfl e k))) f'
      = headNorm (fun k => pr m c (batchOf t) (rowOf t r) ⟨512 + e.val * 64 + k.val, by omega⟩) (fun k => argGK m c (ix2 0 k)) f' := fun f' =>
    head_congr (fun k => (tile_proj m c t r ⟨512 + (e.val * 64 + k.val), by omega⟩ (by show 512 + (e.val * 64 + k.val) < 2832; omega)).trans
      (congrArg (pr m c (batchOf t) (rowOf t r)) (Fin.ext (by show 512 + (e.val * 64 + k.val) = 512 + e.val * 64 + k.val; omega)))) (fun k => blkGK m c t 0 e k) f'
  have hm : (e.val * 64 + f.val) % 64 = f.val := by omega
  rw [hn f, hn (mate f), blkC m c t r _ f hm, blkS m c t r _ f hm, lane_turn]
  refine headLane_congr (pr m c) (argC m c) (argS m c) (argGK m c) (batchOf t) (rowOf t r) (o := 512 + e.val * 64) (by omega) _ ?_ ?_
  · show 512 + e.val * 64 = 512 + (e.val * 64 + f.val) / 64 * 64
    omega
  · refine Fin.ext ?_
    show f.val = (e.val * 64 + f.val) % 64
    omega

/-- A step's value block. -/
theorem point_v (c : Dev nD) (t : Fin cfg0.N) (z : Fin 1) (r : Fin 256) (l : Fin 256) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 z r l)
      = VR (pr m c) (ix3 (batchOf t) (rowOf t r) l) := by
  refine (stored_v _ _ _ _ _ _ _ _ _ _ _ z r l).trans ?_
  rw [tile_proj m c t r _ (by show 640 + (l.val / 128 * 64 + l.val % 64) < 2832; omega)]
  rfl

/-- A step's block of the second attention's queries and keys. -/
theorem point_qk (c : Dev nD) (t : Fin cfg0.N) (z : Fin 1) (r : Fin 256) (l : Fin 1024) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 z r l)
      = QKR (pr m c) (ix3 (batchOf t) (rowOf t r) l) := by
  refine (stored_qk _ _ _ _ _ _ _ _ _ _ _ z r l).trans ?_
  exact tile_proj m c t r _ (by show 768 + l.val < 2832; omega)

/-- A step's block of the second attention's values. -/
theorem point_vb (c : Dev nD) (t : Fin cfg0.N) (z : Fin 1) (l : Fin 512) (r : Fin 256) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 z l r)
      = VBR (pr m c) (ix3 (batchOf t) l (rowOf t r)) := by
  refine (stored_vb _ _ _ _ _ _ _ _ _ _ _ z r l).trans ?_
  exact tile_proj m c t r _ (by show 1792 + l.val < 2832; omega)

/-- A step's block of the output gate. -/
theorem point_ob (c : Dev nD) (t : Fin cfg0.N) (z : Fin 1) (r : Fin 256) (l : Fin 512) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 z r l)
      = OBR (pr m c) (ix3 (batchOf t) (rowOf t r) l) := by
  refine (stored_ob _ _ _ _ _ _ _ _ _ _ _ z r l).trans ?_
  exact tile_proj m c t r _ (by show 2304 + l.val < 2832; omega)

/-- The query array after the run. -/
theorem final_q (c : Dev nD) : (dats m 0 c).arrAt 11 cfg0.N = QR (pr m c) (argC m c) (argS m c) (argGQ m c) := by
  refine (dats m 0 c).arrAt_eq_of_covers 11 _ (by decide +kernel) fun t _ y => ?_
  blk_simp
  rw [after0_11]
  idx_vars y
  refine (point_q m c t _ _ _).trans (congrArg _ ?_)
  blk_ext [idx t]

/-- The key array after the run. -/
theorem final_k (c : Dev nD) : (dats m 0 c).arrAt 12 cfg0.N = KR (pr m c) (argC m c) (argS m c) (argGK m c) := by
  refine (dats m 0 c).arrAt_eq_of_covers 12 _ (by decide +kernel) fun t _ y => ?_
  blk_simp
  rw [after0_12]
  idx_vars y
  refine (point_k m c t _ _ _).trans (congrArg _ ?_)
  blk_ext [idx t]

/-- The value array after the run. -/
theorem final_v (c : Dev nD) : (dats m 0 c).arrAt 13 cfg0.N = VR (pr m c) := by
  refine (dats m 0 c).arrAt_eq_of_covers 13 _ (by decide +kernel) fun t _ y => ?_
  blk_simp
  rw [after0_13]
  idx_vars y
  refine (point_v m c t _ _ _).trans (congrArg _ ?_)
  blk_ext [idx t]

/-- The array of the second attention's queries and keys after the run. -/
theorem final_qk (c : Dev nD) : (dats m 0 c).arrAt 14 cfg0.N = QKR (pr m c) := by
  refine (dats m 0 c).arrAt_eq_of_covers 14 _ (by decide +kernel) fun t _ y => ?_
  blk_simp
  rw [after0_14]
  idx_vars y
  refine (point_qk m c t _ _ _).trans (congrArg _ ?_)
  blk_ext [idx t]

/-- The array of the second attention's values after the run. -/
theorem final_vb (c : Dev nD) : (dats m 0 c).arrAt 15 cfg0.N = VBR (pr m c) := by
  refine (dats m 0 c).arrAt_eq_of_covers 15 _ (by decide +kernel) fun t _ y => ?_
  blk_simp
  rw [after0_15]
  idx_vars y
  refine (point_vb m c t _ _ _).trans (congrArg _ ?_)
  blk_ext [idx t]

/-- The output gate's array after the run. -/
theorem final_ob (c : Dev nD) : (dats m 0 c).arrAt 16 cfg0.N = OBR (pr m c) := by
  refine (dats m 0 c).arrAt_eq_of_covers 16 _ (by decide +kernel) fun t _ y => ?_
  blk_simp
  rw [after0_16]
  idx_vars y
  refine (point_ob m c t _ _ _).trans (congrArg _ ?_)
  blk_ext [idx t]

end Cert.Kernel4Ideal.Inproj

end
-- ==== Proof.Inproj.Reference.lean ====
/- What the in-projection's reference computes: its six results read at an index. -/
module

public import proofs.«01_k».proof.Proof.Gen.Reference4Ideal
public import proofs.«01_k».proof.Proof.Inproj.Spec

@[expose] public section

set_option maxRecDepth 16384

noncomputable section

namespace Cert.Reference4Ideal.Inproj

open Idealize.ShloMosaic Idealize.ShloMosaic.TcCoe Idealize.SL.Sem
open Cert.Reference4Ideal Cert.Reference4Ideal.Gen
open Cert.Inproj

/-- The rows' gain. -/
def gain (G : FVec Ideal S4x1024 .f32) : FVec Ideal S1024 .f32 :=
  shapeCast _ (extractStridedSlice S1x1024 ![0, 0] G slices_S4x1024_S1x1024_0_0 : FVec Ideal S1x1024 .f32) shapeCasts_S1x1024_S1024

/-- The latents, normalised and modulated. -/
def latents (X : FVec Ideal S8x2048x1024 .f32) (M : FVec Ideal S8x6x1024 .f32) (G : FVec Ideal S4x1024 .f32) : FVec Ideal S8x2048x1024 .f32 :=
  addf (mulf (mulf (mulf X (broadcastInDim S8x2048x1024 ![0, 1, 2] bcast_S8x2048x1_S8x2048x1024_0_1_2 (Host.rsqrt (addf (Host.divf (broadcastInDim S8x2048x1 ![0, 1] bcast_S8x2048_S8x2048x1_0_1
      (Host.reduceAdd (mulf X X) (constant S_ .f32 0x00000000#32) reducesTo_S8x2048x1024_S8x2048_d2 h_S_)) (broadcastInDim S8x2048x1 ![] bcast_S_S8x2048x1 (constant S_ .f32 0x44800000#32)))
      (broadcastInDim S8x2048x1 ![] bcast_S_S8x2048x1 (constant S_ .f32 0x358637BD#32))))))
      (broadcastInDim S8x2048x1024 ![0, 1, 2] bcast_S1x1x1024_S8x2048x1024_0_1_2 (broadcastInDim S1x1x1024 ![2] bcast_S1024_S1x1x1024_2 (gain G))))
      (broadcastInDim S8x2048x1024 ![0, 1, 2] bcast_S8x1x1024_S8x2048x1024_0_1_2 (addf (broadcastInDim S8x1x1024 ![] bcast_S_S8x1x1024 (constant S_ .f32 0x3F800000#32))
        (broadcastInDim S8x1x1024 ![0, 2] bcast_S8x1024_S8x1x1024_0_2 (shapeCast S8x1024 (extractStridedSlice S8x1x1024 ![0, 1, 0] M slices_S8x6x1024_S8x1x1024_0_1_0 : FVec Ideal S8x1x1024 .f32) shapeCasts_S8x1x1024_S8x1024 : FVec Ideal S8x1024 .f32)))))
    (broadcastInDim S8x2048x1024 ![0, 1, 2] bcast_S8x1x1024_S8x2048x1024_0_1_2
        (broadcastInDim S8x1x1024 ![0, 2] bcast_S8x1024_S8x1x1024_0_2 (shapeCast S8x1024 (extractStridedSlice S8x1x1024 ![0, 0, 0] M slices_S8x6x1024_S8x1x1024_0_0_0 : FVec Ideal S8x1x1024 .f32) shapeCasts_S8x1x1024_S8x1024 : FVec Ideal S8x1024 .f32)))

/-- The context, normalised and modulated. -/
def context (X : FVec Ideal S8x256x1024 .f32) (M : FVec Ideal S6x1024 .f32) (G : FVec Ideal S4x1024 .f32) : FVec Ideal S8x256x1024 .f32 :=
  addf (mulf (mulf (mulf X (broadcastInDim S8x256x1024 ![0, 1, 2] bcast_S8x256x1_S8x256x1024_0_1_2 (Host.rsqrt (addf (Host.divf (broadcastInDim S8x256x1 ![0, 1] bcast_S8x256_S8x256x1_0_1
      (Host.reduceAdd (mulf X X) (constant S_ .f32 0x00000000#32) reducesTo_S8x256x1024_S8x256_d2 h_S_)) (broadcastInDim S8x256x1 ![] bcast_S_S8x256x1 (constant S_ .f32 0x44800000#32)))
      (broadcastInDim S8x256x1 ![] bcast_S_S8x256x1 (constant S_ .f32 0x358637BD#32))))))
      (broadcastInDim S8x256x1024 ![0, 1, 2] bcast_S1x1x1024_S8x256x1024_0_1_2 (broadcastInDim S1x1x1024 ![2] bcast_S1024_S1x1x1024_2 (gain G))))
      (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32))
        (shapeCast S1024 (extractStridedSlice S1x1024 ![1, 0] M slices_S6x1024_S1x1024_1_0 : FVec Ideal S1x1024 .f32) shapeCasts_S1x1024_S1024 : FVec Ideal S1024 .f32)))))
    (broadcastInDim S8x256x1024 ![0, 1, 2] bcast_S1x1x1024_S8x256x1024_0_1_2 (broadcastInDim S1x1x1024 ![2] bcast_S1024_S1x1x1024_2
        (shapeCast S1024 (extractStridedSlice S1x1024 ![0, 0] M slices_S6x1024_S1x1024_0_0 : FVec Ideal S1x1024 .f32) shapeCasts_S1x1024_S1024 : FVec Ideal S1024 .f32)))

/-- The sequence: the latents, then the context. -/
def sequence (A : FVec Ideal S8x2048x1024 .f32) (B : FVec Ideal S8x256x1024 .f32) : FVec Ideal S8x2304x1024 .f32 :=
  concatenate S8x2304x1024 1 [⟨S8x2048x1024, A⟩, ⟨S8x256x1024, B⟩] concatenates_S8x2048x1024_S8x256x1024_S8x2304x1024_d1

/-- The layer's weights. -/
def weights (W : FVec Ideal S2x1024x2832 .f32) : FVec Ideal S1024x2832 .f32 :=
  shapeCast _ (extractStridedSlice S1x1024x2832 ![0, 0, 0] W slices_S2x1024x2832_S1x1024x2832_0_0_0 : FVec Ideal S1x1024x2832 .f32) shapeCasts_S1x1024x2832_S1024x2832

/-- Rows times weights. -/
def times (A : FVec Ideal S8x2304x1024 .f32) (W : FVec Ideal S1024x2832 .f32) : FVec Ideal S8x2304x2832 .f32 :=
  Host.dotGeneral dot_S8x2304x1024_S1024x2832_S8x2304x2832_2_0_01_1_n_n none A W

/-- The projection. -/
def project (X : FVec Ideal S8x2048x1024 .f32) (CX : FVec Ideal S8x256x1024 .f32) (M : FVec Ideal S8x6x1024 .f32) (MC : FVec Ideal S6x1024 .f32) (G : FVec Ideal S4x1024 .f32) (W : FVec Ideal S2x1024x2832 .f32) : FVec Ideal S8x2304x2832 .f32 :=
  times (sequence (latents X M G) (context CX MC G)) (weights W)

/-- A latent's entry. -/
theorem latents_at (X : FVec Ideal S8x2048x1024 .f32) (M : FVec Ideal S8x6x1024 .f32) (G : FVec Ideal S4x1024 .f32) (b : Fin 8) (t : Fin 2048) (d : Fin 1024) :
    latents X M G (ix3 b t d) = modRow (fun d => X (ix3 b t d)) (fun d => G (ix2 0 d)) (fun d => M (ix3 b 1 d)) (fun d => M (ix3 b 0 d)) d := by
  pointwise [latents, gain, modRow]

/-- A context row's entry. -/
theorem context_at (X : FVec Ideal S8x256x1024 .f32) (M : FVec Ideal S6x1024 .f32) (G : FVec Ideal S4x1024 .f32) (b : Fin 8) (t : Fin 256) (d : Fin 1024) :
    context X M G (ix3 b t d) = modRow (fun d => X (ix3 b t d)) (fun d => G (ix2 0 d)) (fun d => M (ix2 1 d)) (fun d => M (ix2 0 d)) d := by
  pointwise [context, gain, modRow]

/-- An entry of the sequence. -/
theorem sequence_at (A : FVec Ideal S8x2048x1024 .f32) (B : FVec Ideal S8x256x1024 .f32) (b : Fin 8) (t : Fin 2304) (d : Fin 1024) :
    sequence A B (ix3 b t d) = if h : t.val < 2048 then A (ix3 b ⟨t.val, h⟩ d) else B (ix3 b ⟨t.val - 2048, by omega⟩ d) := by
  pointwise [sequence]

/-- A weight. -/
theorem weights_at (W : FVec Ideal S2x1024x2832 .f32) (d : Fin 1024) (j : Fin 2832) : weights W (ix2 d j) = W (ix3 0 d j) := by
  pointwise [weights]

/-- An entry of rows times weights. -/
theorem times_at (A : FVec Ideal S8x2304x1024 .f32) (W : FVec Ideal S1024x2832 .f32) (b : Fin 8) (t : Fin 2304) (j : Fin 2832) :
    times A W (ix3 b t j) = ∑ d : Fin 1024, A (ix3 b t d) * W (ix2 d j) := by
  pointwise [times]

/-- An entry of the projection. -/
theorem project_at (X : FVec Ideal S8x2048x1024 .f32) (CX : FVec Ideal S8x256x1024 .f32) (M : FVec Ideal S8x6x1024 .f32) (MC : FVec Ideal S6x1024 .f32) (G : FVec Ideal S4x1024 .f32) (W : FVec Ideal S2x1024x2832 .f32)
    (b : Fin 8) (t : Fin 2304) (j : Fin 2832) :
    project X CX M MC G W (ix3 b t j) = proj (fun b t d => X (ix3 b t d)) (fun b t d => CX (ix3 b t d)) (fun b k d => M (ix3 b k d)) (fun k d => MC (ix2 k d)) (fun d => G (ix2 0 d)) (fun d j => W (ix3 0 d j)) b t j := by
  unfold project proj
  rw [times_at]
  refine Finset.sum_congr rfl fun d _ => congrArg₂ (· * ·) ?_ (weights_at W d j)
  rw [sequence_at]
  by_cases h : t.val < 2048
  · rw [dif_pos h, latents_at]
    have hx : rowX (fun b t d => X (ix3 b t d)) (fun b t d => CX (ix3 b t d)) b t = fun d => X (ix3 b ⟨t.val, h⟩ d) := funext fun d => dif_pos h
    have hm (k : Fin 6) : rowM (fun b k d => M (ix3 b k d)) (fun k d => MC (ix2 k d)) b t k = fun d => M (ix3 b k d) := funext fun d => if_pos h
    rw [hx, hm, hm]
  · rw [dif_neg h, context_at]
    have hx : rowX (fun b t d => X (ix3 b t d)) (fun b t d => CX (ix3 b t d)) b t = fun d => CX (ix3 b ⟨t.val - 2048, by omega⟩ d) := funext fun d => dif_neg h
    have hm (k : Fin 6) : rowM (fun b k d => M (ix3 b k d)) (fun k d => MC (ix2 k d)) b t k = fun d => MC (ix2 k d) := funext fun d => if_neg h
    rw [hx, hm, hm]

/-- A head gain. -/
def headGain (G : FVec Ideal S2x64 .f32) : FVec Ideal S1x1x1x64 .f32 :=
  broadcastInDim S1x1x1x64 ![3] bcast_S64_S1x1x1x64_3 (shapeCast S64 (extractStridedSlice S1x64 ![0, 0] G slices_S2x64_S1x64_0_0 : FVec Ideal S1x64 .f32) shapeCasts_S1x64_S64 : FVec Ideal S64 .f32)

/-- A half's table. -/
def rowTable (C : FVec Ideal S2048x2x16 .f32) : FVec Ideal S1x2048x1x16 .f32 :=
  broadcastInDim S1x2048x1x16 ![1, 3] bcast_S2048x16_S1x2048x1x16_1_3 (shapeCast S2048x16 (extractStridedSlice S2048x1x16 ![0, 0, 0] C slices_S2048x2x16_S2048x1x16_0_0_0 : FVec Ideal S2048x1x16 .f32) shapeCasts_S2048x1x16_S2048x16 : FVec Ideal S2048x16 .f32)

/-- The other half's table. -/
def colTable (C : FVec Ideal S2048x2x16 .f32) : FVec Ideal S1x2048x1x16 .f32 :=
  broadcastInDim S1x2048x1x16 ![1, 3] bcast_S2048x16_S1x2048x1x16_1_3 (shapeCast S2048x16 (extractStridedSlice S2048x1x16 ![0, 1, 0] C slices_S2048x2x16_S2048x1x16_0_1_0 : FVec Ideal S2048x1x16 .f32) shapeCasts_S2048x1x16_S2048x16 : FVec Ideal S2048x16 .f32)

/-- A half's table at a place. -/
theorem rowTable_at (C : FVec Ideal S2048x2x16 .f32) (t : Fin 2048) (p : Fin 16) : rowTable C (ix4 0 t 0 p) = C (ix3 t 0 p) := by
  pointwise [rowTable]

/-- The other half's table at a place. -/
theorem colTable_at (C : FVec Ideal S2048x2x16 .f32) (t : Fin 2048) (p : Fin 16) : colTable C (ix4 0 t 0 p) = C (ix3 t 1 p) := by
  pointwise [colTable]

/-- The query columns' heads. -/
def splitQ (P : FVec Ideal S8x2304x2832 .f32) : FVec Ideal S8x2304x8x64 .f32 :=
  shapeCast _ (extractStridedSlice S8x2304x512 ![0, 0, 0] P slices_S8x2304x2832_S8x2304x512_0_0_0 : FVec Ideal S8x2304x512 .f32) shapeCasts_S8x2304x512_S8x2304x8x64

/-- The query heads normalised. -/
def normQ (A : FVec Ideal S8x2304x8x64 .f32) (G : FVec Ideal S2x64 .f32) : FVec Ideal S8x2304x8x64 .f32 :=
  mulf (mulf A (broadcastInDim S8x2304x8x64 ![0, 1, 2, 3] bcast_S8x2304x8x1_S8x2304x8x64_0_1_2_3 (Host.rsqrt (addf (Host.divf (broadcastInDim S8x2304x8x1 ![0, 1, 2] bcast_S8x2304x8_S8x2304x8x1_0_1_2
      (Host.reduceAdd (mulf A A) (constant S_ .f32 0x00000000#32) reducesTo_S8x2304x8x64_S8x2304x8_d3 h_S_)) (broadcastInDim S8x2304x8x1 ![] bcast_S_S8x2304x8x1 (constant S_ .f32 0x42800000#32)))
      (broadcastInDim S8x2304x8x1 ![] bcast_S_S8x2304x8x1 (constant S_ .f32 0x358637BD#32))))))
    (broadcastInDim S8x2304x8x64 ![0, 1, 2, 3] bcast_S1x1x1x64_S8x2304x8x64_0_1_2_3 (headGain G))

/-- Sixteen lanes less sixteen others, each times a table. -/
def lessQ (A B : FVec Ideal S8x2048x8x16 .f32) (c s : FVec Ideal S1x2048x1x16 .f32) : FVec Ideal S8x2048x8x16 .f32 :=
  subf (mulf A (broadcastInDim S8x2048x8x16 ![0, 1, 2, 3] bcast_S1x2048x1x16_S8x2048x8x16_0_1_2_3 c)) (mulf B (broadcastInDim S8x2048x8x16 ![0, 1, 2, 3] bcast_S1x2048x1x16_S8x2048x8x16_0_1_2_3 s))

/-- Sixteen lanes and sixteen others, each times a table. -/
def moreQ (A B : FVec Ideal S8x2048x8x16 .f32) (c s : FVec Ideal S1x2048x1x16 .f32) : FVec Ideal S8x2048x8x16 .f32 :=
  addf (mulf A (broadcastInDim S8x2048x8x16 ![0, 1, 2, 3] bcast_S1x2048x1x16_S8x2048x8x16_0_1_2_3 c)) (mulf B (broadcastInDim S8x2048x8x16 ![0, 1, 2, 3] bcast_S1x2048x1x16_S8x2048x8x16_0_1_2_3 s))

/-- Four runs of sixteen lanes side by side. -/
def fourQ (a b c d : FVec Ideal S8x2048x8x16 .f32) : FVec Ideal S8x2048x8x64 .f32 :=
  concatenate S8x2048x8x64 3 [⟨S8x2048x8x16, a⟩, ⟨S8x2048x8x16, b⟩, ⟨S8x2048x8x16, c⟩, ⟨S8x2048x8x16, d⟩] concatenates_S8x2048x8x16_S8x2048x8x16_S8x2048x8x16_S8x2048x8x16_S8x2048x8x64_d3

/-- The latents' query heads turned. -/
def rotateQ (A : FVec Ideal S8x2048x8x64 .f32) (C S : FVec Ideal S2048x2x16 .f32) : FVec Ideal S8x2048x8x64 .f32 :=
  fourQ
    (lessQ (extractStridedSlice S8x2048x8x16 ![0, 0, 0, 0] A slices_S8x2048x8x64_S8x2048x8x16_0_0_0_0) (extractStridedSlice S8x2048x8x16 ![0, 0, 0, 16] A slices_S8x2048x8x64_S8x2048x8x16_0_0_0_16) (rowTable C) (rowTable S))
    (moreQ (extractStridedSlice S8x2048x8x16 ![0, 0, 0, 16] A slices_S8x2048x8x64_S8x2048x8x16_0_0_0_16) (extractStridedSlice S8x2048x8x16 ![0, 0, 0, 0] A slices_S8x2048x8x64_S8x2048x8x16_0_0_0_0) (rowTable C) (rowTable S))
    (lessQ (extractStridedSlice S8x2048x8x16 ![0, 0, 0, 32] A slices_S8x2048x8x64_S8x2048x8x16_0_0_0_32) (extractStridedSlice S8x2048x8x16 ![0, 0, 0, 48] A slices_S8x2048x8x64_S8x2048x8x16_0_0_0_48) (colTable C) (colTable S))
    (moreQ (extractStridedSlice S8x2048x8x16 ![0, 0, 0, 48] A slices_S8x2048x8x64_S8x2048x8x16_0_0_0_48) (extractStridedSlice S8x2048x8x16 ![0, 0, 0, 32] A slices_S8x2048x8x64_S8x2048x8x16_0_0_0_32) (colTable C) (colTable S))

/-- Turned query heads, then the context's as they are. -/
def joinQ (A : FVec Ideal S8x2048x8x64 .f32) (N : FVec Ideal S8x2304x8x64 .f32) : FVec Ideal S8x2304x512 .f32 :=
  shapeCast S8x2304x512 (concatenate S8x2304x8x64 1 [⟨S8x2048x8x64, A⟩, ⟨S8x256x8x64, (extractStridedSlice S8x256x8x64 ![0, 2048, 0, 0] N slices_S8x2304x8x64_S8x256x8x64_0_2048_0_0 : FVec Ideal S8x256x8x64 .f32)⟩]
    concatenates_S8x2048x8x64_S8x256x8x64_S8x2304x8x64_d1 : FVec Ideal S8x2304x8x64 .f32) shapeCasts_S8x2304x8x64_S8x2304x512

/-- The query heads: normalised, the latents' turned. -/
def headsQ (P : FVec Ideal S8x2304x2832 .f32) (C S : FVec Ideal S2048x2x16 .f32) (G : FVec Ideal S2x64 .f32) : FVec Ideal S8x2304x512 .f32 :=
  joinQ (rotateQ (extractStridedSlice S8x2048x8x64 ![0, 0, 0, 0] (normQ (splitQ P) G) slices_S8x2304x8x64_S8x2048x8x64_0_0_0_0) C S) (normQ (splitQ P) G)

/-- A lane of a query head. -/
theorem splitQ_at (P : FVec Ideal S8x2304x2832 .f32) (b : Fin 8) (t : Fin 2304) (e : Fin 8) (f : Fin 64) :
    splitQ P (ix4 b t e f) = P (ix3 b t ⟨(e.val * 64 + f.val), by omega⟩) := by
  pointwise [splitQ]

/-- A lane of a normalised query head. -/
theorem normQ_at (A : FVec Ideal S8x2304x8x64 .f32) (G : FVec Ideal S2x64 .f32) (b : Fin 8) (t : Fin 2304) (e : Fin 8) (f : Fin 64) :
    normQ A G (ix4 b t e f) = headNorm (fun k => A (ix4 b t e k)) (fun k => G (ix2 0 k)) f := by
  pointwise [normQ, headGain, headNorm]

/-- A lane of the difference. -/
theorem lessQ_at (A B : FVec Ideal S8x2048x8x16 .f32) (c s : FVec Ideal S1x2048x1x16 .f32) (b : Fin 8) (t : Fin 2048) (e : Fin 8) (p : Fin 16) :
    lessQ A B c s (ix4 b t e p) = A (ix4 b t e p) * c (ix4 0 t 0 p) - B (ix4 b t e p) * s (ix4 0 t 0 p) := by
  pointwise [lessQ]

/-- A lane of the sum. -/
theorem moreQ_at (A B : FVec Ideal S8x2048x8x16 .f32) (c s : FVec Ideal S1x2048x1x16 .f32) (b : Fin 8) (t : Fin 2048) (e : Fin 8) (p : Fin 16) :
    moreQ A B c s (ix4 b t e p) = A (ix4 b t e p) * c (ix4 0 t 0 p) + B (ix4 b t e p) * s (ix4 0 t 0 p) := by
  pointwise [moreQ]

/-- The four runs at a lane. -/
theorem fourQ_at (u v w x : FVec Ideal S8x2048x8x16 .f32) (b : Fin 8) (t : Fin 2048) (e : Fin 8) (f : Fin 64) :
    fourQ u v w x (ix4 b t e f) = if f.val < 32 then (if f.val % 32 < 16 then u (ix4 b t e (place f)) else v (ix4 b t e (place f)))
      else (if f.val % 32 < 16 then w (ix4 b t e (place f)) else x (ix4 b t e (place f))) := by
  pointwise [fourQ]
  have hf := f.isLt
  by_cases h1 : f.val < 16
  · rw [if_pos (by omega : f.val < 32), if_pos (by omega : f.val % 32 < 16)]
    exact (dif_pos h1).trans (congrArg u (congrArg (ix4 b t e) (Fin.ext (by show f.val = f.val % 16; omega))))
  refine (dif_neg h1).trans ?_
  by_cases h2 : f.val - 16 < 16
  · rw [if_pos (by omega : f.val < 32), if_neg (by omega : ¬ f.val % 32 < 16)]
    exact (dif_pos h2).trans (congrArg v (congrArg (ix4 b t e) (Fin.ext (by show f.val - 16 = f.val % 16; omega))))
  refine (dif_neg h2).trans ?_
  by_cases h3 : f.val - 16 - 16 < 16
  · rw [if_neg (by omega : ¬ f.val < 32), if_pos (by omega : f.val % 32 < 16)]
    exact (dif_pos h3).trans (congrArg w (congrArg (ix4 b t e) (Fin.ext (by show f.val - 16 - 16 = f.val % 16; omega))))
  refine (dif_neg h3).trans ?_
  rw [if_neg (by omega : ¬ f.val < 32), if_neg (by omega : ¬ f.val % 32 < 16)]
  exact congrArg x (congrArg (ix4 b t e) (Fin.ext (by show f.val - 16 - 16 - 16 = f.val % 16; omega)))

/-- Sixteen lanes of a head from an offset on. -/
theorem runQ_at (A : FVec Ideal S8x2048x8x64 .f32) (b : Fin 8) (t : Fin 2048) (e : Fin 8) (p : Fin 16) :
    (extractStridedSlice S8x2048x8x16 ![0, 0, 0, 0] A slices_S8x2048x8x64_S8x2048x8x16_0_0_0_0 : FVec Ideal S8x2048x8x16 .f32) (ix4 b t e p) = A (ix4 b t e ⟨p.val, by omega⟩)
    ∧ (extractStridedSlice S8x2048x8x16 ![0, 0, 0, 16] A slices_S8x2048x8x64_S8x2048x8x16_0_0_0_16 : FVec Ideal S8x2048x8x16 .f32) (ix4 b t e p) = A (ix4 b t e ⟨16 + p.val, by omega⟩)
    ∧ (extractStridedSlice S8x2048x8x16 ![0, 0, 0, 32] A slices_S8x2048x8x64_S8x2048x8x16_0_0_0_32 : FVec Ideal S8x2048x8x16 .f32) (ix4 b t e p) = A (ix4 b t e ⟨32 + p.val, by omega⟩)
    ∧ (extractStridedSlice S8x2048x8x16 ![0, 0, 0, 48] A slices_S8x2048x8x64_S8x2048x8x16_0_0_0_48 : FVec Ideal S8x2048x8x16 .f32) (ix4 b t e p) = A (ix4 b t e ⟨48 + p.val, by omega⟩) := by
  refine ⟨?_, ?_, ?_, ?_⟩
  · pointwise
  · pointwise
  · pointwise
  · pointwise

/-- A lane of a turned query head. -/
theorem rotateQ_at (A : FVec Ideal S8x2048x8x64 .f32) (C S : FVec Ideal S2048x2x16 .f32) (b : Fin 8) (t : Fin 2048) (e : Fin 8) (f : Fin 64) :
    rotateQ A C S (ix4 b t e f) = turn (fun k => A (ix4 b t e k)) (fun h p => C (ix3 t h p)) (fun h p => S (ix3 t h p)) f := by
  unfold rotateQ turn
  obtain ⟨h0, h1, h2, h3⟩ := runQ_at A b t e (place f)
  rw [fourQ_at, lessQ_at, moreQ_at, lessQ_at, moreQ_at, h0, h1, h2, h3]
  simp only [rowTable_at, colTable_at]
  have hf := f.isLt
  have at' (k k' : Fin 64) (h : k.val = k'.val) : A (ix4 b t e k) = A (ix4 b t e k') := congrArg A (congrArg (ix4 b t e) (Fin.ext h))
  by_cases hl : f.val % 32 < 16
  · have hm : (mate f).val = f.val + 16 := by unfold mate; rw [dif_pos hl]
    rw [if_pos hl, if_pos hl, if_pos hl]
    by_cases hh : f.val < 32
    · rw [if_pos hh, show half f = 0 from Fin.ext (by show f.val / 32 = 0; omega),
        at' ⟨(place f).val, _⟩ f (by show f.val % 16 = f.val; omega), at' ⟨16 + (place f).val, _⟩ (mate f) (by rw [hm]; show 16 + f.val % 16 = f.val + 16; omega)]
    · rw [if_neg hh, show half f = 1 from Fin.ext (by show f.val / 32 = 1; omega),
        at' ⟨32 + (place f).val, _⟩ f (by show 32 + f.val % 16 = f.val; omega), at' ⟨48 + (place f).val, _⟩ (mate f) (by rw [hm]; show 48 + f.val % 16 = f.val + 16; omega)]
  · have hm : (mate f).val = f.val - 16 := by unfold mate; rw [dif_neg hl]
    rw [if_neg hl, if_neg hl, if_neg hl]
    by_cases hh : f.val < 32
    · rw [if_pos hh, show half f = 0 from Fin.ext (by show f.val / 32 = 0; omega),
        at' ⟨16 + (place f).val, _⟩ f (by show 16 + f.val % 16 = f.val; omega), at' ⟨(place f).val, _⟩ (mate f) (by rw [hm]; show f.val % 16 = f.val - 16; omega)]
    · rw [if_neg hh, show half f = 1 from Fin.ext (by show f.val / 32 = 1; omega),
        at' ⟨48 + (place f).val, _⟩ f (by show 48 + f.val % 16 = f.val; omega), at' ⟨32 + (place f).val, _⟩ (mate f) (by rw [hm]; show 32 + f.val % 16 = f.val - 16; omega)]

/-- A lane of the joined query heads. -/
theorem joinQ_at (A : FVec Ideal S8x2048x8x64 .f32) (N : FVec Ideal S8x2304x8x64 .f32) (b : Fin 8) (t : Fin 2304) (l : Fin 512) :
    joinQ A N (ix3 b t l) = if h : t.val < 2048 then A (ix4 b ⟨t.val, h⟩ ⟨l.val / 64, by omega⟩ ⟨l.val % 64, by omega⟩) else N (ix4 b t ⟨l.val / 64, by omega⟩ ⟨l.val % 64, by omega⟩) := by
  pointwise [joinQ]
  by_cases h : t.val < 2048
  · refine (dif_pos h).trans (Eq.trans ?_ (dif_pos h).symm)
    rfl
  · refine (dif_neg h).trans (Eq.trans ?_ (dif_neg h).symm)
    refine congrArg N (congrArg (fun t => ix4 b t _ _) (Fin.ext ?_))
    show 2048 + (t.val - 2048) = t.val
    omega

/-- The latents' part of the query heads. -/
theorem frontQ_at (N : FVec Ideal S8x2304x8x64 .f32) (b : Fin 8) (t : Fin 2048) (e : Fin 8) (f : Fin 64) :
    (extractStridedSlice S8x2048x8x64 ![0, 0, 0, 0] N slices_S8x2304x8x64_S8x2048x8x64_0_0_0_0 : FVec Ideal S8x2048x8x64 .f32) (ix4 b t e f) = N (ix4 b ⟨t.val, by omega⟩ e f) := by
  pointwise

/-- A lane of the query heads. -/
theorem headsQ_at (P : FVec Ideal S8x2304x2832 .f32) (C S : FVec Ideal S2048x2x16 .f32) (G : FVec Ideal S2x64 .f32) (b : Fin 8) (t : Fin 2304) (l : Fin 512) :
    headsQ P C S G (ix3 b t l) = headRow (fun t h p => C (ix3 t h p)) (fun t h p => S (ix3 t h p)) t
      (headNorm (fun k => P (ix3 b t ⟨(l.val / 64 * 64 + k.val), by omega⟩)) (fun k => G (ix2 0 k))) ⟨l.val % 64, by omega⟩ := by
  unfold headsQ headRow
  rw [joinQ_at]
  have hn (t : Fin 2304) (f : Fin 64) : normQ (splitQ P) G (ix4 b t ⟨l.val / 64, by omega⟩ f)
      = headNorm (fun k => P (ix3 b t ⟨(l.val / 64 * 64 + k.val), by omega⟩)) (fun k => G (ix2 0 k)) f :=
    (normQ_at _ _ _ _ _ _).trans (congrArg (fun a => headNorm a (fun k => G (ix2 0 k)) f) (funext fun k => splitQ_at P b t _ k))
  by_cases h : t.val < 2048
  · rw [dif_pos h, dif_pos h, rotateQ_at]
    exact congrArg (fun a => turn a (fun h' p => C (ix3 ⟨t.val, h⟩ h' p)) (fun h' p => S (ix3 ⟨t.val, h⟩ h' p)) _) (funext fun k => (frontQ_at _ _ _ _ _).trans (hn t k))
  · rw [dif_neg h, dif_neg h]
    exact hn t _

/-- The key columns' heads. -/
def splitK (P : FVec Ideal S8x2304x2832 .f32) : FVec Ideal S8x2304x2x64 .f32 :=
  shapeCast _ (extractStridedSlice S8x2304x128 ![0, 0, 512] P slices_S8x2304x2832_S8x2304x128_0_0_512 : FVec Ideal S8x2304x128 .f32) shapeCasts_S8x2304x128_S8x2304x2x64

/-- The key heads normalised. -/
def normK (A : FVec Ideal S8x2304x2x64 .f32) (G : FVec Ideal S2x64 .f32) : FVec Ideal S8x2304x2x64 .f32 :=
  mulf (mulf A (broadcastInDim S8x2304x2x64 ![0, 1, 2, 3] bcast_S8x2304x2x1_S8x2304x2x64_0_1_2_3 (Host.rsqrt (addf (Host.divf (broadcastInDim S8x2304x2x1 ![0, 1, 2] bcast_S8x2304x2_S8x2304x2x1_0_1_2
      (Host.reduceAdd (mulf A A) (constant S_ .f32 0x00000000#32) reducesTo_S8x2304x2x64_S8x2304x2_d3 h_S_)) (broadcastInDim S8x2304x2x1 ![] bcast_S_S8x2304x2x1 (constant S_ .f32 0x42800000#32)))
      (broadcastInDim S8x2304x2x1 ![] bcast_S_S8x2304x2x1 (constant S_ .f32 0x358637BD#32))))))
    (broadcastInDim S8x2304x2x64 ![0, 1, 2, 3] bcast_S1x1x1x64_S8x2304x2x64_0_1_2_3 (headGain G))

/-- Sixteen lanes less sixteen others, each times a table. -/
def lessK (A B : FVec Ideal S8x2048x2x16 .f32) (c s : FVec Ideal S1x2048x1x16 .f32) : FVec Ideal S8x2048x2x16 .f32 :=
  subf (mulf A (broadcastInDim S8x2048x2x16 ![0, 1, 2, 3] bcast_S1x2048x1x16_S8x2048x2x16_0_1_2_3 c)) (mulf B (broadcastInDim S8x2048x2x16 ![0, 1, 2, 3] bcast_S1x2048x1x16_S8x2048x2x16_0_1_2_3 s))

/-- Sixteen lanes and sixteen others, each times a table. -/
def moreK (A B : FVec Ideal S8x2048x2x16 .f32) (c s : FVec Ideal S1x2048x1x16 .f32) : FVec Ideal S8x2048x2x16 .f32 :=
  addf (mulf A (broadcastInDim S8x2048x2x16 ![0, 1, 2, 3] bcast_S1x2048x1x16_S8x2048x2x16_0_1_2_3 c)) (mulf B (broadcastInDim S8x2048x2x16 ![0, 1, 2, 3] bcast_S1x2048x1x16_S8x2048x2x16_0_1_2_3 s))

/-- Four runs of sixteen lanes side by side. -/
def fourK (a b c d : FVec Ideal S8x2048x2x16 .f32) : FVec Ideal S8x2048x2x64 .f32 :=
  concatenate S8x2048x2x64 3 [⟨S8x2048x2x16, a⟩, ⟨S8x2048x2x16, b⟩, ⟨S8x2048x2x16, c⟩, ⟨S8x2048x2x16, d⟩] concatenates_S8x2048x2x16_S8x2048x2x16_S8x2048x2x16_S8x2048x2x16_S8x2048x2x64_d3

/-- The latents' key heads turned. -/
def rotateK (A : FVec Ideal S8x2048x2x64 .f32) (C S : FVec Ideal S2048x2x16 .f32) : FVec Ideal S8x2048x2x64 .f32 :=
  fourK
    (lessK (extractStridedSlice S8x2048x2x16 ![0, 0, 0, 0] A slices_S8x2048x2x64_S8x2048x2x16_0_0_0_0) (extractStridedSlice S8x2048x2x16 ![0, 0, 0, 16] A slices_S8x2048x2x64_S8x2048x2x16_0_0_0_16) (rowTable C) (rowTable S))
    (moreK (extractStridedSlice S8x2048x2x16 ![0, 0, 0, 16] A slices_S8x2048x2x64_S8x2048x2x16_0_0_0_16) (extractStridedSlice S8x2048x2x16 ![0, 0, 0, 0] A slices_S8x2048x2x64_S8x2048x2x16_0_0_0_0) (rowTable C) (rowTable S))
    (lessK (extractStridedSlice S8x2048x2x16 ![0, 0, 0, 32] A slices_S8x2048x2x64_S8x2048x2x16_0_0_0_32) (extractStridedSlice S8x2048x2x16 ![0, 0, 0, 48] A slices_S8x2048x2x64_S8x2048x2x16_0_0_0_48) (colTable C) (colTable S))
    (moreK (extractStridedSlice S8x2048x2x16 ![0, 0, 0, 48] A slices_S8x2048x2x64_S8x2048x2x16_0_0_0_48) (extractStridedSlice S8x2048x2x16 ![0, 0, 0, 32] A slices_S8x2048x2x64_S8x2048x2x16_0_0_0_32) (colTable C) (colTable S))

/-- Turned key heads, then the context's as they are. -/
def joinK (A : FVec Ideal S8x2048x2x64 .f32) (N : FVec Ideal S8x2304x2x64 .f32) : FVec Ideal S8x2304x128 .f32 :=
  shapeCast S8x2304x128 (concatenate S8x2304x2x64 1 [⟨S8x2048x2x64, A⟩, ⟨S8x256x2x64, (extractStridedSlice S8x256x2x64 ![0, 2048, 0, 0] N slices_S8x2304x2x64_S8x256x2x64_0_2048_0_0 : FVec Ideal S8x256x2x64 .f32)⟩]
    concatenates_S8x2048x2x64_S8x256x2x64_S8x2304x2x64_d1 : FVec Ideal S8x2304x2x64 .f32) shapeCasts_S8x2304x2x64_S8x2304x128

/-- The key heads: normalised, the latents' turned. -/
def headsK (P : FVec Ideal S8x2304x2832 .f32) (C S : FVec Ideal S2048x2x16 .f32) (G : FVec Ideal S2x64 .f32) : FVec Ideal S8x2304x128 .f32 :=
  joinK (rotateK (extractStridedSlice S8x2048x2x64 ![0, 0, 0, 0] (normK (splitK P) G) slices_S8x2304x2x64_S8x2048x2x64_0_0_0_0) C S) (normK (splitK P) G)

/-- A lane of a key head. -/
theorem splitK_at (P : FVec Ideal S8x2304x2832 .f32) (b : Fin 8) (t : Fin 2304) (e : Fin 2) (f : Fin 64) :
    splitK P (ix4 b t e f) = P (ix3 b t ⟨512 + (e.val * 64 + f.val), by omega⟩) := by
  pointwise [splitK]

/-- A lane of a normalised key head. -/
theorem normK_at (A : FVec Ideal S8x2304x2x64 .f32) (G : FVec Ideal S2x64 .f32) (b : Fin 8) (t : Fin 2304) (e : Fin 2) (f : Fin 64) :
    normK A G (ix4 b t e f) = headNorm (fun k => A (ix4 b t e k)) (fun k => G (ix2 0 k)) f := by
  pointwise [normK, headGain, headNorm]

/-- A lane of the difference. -/
theorem lessK_at (A B : FVec Ideal S8x2048x2x16 .f32) (c s : FVec Ideal S1x2048x1x16 .f32) (b : Fin 8) (t : Fin 2048) (e : Fin 2) (p : Fin 16) :
    lessK A B c s (ix4 b t e p) = A (ix4 b t e p) * c (ix4 0 t 0 p) - B (ix4 b t e p) * s (ix4 0 t 0 p) := by
  pointwise [lessK]

/-- A lane of the sum. -/
theorem moreK_at (A B : FVec Ideal S8x2048x2x16 .f32) (c s : FVec Ideal S1x2048x1x16 .f32) (b : Fin 8) (t : Fin 2048) (e : Fin 2) (p : Fin 16) :
    moreK A B c s (ix4 b t e p) = A (ix4 b t e p) * c (ix4 0 t 0 p) + B (ix4 b t e p) * s (ix4 0 t 0 p) := by
  pointwise [moreK]

/-- The four runs at a lane. -/
theorem fourK_at (u v w x : FVec Ideal S8x2048x2x16 .f32) (b : Fin 8) (t : Fin 2048) (e : Fin 2) (f : Fin 64) :
    fourK u v w x (ix4 b t e f) = if f.val < 32 then (if f.val % 32 < 16 then u (ix4 b t e (place f)) else v (ix4 b t e (place f)))
      else (if f.val % 32 < 16 then w (ix4 b t e (place f)) else x (ix4 b t e (place f))) := by
  pointwise [fourK]
  have hf := f.isLt
  by_cases h1 : f.val < 16
  · rw [if_pos (by omega : f.val < 32), if_pos (by omega : f.val % 32 < 16)]
    exact (dif_pos h1).trans (congrArg u (congrArg (ix4 b t e) (Fin.ext (by show f.val = f.val % 16; omega))))
  refine (dif_neg h1).trans ?_
  by_cases h2 : f.val - 16 < 16
  · rw [if_pos (by omega : f.val < 32), if_neg (by omega : ¬ f.val % 32 < 16)]
    exact (dif_pos h2).trans (congrArg v (congrArg (ix4 b t e) (Fin.ext (by show f.val - 16 = f.val % 16; omega))))
  refine (dif_neg h2).trans ?_
  by_cases h3 : f.val - 16 - 16 < 16
  · rw [if_neg (by omega : ¬ f.val < 32), if_pos (by omega : f.val % 32 < 16)]
    exact (dif_pos h3).trans (congrArg w (congrArg (ix4 b t e) (Fin.ext (by show f.val - 16 - 16 = f.val % 16; omega))))
  refine (dif_neg h3).trans ?_
  rw [if_neg (by omega : ¬ f.val < 32), if_neg (by omega : ¬ f.val % 32 < 16)]
  exact congrArg x (congrArg (ix4 b t e) (Fin.ext (by show f.val - 16 - 16 - 16 = f.val % 16; omega)))

/-- Sixteen lanes of a head from an offset on. -/
theorem runK_at (A : FVec Ideal S8x2048x2x64 .f32) (b : Fin 8) (t : Fin 2048) (e : Fin 2) (p : Fin 16) :
    (extractStridedSlice S8x2048x2x16 ![0, 0, 0, 0] A slices_S8x2048x2x64_S8x2048x2x16_0_0_0_0 : FVec Ideal S8x2048x2x16 .f32) (ix4 b t e p) = A (ix4 b t e ⟨p.val, by omega⟩)
    ∧ (extractStridedSlice S8x2048x2x16 ![0, 0, 0, 16] A slices_S8x2048x2x64_S8x2048x2x16_0_0_0_16 : FVec Ideal S8x2048x2x16 .f32) (ix4 b t e p) = A (ix4 b t e ⟨16 + p.val, by omega⟩)
    ∧ (extractStridedSlice S8x2048x2x16 ![0, 0, 0, 32] A slices_S8x2048x2x64_S8x2048x2x16_0_0_0_32 : FVec Ideal S8x2048x2x16 .f32) (ix4 b t e p) = A (ix4 b t e ⟨32 + p.val, by omega⟩)
    ∧ (extractStridedSlice S8x2048x2x16 ![0, 0, 0, 48] A slices_S8x2048x2x64_S8x2048x2x16_0_0_0_48 : FVec Ideal S8x2048x2x16 .f32) (ix4 b t e p) = A (ix4 b t e ⟨48 + p.val, by omega⟩) := by
  refine ⟨?_, ?_, ?_, ?_⟩
  · pointwise
  · pointwise
  · pointwise
  · pointwise

/-- A lane of a turned key head. -/
theorem rotateK_at (A : FVec Ideal S8x2048x2x64 .f32) (C S : FVec Ideal S2048x2x16 .f32) (b : Fin 8) (t : Fin 2048) (e : Fin 2) (f : Fin 64) :
    rotateK A C S (ix4 b t e f) = turn (fun k => A (ix4 b t e k)) (fun h p => C (ix3 t h p)) (fun h p => S (ix3 t h p)) f := by
  unfold rotateK turn
  obtain ⟨h0, h1, h2, h3⟩ := runK_at A b t e (place f)
  rw [fourK_at, lessK_at, moreK_at, lessK_at, moreK_at, h0, h1, h2, h3]
  simp only [rowTable_at, colTable_at]
  have hf := f.isLt
  have at' (k k' : Fin 64) (h : k.val = k'.val) : A (ix4 b t e k) = A (ix4 b t e k') := congrArg A (congrArg (ix4 b t e) (Fin.ext h))
  by_cases hl : f.val % 32 < 16
  · have hm : (mate f).val = f.val + 16 := by unfold mate; rw [dif_pos hl]
    rw [if_pos hl, if_pos hl, if_pos hl]
    by_cases hh : f.val < 32
    · rw [if_pos hh, show half f = 0 from Fin.ext (by show f.val / 32 = 0; omega),
        at' ⟨(place f).val, _⟩ f (by show f.val % 16 = f.val; omega), at' ⟨16 + (place f).val, _⟩ (mate f) (by rw [hm]; show 16 + f.val % 16 = f.val + 16; omega)]
    · rw [if_neg hh, show half f = 1 from Fin.ext (by show f.val / 32 = 1; omega),
        at' ⟨32 + (place f).val, _⟩ f (by show 32 + f.val % 16 = f.val; omega), at' ⟨48 + (place f).val, _⟩ (mate f) (by rw [hm]; show 48 + f.val % 16 = f.val + 16; omega)]
  · have hm : (mate f).val = f.val - 16 := by unfold mate; rw [dif_neg hl]
    rw [if_neg hl, if_neg hl, if_neg hl]
    by_cases hh : f.val < 32
    · rw [if_pos hh, show half f = 0 from Fin.ext (by show f.val / 32 = 0; omega),
        at' ⟨16 + (place f).val, _⟩ f (by show 16 + f.val % 16 = f.val; omega), at' ⟨(place f).val, _⟩ (mate f) (by rw [hm]; show f.val % 16 = f.val - 16; omega)]
    · rw [if_neg hh, show half f = 1 from Fin.ext (by show f.val / 32 = 1; omega),
        at' ⟨48 + (place f).val, _⟩ f (by show 48 + f.val % 16 = f.val; omega), at' ⟨32 + (place f).val, _⟩ (mate f) (by rw [hm]; show 32 + f.val % 16 = f.val - 16; omega)]

/-- A lane of the joined key heads. -/
theorem joinK_at (A : FVec Ideal S8x2048x2x64 .f32) (N : FVec Ideal S8x2304x2x64 .f32) (b : Fin 8) (t : Fin 2304) (l : Fin 128) :
    joinK A N (ix3 b t l) = if h : t.val < 2048 then A (ix4 b ⟨t.val, h⟩ ⟨l.val / 64, by omega⟩ ⟨l.val % 64, by omega⟩) else N (ix4 b t ⟨l.val / 64, by omega⟩ ⟨l.val % 64, by omega⟩) := by
  pointwise [joinK]
  by_cases h : t.val < 2048
  · refine (dif_pos h).trans (Eq.trans ?_ (dif_pos h).symm)
    rfl
  · refine (dif_neg h).trans (Eq.trans ?_ (dif_neg h).symm)
    refine congrArg N (congrArg (fun t => ix4 b t _ _) (Fin.ext ?_))
    show 2048 + (t.val - 2048) = t.val
    omega

/-- The latents' part of the key heads. -/
theorem frontK_at (N : FVec Ideal S8x2304x2x64 .f32) (b : Fin 8) (t : Fin 2048) (e : Fin 2) (f : Fin 64) :
    (extractStridedSlice S8x2048x2x64 ![0, 0, 0, 0] N slices_S8x2304x2x64_S8x2048x2x64_0_0_0_0 : FVec Ideal S8x2048x2x64 .f32) (ix4 b t e f) = N (ix4 b ⟨t.val, by omega⟩ e f) := by
  pointwise

/-- A lane of the key heads. -/
theorem headsK_at (P : FVec Ideal S8x2304x2832 .f32) (C S : FVec Ideal S2048x2x16 .f32) (G : FVec Ideal S2x64 .f32) (b : Fin 8) (t : Fin 2304) (l : Fin 128) :
    headsK P C S G (ix3 b t l) = headRow (fun t h p => C (ix3 t h p)) (fun t h p => S (ix3 t h p)) t
      (headNorm (fun k => P (ix3 b t ⟨512 + (l.val / 64 * 64 + k.val), by omega⟩)) (fun k => G (ix2 0 k))) ⟨l.val % 64, by omega⟩ := by
  unfold headsK headRow
  rw [joinK_at]
  have hn (t : Fin 2304) (f : Fin 64) : normK (splitK P) G (ix4 b t ⟨l.val / 64, by omega⟩ f)
      = headNorm (fun k => P (ix3 b t ⟨512 + (l.val / 64 * 64 + k.val), by omega⟩)) (fun k => G (ix2 0 k)) f :=
    (normK_at _ _ _ _ _ _).trans (congrArg (fun a => headNorm a (fun k => G (ix2 0 k)) f) (funext fun k => splitK_at P b t _ k))
  by_cases h : t.val < 2048
  · rw [dif_pos h, dif_pos h, rotateK_at]
    exact congrArg (fun a => turn a (fun h' p => C (ix3 ⟨t.val, h⟩ h' p)) (fun h' p => S (ix3 ⟨t.val, h⟩ h' p)) _) (funext fun k => (frontK_at _ _ _ _ _).trans (hn t k))
  · rw [dif_neg h, dif_neg h]
    exact hn t _

/-- The reference's queries. -/
def REFQ (P : FVec Ideal S8x2304x2832 .f32) (C S : FVec Ideal S2048x2x16 .f32) (G : FVec Ideal S2x64 .f32) : FVec Ideal S8x2304x512 .bf16 :=
  truncf .bf16 (mulf (headsQ P C S G) (broadcastInDim S8x2304x512 ![] bcast_S_S8x2304x512 (constant S_ .f32 0x3E000000#32))) bitsLt_bf16_f32

/-- The reference's keys. -/
def REFK (P : FVec Ideal S8x2304x2832 .f32) (C S : FVec Ideal S2048x2x16 .f32) (G : FVec Ideal S2x64 .f32) : FVec Ideal S8x2304x128 .bf16 :=
  truncf .bf16 (headsK P C S G) bitsLt_bf16_f32

/-- The reference's values. -/
def REFV (P : FVec Ideal S8x2304x2832 .f32) : FVec Ideal S8x2304x256 .bf16 :=
  truncf .bf16 (shapeCast S8x2304x256 (concatenate S8x2304x2x128 3 [⟨S8x2304x2x64, (shapeCast S8x2304x2x64 (extractStridedSlice S8x2304x128 ![0, 0, 640] P slices_S8x2304x2832_S8x2304x128_0_0_640 : FVec Ideal S8x2304x128 .f32) shapeCasts_S8x2304x128_S8x2304x2x64 : FVec Ideal S8x2304x2x64 .f32)⟩,
    ⟨S8x2304x2x64, (broadcastInDim S8x2304x2x64 ![] bcast_S_S8x2304x2x64 (constant S_ .f32 0x3F800000#32 : FVec Ideal S_ .f32) : FVec Ideal S8x2304x2x64 .f32)⟩] concatenates_S8x2304x2x64_S8x2304x2x64_S8x2304x2x128_d3 : FVec Ideal S8x2304x2x128 .f32) shapeCasts_S8x2304x2x128_S8x2304x256) bitsLt_bf16_f32

/-- The reference's second attention's queries and keys. -/
def REFQK (P : FVec Ideal S8x2304x2832 .f32) : FVec Ideal S8x2304x1024 .bf16 :=
  truncf .bf16 (extractStridedSlice S8x2304x1024 ![0, 0, 768] P slices_S8x2304x2832_S8x2304x1024_0_0_768) bitsLt_bf16_f32

/-- The reference's second attention's values, transposed. -/
def REFVB (P : FVec Ideal S8x2304x2832 .f32) : FVec Ideal S8x512x2304 .bf16 :=
  truncf .bf16 (transpose S8x512x2304 [0, 2, 1] (extractStridedSlice S8x2304x512 ![0, 0, 1792] P slices_S8x2304x2832_S8x2304x512_0_0_1792) transposes_S8x2304x512_S8x512x2304_0_2_1) bitsLt_bf16_f32

/-- The reference's output gate. -/
def REFOB (P : FVec Ideal S8x2304x2832 .f32) : FVec Ideal S8x2304x512 .bf16 :=
  truncf .bf16 (extractStridedSlice S8x2304x512 ![0, 0, 2304] P slices_S8x2304x2832_S8x2304x512_0_0_2304) bitsLt_bf16_f32

/-- A query lane. -/
theorem REFQ_at (P : FVec Ideal S8x2304x2832 .f32) (C S : FVec Ideal S2048x2x16 .f32) (G : FVec Ideal S2x64 .f32) (b : Fin 8) (t : Fin 2304) (l : Fin 512) :
    REFQ P C S G (ix3 b t l) = headsQ P C S G (ix3 b t l) * Ideal.ofBits FTy.f32 1040187392#32 := by
  generalize hh : headsQ P C S G = h
  unfold REFQ
  rw [hh]
  pointwise

/-- A key lane. -/
theorem REFK_at (P : FVec Ideal S8x2304x2832 .f32) (C S : FVec Ideal S2048x2x16 .f32) (G : FVec Ideal S2x64 .f32) (b : Fin 8) (t : Fin 2304) (l : Fin 128) :
    REFK P C S G (ix3 b t l) = headsK P C S G (ix3 b t l) := by
  generalize hh : headsK P C S G = h
  unfold REFK
  rw [hh]
  pointwise

/-- A value lane. -/
theorem REFV_at (P : FVec Ideal S8x2304x2832 .f32) (b : Fin 8) (t : Fin 2304) (l : Fin 256) :
    REFV P (ix3 b t l) = if l.val % 128 < 64 then P (ix3 b t ⟨640 + (l.val / 128 * 64 + l.val % 64), by omega⟩) else 1 := by
  pointwise [REFV]
  by_cases h : l.val % 128 < 64
  · refine (dif_pos h).trans (Eq.trans ?_ (if_pos h).symm)
    refine congrArg P (congrArg (ix3 b t) (Fin.ext ?_))
    show 640 + (l.val / 128 * 64 + l.val % 128) = 640 + (l.val / 128 * 64 + l.val % 64)
    omega
  · exact (dif_neg h).trans (if_neg h).symm

/-- A lane of the second attention's queries and keys. -/
theorem REFQK_at (P : FVec Ideal S8x2304x2832 .f32) (b : Fin 8) (t : Fin 2304) (l : Fin 1024) : REFQK P (ix3 b t l) = P (ix3 b t ⟨768 + l.val, by omega⟩) := by
  pointwise [REFQK]

/-- A lane of the second attention's values. -/
theorem REFVB_at (P : FVec Ideal S8x2304x2832 .f32) (b : Fin 8) (l : Fin 512) (t : Fin 2304) : REFVB P (ix3 b l t) = P (ix3 b t ⟨1792 + l.val, by omega⟩) := by
  pointwise [REFVB]

/-- A lane of the output gate. -/
theorem REFOB_at (P : FVec Ideal S8x2304x2832 .f32) (b : Fin 8) (t : Fin 2304) (l : Fin 512) : REFOB P (ix3 b t l) = P (ix3 b t ⟨2304 + l.val, by omega⟩) := by
  pointwise [REFOB]

end Cert.Reference4Ideal.Inproj

end
-- ==== Proof.Inproj.Equal.lean ====
/- The in-projection's reference equals the arrays that the kernel leaves. -/
module

public import proofs.«01_k».proof.Proof.Inproj.Array
public import proofs.«01_k».proof.Proof.Inproj.Reference

@[expose] public section

set_option maxRecDepth 16384

noncomputable section

namespace Cert.Inproj

open Idealize.ShloMosaic
open Cert.Kernel4Ideal
open Cert.Kernel4Ideal.Inproj (PR headLane QR KR VR QKR VBR OBR)
open Cert.Reference4Ideal.Inproj (project project_at headsQ headsQ_at headsK headsK_at REFQ REFK REFV REFQK REFVB REFOB REFQ_at REFK_at REFV_at REFQK_at REFVB_at REFOB_at)

variable (X : FVec Ideal S8x2048x1024 .f32) (CX : FVec Ideal S8x256x1024 .f32) (M : FVec Ideal S8x6x1024 .f32) (MC : FVec Ideal S6x1024 .f32)
  (G : FVec Ideal S4x1024 .f32) (W : FVec Ideal S2x1024x2832 .f32) (C S : FVec Ideal S2048x2x16 .f32) (GQ : FVec Ideal S2x64 .f32)

/-- The reference's queries are the kernel's. -/
theorem queries_eq : REFQ (project X CX M MC G W) C S GQ = QR (PR X CX M MC G W) C S GQ := by
  funext i
  idx_vars i
  revert i0 i1 i2
  intro b t l
  rw [REFQ_at, headsQ_at]
  refine congrArg (· * Ideal.ofBits FTy.f32 1040187392#32) ?_
  show headRow _ _ t _ _ = headLane (PR X CX M MC G W) C S GQ b t (l.val / 64 * 64) _ ⟨l.val % 64, by omega⟩
  unfold headLane
  refine congrArg (fun a => headRow (fun t h p => C (ix3 t h p)) (fun t h p => S (ix3 t h p)) t (headNorm a (fun k => GQ (ix2 0 k))) _) (funext fun k => ?_)
  exact project_at X CX M MC G W b t _

/-- The reference's keys are the kernel's. -/
theorem keys_eq : REFK (project X CX M MC G W) C S GQ = KR (PR X CX M MC G W) C S GQ := by
  funext i
  idx_vars i
  revert i0 i1 i2
  intro b t l
  rw [REFK_at, headsK_at]
  show headRow _ _ t _ _ = headLane (PR X CX M MC G W) C S GQ b t (512 + l.val / 64 * 64) _ ⟨l.val % 64, by omega⟩
  unfold headLane
  refine congrArg (fun a => headRow (fun t h p => C (ix3 t h p)) (fun t h p => S (ix3 t h p)) t (headNorm a (fun k => GQ (ix2 0 k))) _) (funext fun k => ?_)
  refine (project_at X CX M MC G W b t _).trans (congrArg (PR X CX M MC G W b t) (Fin.ext ?_))
  show 512 + (l.val / 64 * 64 + k.val) = 512 + l.val / 64 * 64 + k.val
  omega

/-- The reference's values are the kernel's. -/
theorem values_eq : REFV (project X CX M MC G W) = VR (PR X CX M MC G W) := by
  funext i
  idx_vars i
  revert i0 i1 i2
  intro b t l
  rw [REFV_at, project_at]
  rfl

/-- The reference's second attention's queries and keys are the kernel's. -/
theorem pairs_eq : REFQK (project X CX M MC G W) = QKR (PR X CX M MC G W) := by
  funext i
  idx_vars i
  revert i0 i1 i2
  intro b t l
  rw [REFQK_at, project_at]
  rfl

/-- The reference's second attention's values are the kernel's. -/
theorem transposed_eq : REFVB (project X CX M MC G W) = VBR (PR X CX M MC G W) := by
  funext i
  idx_vars i
  revert i0 i1 i2
  intro b l t
  rw [REFVB_at, project_at]
  rfl

/-- The reference's output gate is the kernel's. -/
theorem gate_eq : REFOB (project X CX M MC G W) = OBR (PR X CX M MC G W) := by
  funext i
  idx_vars i
  revert i0 i1 i2
  intro b t l
  rw [REFOB_at, project_at]
  rfl

end Cert.Inproj

end
-- ==== Proof.Inproj.Result.lean ====
/- What the in-projection's reference ends holding, by its named parts. -/
module

public import proofs.«01_k».proof.Proof.Gen.Reference4Ideal.Run
public import proofs.«01_k».proof.Proof.Inproj.Reference

@[expose] public section

set_option maxRecDepth 16384

noncomputable section

namespace Cert.Reference4Ideal.Inproj

open Idealize.ShloMosaic Idealize.ShloMosaic.TcCoe Idealize.SL.Sem
open Cert.Reference4Ideal Cert.Reference4Ideal.Gen Cert.Reference4Ideal.Value

variable (m : (ℓ : Loc nD τ sig) → Buf (Elt Ideal) ℓ) (c : Dev nD)

/-- The projection of the launch's arrays. -/
def launched : FVec Ideal S8x2304x2832 .f32 :=
  project (m (c.tc.loc main_arg0)) (m (c.tc.loc main_arg1)) (m (c.tc.loc main_arg2)) (m (c.tc.loc main_arg3)) (m (c.tc.loc main_arg4)) (m (c.tc.loc main_arg5))

/-- The projection. -/
theorem res_project : res_main_v57 (StableHlo.launchContents m c) = launched m c := rfl

/-- The query heads, normalised. -/
theorem res_normQ : res_main_v74 (StableHlo.launchContents m c) = normQ (splitQ (launched m c)) (m (c.tc.loc main_arg8)) := by
  have h : res_main_v61 (StableHlo.launchContents m c) = splitQ (launched m c) := congrArg splitQ (res_project m c)
  exact congrArg (fun A => normQ A (m (c.tc.loc main_arg8))) h

/-- The latents' query heads. -/
theorem res_frontQ : res_main_v75 (StableHlo.launchContents m c) = extractStridedSlice S8x2048x8x64 ![0, 0, 0, 0] (normQ (splitQ (launched m c)) (m (c.tc.loc main_arg8))) slices_S8x2304x8x64_S8x2048x8x64_0_0_0_0 :=
  by rw [res_main_v75, res_normQ]

/-- The query heads' first sixteen lanes. -/
theorem res_runQ0 : res_main_v76 (StableHlo.launchContents m c) = extractStridedSlice S8x2048x8x16 ![0, 0, 0, 0] (extractStridedSlice S8x2048x8x64 ![0, 0, 0, 0] (normQ (splitQ (launched m c)) (m (c.tc.loc main_arg8))) slices_S8x2304x8x64_S8x2048x8x64_0_0_0_0) slices_S8x2048x8x64_S8x2048x8x16_0_0_0_0 :=
  by rw [res_main_v76, res_frontQ]

/-- The query heads' second sixteen lanes. -/
theorem res_runQ1 : res_main_v77 (StableHlo.launchContents m c) = extractStridedSlice S8x2048x8x16 ![0, 0, 0, 16] (extractStridedSlice S8x2048x8x64 ![0, 0, 0, 0] (normQ (splitQ (launched m c)) (m (c.tc.loc main_arg8))) slices_S8x2304x8x64_S8x2048x8x64_0_0_0_0) slices_S8x2048x8x64_S8x2048x8x16_0_0_0_16 :=
  by rw [res_main_v77, res_frontQ]

/-- The query heads' third sixteen lanes. -/
theorem res_runQ2 : res_main_v78 (StableHlo.launchContents m c) = extractStridedSlice S8x2048x8x16 ![0, 0, 0, 32] (extractStridedSlice S8x2048x8x64 ![0, 0, 0, 0] (normQ (splitQ (launched m c)) (m (c.tc.loc main_arg8))) slices_S8x2304x8x64_S8x2048x8x64_0_0_0_0) slices_S8x2048x8x64_S8x2048x8x16_0_0_0_32 :=
  by rw [res_main_v78, res_frontQ]

/-- The query heads' fourth sixteen lanes. -/
theorem res_runQ3 : res_main_v79 (StableHlo.launchContents m c) = extractStridedSlice S8x2048x8x16 ![0, 0, 0, 48] (extractStridedSlice S8x2048x8x64 ![0, 0, 0, 0] (normQ (splitQ (launched m c)) (m (c.tc.loc main_arg8))) slices_S8x2304x8x64_S8x2048x8x64_0_0_0_0) slices_S8x2048x8x64_S8x2048x8x16_0_0_0_48 :=
  by rw [res_main_v79, res_frontQ]

/-- The rows' cosines the query heads take. -/
theorem res_rowCosQ : res_main_v82 (StableHlo.launchContents m c) = rowTable (m (c.tc.loc main_arg6)) := rfl

/-- The columns' cosines the query heads take. -/
theorem res_colCosQ : res_main_v85 (StableHlo.launchContents m c) = colTable (m (c.tc.loc main_arg6)) := rfl

/-- The rows' sines the query heads take. -/
theorem res_rowSinQ : res_main_v88 (StableHlo.launchContents m c) = rowTable (m (c.tc.loc main_arg7)) := rfl

/-- The columns' sines the query heads take. -/
theorem res_colSinQ : res_main_v91 (StableHlo.launchContents m c) = colTable (m (c.tc.loc main_arg7)) := rfl

/-- The key heads, normalised. -/
theorem res_normK : res_main_v134 (StableHlo.launchContents m c) = normK (splitK (launched m c)) (m (c.tc.loc main_arg9)) := by
  have h : res_main_v121 (StableHlo.launchContents m c) = splitK (launched m c) := congrArg splitK (res_project m c)
  exact congrArg (fun A => normK A (m (c.tc.loc main_arg9))) h

/-- The latents' key heads. -/
theorem res_frontK : res_main_v135 (StableHlo.launchContents m c) = extractStridedSlice S8x2048x2x64 ![0, 0, 0, 0] (normK (splitK (launched m c)) (m (c.tc.loc main_arg9))) slices_S8x2304x2x64_S8x2048x2x64_0_0_0_0 :=
  by rw [res_main_v135, res_normK]

/-- The key heads' first sixteen lanes. -/
theorem res_runK0 : res_main_v136 (StableHlo.launchContents m c) = extractStridedSlice S8x2048x2x16 ![0, 0, 0, 0] (extractStridedSlice S8x2048x2x64 ![0, 0, 0, 0] (normK (splitK (launched m c)) (m (c.tc.loc main_arg9))) slices_S8x2304x2x64_S8x2048x2x64_0_0_0_0) slices_S8x2048x2x64_S8x2048x2x16_0_0_0_0 :=
  by rw [res_main_v136, res_frontK]

/-- The key heads' second sixteen lanes. -/
theorem res_runK1 : res_main_v137 (StableHlo.launchContents m c) = extractStridedSlice S8x2048x2x16 ![0, 0, 0, 16] (extractStridedSlice S8x2048x2x64 ![0, 0, 0, 0] (normK (splitK (launched m c)) (m (c.tc.loc main_arg9))) slices_S8x2304x2x64_S8x2048x2x64_0_0_0_0) slices_S8x2048x2x64_S8x2048x2x16_0_0_0_16 :=
  by rw [res_main_v137, res_frontK]

/-- The key heads' third sixteen lanes. -/
theorem res_runK2 : res_main_v138 (StableHlo.launchContents m c) = extractStridedSlice S8x2048x2x16 ![0, 0, 0, 32] (extractStridedSlice S8x2048x2x64 ![0, 0, 0, 0] (normK (splitK (launched m c)) (m (c.tc.loc main_arg9))) slices_S8x2304x2x64_S8x2048x2x64_0_0_0_0) slices_S8x2048x2x64_S8x2048x2x16_0_0_0_32 :=
  by rw [res_main_v138, res_frontK]

/-- The key heads' fourth sixteen lanes. -/
theorem res_runK3 : res_main_v139 (StableHlo.launchContents m c) = extractStridedSlice S8x2048x2x16 ![0, 0, 0, 48] (extractStridedSlice S8x2048x2x64 ![0, 0, 0, 0] (normK (splitK (launched m c)) (m (c.tc.loc main_arg9))) slices_S8x2304x2x64_S8x2048x2x64_0_0_0_0) slices_S8x2048x2x64_S8x2048x2x16_0_0_0_48 :=
  by rw [res_main_v139, res_frontK]

/-- The rows' cosines the key heads take. -/
theorem res_rowCosK : res_main_v142 (StableHlo.launchContents m c) = rowTable (m (c.tc.loc main_arg6)) := rfl

/-- The columns' cosines the key heads take. -/
theorem res_colCosK : res_main_v145 (StableHlo.launchContents m c) = colTable (m (c.tc.loc main_arg6)) := rfl

/-- The rows' sines the key heads take. -/
theorem res_rowSinK : res_main_v148 (StableHlo.launchContents m c) = rowTable (m (c.tc.loc main_arg7)) := rfl

/-- The columns' sines the key heads take. -/
theorem res_colSinK : res_main_v151 (StableHlo.launchContents m c) = colTable (m (c.tc.loc main_arg7)) := rfl

end Cert.Reference4Ideal.Inproj

end
-- ==== Proof.Odd.Body.lean ====
/- What one grid point of the odd layers' projection stores: its rows, normalised, modulated and multiplied with the weights. -/
module

public import proofs.«01_k».proof.Proof.Gen.Kernel5Ideal.Value
public import proofs.«01_k».proof.Proof.Inproj.Spec
public import Idealize.ShloMosaic.Lib.Pipeline.ValueKit

@[expose] public section

set_option maxRecDepth 16384

noncomputable section

namespace Cert.Kernel5Ideal.Value

open Idealize.ShloMosaic Idealize.ShloMosaic.TcCoe Idealize.SL.Sem
open Idealize.ShloMosaic.Pipeline (Dat)
open Cert.Kernel5Ideal Cert.Kernel5Ideal.Gen
open Cert.Inproj (modRow)

variable (m : (ℓ : Loc nD τ sig) → Buf (Elt Ideal) ℓ)

/-- A tile's stored block: each row normalised and modulated, times a column of the weights. -/
theorem pay_at (md : Vec Ideal S1x1x6x1024 .f32) (x : Vec Ideal S1x512x1024 .f32) (g : Vec Ideal S1x1024 .f32) (w : Vec Ideal S1024x1024 .bf16)
    (z : Fin 1) (r : Fin 512) (l : Fin 1024) :
    k0_pay1 md x g w (ix3 z r l)
      = ∑ d : Fin 1024, modRow (fun d => x (ix3 0 r d)) (fun d => g (ix2 0 d)) (fun d => md (ix4 0 0 1 d)) (fun d => md (ix4 0 0 0 d)) d * w (ix2 d l) := by
  pointwise [k0_pay1, modRow]

/-- What a grid point stores, from its rows, gain, modulation and weights. -/
theorem out_at (c : Dev nD) (t : Fin cfg0.N) (z : Fin 1) (r : Fin 512) (l : Fin 1024) :
    outsAt0 m c t (ix3 z r l)
      = ∑ d : Fin 1024, modRow (fun d => X0_0 m c t (ix3 0 r d)) (fun d => iblk m c 2 t (ix2 0 d)) (fun d => iblk m c 1 t (ix4 0 0 1 d))
          (fun d => iblk m c 1 t (ix4 0 0 0 d)) d * iblk m c 3 t (ix2 d l) := by
  unfold outsAt0
  generalize (X0_0 m c t) = y0
  generalize (iblk m c 1 t) = y1
  generalize (iblk m c 2 t) = y2
  generalize (iblk m c 3 t) = y3
  frame_out
  refine (pay_at _ _ _ _ z r l).trans ?_
  pointwise

end Cert.Kernel5Ideal.Value

end
-- ==== Proof.Odd.Array.lean ====
/- What the odd layers' projection leaves in its result array: every latent row, normalised, modulated and multiplied with the weights. -/
module

public import proofs.«01_k».proof.Proof.Odd.Body

@[expose] public section

set_option maxRecDepth 16384

noncomputable section

namespace Cert.Kernel5Ideal.Value

open Idealize.ShloMosaic Idealize.ShloMosaic.TcCoe Idealize.SL.Sem
open Idealize.ShloMosaic.Pipeline (Dat)
open Cert.Kernel5Ideal Cert.Kernel5Ideal.Gen
open Cert.Inproj (modRow)

variable (m : (ℓ : Loc nD τ sig) → Buf (Elt Ideal) ℓ)

/-- The sequence: the latents, then the context. -/
abbrev argX (c : Dev nD) : FVec Ideal S8x2304x1024 .f32 := m (c.tc.loc main_arg0)

/-- The latents' modulation. -/
abbrev argM (c : Dev nD) : FVec Ideal S8x6x1024 .f32 := m (c.tc.loc main_arg1)

/-- The context's modulation. -/
abbrev argC (c : Dev nD) : FVec Ideal S6x1024 .f32 := m (c.tc.loc main_arg2)

/-- The layers' gains. -/
abbrev argG (c : Dev nD) : FVec Ideal S4x1024 .f32 := m (c.tc.loc main_arg3)

/-- The odd layers' weights. -/
abbrev argW (c : Dev nD) : FVec Ideal S2x1024x1024 .f32 := m (c.tc.loc main_arg4)

/-- The modulations as the kernel is handed them: the latents' beside the context's. -/
def bothM (a : FVec Ideal S8x6x1024 .f32) (b : FVec Ideal S6x1024 .f32) : FVec Ideal S8x2x6x1024 .f32 :=
  concatenate S8x2x6x1024 1 [⟨S8x1x6x1024, broadcastInDim S8x1x6x1024 ![0, 2, 3] bcast_S8x6x1024_S8x1x6x1024_0_2_3 a⟩,
    ⟨S8x1x6x1024, broadcastInDim S8x1x6x1024 ![0, 1, 2, 3] bcast_S1x1x6x1024_S8x1x6x1024_0_1_2_3 (broadcastInDim S1x1x6x1024 ![2, 3] bcast_S6x1024_S1x1x6x1024_2_3 b)⟩]
    concatenates_S8x1x6x1024_S8x1x6x1024_S8x2x6x1024_d1

/-- The second layer's gain as the kernel is handed it. -/
def rowG (g : FVec Ideal S4x1024 .f32) : FVec Ideal S1x1024 .f32 :=
  broadcastInDim S1x1024 ![1] bcast_S1024_S1x1024_1 (shapeCast S1024 (extractStridedSlice S1x1024 ![1, 0] g slices_S4x1024_S1x1024_1_0 : FVec Ideal S1x1024 .f32) shapeCasts_S1x1024_S1024 : FVec Ideal S1024 .f32)

/-- The first odd layer's weights as the kernel is handed them. -/
def firstW (w : FVec Ideal S2x1024x1024 .f32) : FVec Ideal S1024x1024 .bf16 :=
  truncf .bf16 (shapeCast S1024x1024 (extractStridedSlice S1x1024x1024 ![0, 0, 0] w slices_S2x1024x1024_S1x1024x1024_0_0_0 : FVec Ideal S1x1024x1024 .f32) shapeCasts_S1x1024x1024_S1024x1024 : FVec Ideal S1024x1024 .f32)

/-- The second operand at launch. -/
theorem entryM (c : Dev nD) : V m c main_v3 = bothM (argM m c) (argC m c) := by
  unfold V
  after_results
  try rfl

/-- The third operand at launch. -/
theorem entryG (c : Dev nD) : V m c main_v6 = rowG (argG m c) := by
  unfold V
  after_results
  try rfl

/-- The fourth operand at launch. -/
theorem entryW (c : Dev nD) : V m c main_v9 = firstW (argW m c) := by
  unfold V
  after_results
  try rfl

/-- The latents' modulation as handed over. -/
theorem bothM_at (a : FVec Ideal S8x6x1024 .f32) (s : FVec Ideal S6x1024 .f32) (b : Fin 8) (k : Fin 6) (l : Fin 1024) : bothM a s (ix4 b 0 k l) = a (ix3 b k l) := by
  pointwise [bothM]

/-- The gain as handed over. -/
theorem rowG_at (g : FVec Ideal S4x1024 .f32) (z : Fin 1) (l : Fin 1024) : rowG g (ix2 z l) = g (ix2 1 l) := by
  pointwise [rowG]

/-- A weight as handed over. -/
theorem firstW_at (w : FVec Ideal S2x1024x1024 .f32) (d l : Fin 1024) : firstW w (ix2 d l) = w (ix3 0 d l) := by
  pointwise [firstW]

/-- The block each window reads or writes at a grid point. -/
theorem idx : ∀ t : Fin cfg0.N, win0_0.index t = ![t.val / 4, t.val % 4, 0] ∧ win0_1.index t = ![t.val / 4, 0, 0, 0]
    ∧ win0_2.index t = ![0, 0] ∧ win0_3.index t = ![0, 0] ∧ win0_4.index t = ![t.val / 4, t.val % 4, 0] :=
  (by decide +kernel : ∀ t : Fin grid0.N, _)

/-- The grid has 32 points. -/
theorem t_lt (t : Fin cfg0.N) : t.val < 32 := t.isLt

/-- The batch of a grid point. -/
abbrev batchOf (t : Fin cfg0.N) : Fin 8 := ⟨t.val / 4, by have := t_lt t; omega⟩

/-- The latent a row of a grid point's tile holds. -/
abbrev latentOf (t : Fin cfg0.N) (r : Fin 512) : Fin 2048 := ⟨t.val % 4 * 512 + r, by omega⟩

/-- A latent's place in the sequence. -/
abbrev inSeq (t : Fin 2048) : Fin 2304 := ⟨t.val, by omega⟩

/-- The rows' block at a grid point: no block is cut, so the staging buffer holds the tile's rows. -/
theorem blkX (c : Dev nD) (t : Fin cfg0.N) (z : Fin 1) (r : Fin 512) (l : Fin 1024) :
    X0_0 m c t (ix3 z r l) = argX m c (ix3 (batchOf t) (inSeq (latentOf t r)) l) := by
  unfold X0_0 Pipeline.Window.fill
  rw [dif_pos (moved0_0 t _)]
  refine Eq.trans ?_ (congrFun (V_main_arg0 m c) _)
  blk_ext [iblk, idx t]

/-- The modulation's block at a grid point. -/
theorem blkM (c : Dev nD) (t : Fin cfg0.N) (z z' : Fin 1) (k : Fin 6) (l : Fin 1024) :
    iblk m c 1 t (ix4 z z' k l) = argM m c (ix3 (batchOf t) k l) := by
  refine Eq.trans ?_ (bothM_at (argM m c) (argC m c) (batchOf t) k l)
  refine Eq.trans ?_ (congrFun (entryM m c) _)
  blk_ext [iblk, idx t]

/-- The gain's block at a grid point. -/
theorem blkG (c : Dev nD) (t : Fin cfg0.N) (z : Fin 1) (l : Fin 1024) :
    iblk m c 2 t (ix2 z l) = argG m c (ix2 1 l) := by
  refine Eq.trans ?_ (rowG_at (argG m c) z l)
  refine Eq.trans ?_ (congrFun (entryG m c) _)
  blk_ext [iblk, idx t]

/-- The weights' block at a grid point. -/
theorem blkW (c : Dev nD) (t : Fin cfg0.N) (d l : Fin 1024) :
    iblk m c 3 t (ix2 d l) = argW m c (ix3 0 d l) := by
  refine Eq.trans ?_ (firstW_at (argW m c) d l)
  refine Eq.trans ?_ (congrFun (entryW m c) _)
  blk_ext [iblk, idx t]

/-- The kernel's result. -/
def KER (X : FVec Ideal S8x2304x1024 .f32) (M : FVec Ideal S8x6x1024 .f32) (G : FVec Ideal S4x1024 .f32) (W : FVec Ideal S2x1024x1024 .f32) : FVec Ideal S8x2048x1024 .f32 :=
  fun i => ∑ d : Fin 1024, modRow (fun d => X (ix3 (i 0) (inSeq (i 1)) d)) (fun d => G (ix2 1 d)) (fun d => M (ix3 (i 0) 1 d)) (fun d => M (ix3 (i 0) 0 d)) d * W (ix3 0 d (i 2))

/-- What a grid point stores is its block of the result. -/
theorem point (c : Dev nD) (t : Fin cfg0.N) (z : Fin 1) (r : Fin 512) (l : Fin 1024) :
    outsAt0 m c t (ix3 z r l) = KER (argX m c) (argM m c) (argG m c) (argW m c) (ix3 (batchOf t) (latentOf t r) l) := by
  refine (out_at m c t z r l).trans (Finset.sum_congr rfl fun d _ => congrArg₂ (· * ·) ?_ (blkW m c t d l))
  rw [funext fun d => blkX m c t 0 r d, funext fun d => blkG m c t 0 d, funext fun d => blkM m c t 0 0 1 d, funext fun d => blkM m c t 0 0 0 d]
  rfl

/-- The result array after the run. -/
theorem final (c : Dev nD) : (dats m 0 c).arrAt 4 cfg0.N = KER (argX m c) (argM m c) (argG m c) (argW m c) := by
  refine (dats m 0 c).arrAt_eq_of_covers 4 _ (by decide +kernel) fun t _ y => ?_
  blk_simp
  rw [after0_4]
  idx_vars y
  refine (point m c t _ _ _).trans (congrArg _ ?_)
  blk_ext [idx t]

end Cert.Kernel5Ideal.Value

end
-- ==== Proof.Odd.Reference.lean ====
/- What the reference of the odd layers' projection computes, read at an index. -/
module

public import proofs.«01_k».proof.Proof.Gen.Reference5Ideal
public import proofs.«01_k».proof.Proof.Inproj.Spec

@[expose] public section

set_option maxRecDepth 16384

noncomputable section

namespace Cert.Reference5Ideal.Value

open Idealize.ShloMosaic Idealize.ShloMosaic.TcCoe Idealize.SL.Sem
open Cert.Reference5Ideal Cert.Reference5Ideal.Gen
open Cert.Inproj (modRow)

/-- The latents of the sequence. -/
def latents (X : FVec Ideal S8x2304x1024 .f32) : FVec Ideal S8x2048x1024 .f32 :=
  extractStridedSlice S8x2048x1024 ![0, 0, 0] X slices_S8x2304x1024_S8x2048x1024_0_0_0

/-- The second layer's gain. -/
def gain (G : FVec Ideal S4x1024 .f32) : FVec Ideal S1024 .f32 :=
  shapeCast _ (extractStridedSlice S1x1024 ![1, 0] G slices_S4x1024_S1x1024_1_0 : FVec Ideal S1x1024 .f32) shapeCasts_S1x1024_S1024

/-- The latents, normalised and modulated. -/
def rows (X : FVec Ideal S8x2304x1024 .f32) (M : FVec Ideal S8x6x1024 .f32) (G : FVec Ideal S4x1024 .f32) : FVec Ideal S8x2048x1024 .f32 :=
  addf (mulf (mulf (mulf (latents X) (broadcastInDim S8x2048x1024 ![0, 1, 2] bcast_S8x2048x1_S8x2048x1024_0_1_2 (Host.rsqrt (addf (Host.divf (broadcastInDim S8x2048x1 ![0, 1] bcast_S8x2048_S8x2048x1_0_1
      (Host.reduceAdd (mulf (latents X) (latents X)) (constant S_ .f32 0x00000000#32) reducesTo_S8x2048x1024_S8x2048_d2 h_S_)) (broadcastInDim S8x2048x1 ![] bcast_S_S8x2048x1 (constant S_ .f32 0x44800000#32)))
      (broadcastInDim S8x2048x1 ![] bcast_S_S8x2048x1 (constant S_ .f32 0x358637BD#32))))))
      (broadcastInDim S8x2048x1024 ![0, 1, 2] bcast_S1x1x1024_S8x2048x1024_0_1_2 (broadcastInDim S1x1x1024 ![2] bcast_S1024_S1x1x1024_2 (gain G))))
      (broadcastInDim S8x2048x1024 ![0, 1, 2] bcast_S8x1x1024_S8x2048x1024_0_1_2 (addf (broadcastInDim S8x1x1024 ![] bcast_S_S8x1x1024 (constant S_ .f32 0x3F800000#32))
        (broadcastInDim S8x1x1024 ![0, 2] bcast_S8x1024_S8x1x1024_0_2 (shapeCast S8x1024 (extractStridedSlice S8x1x1024 ![0, 1, 0] M slices_S8x6x1024_S8x1x1024_0_1_0 : FVec Ideal S8x1x1024 .f32) shapeCasts_S8x1x1024_S8x1024 : FVec Ideal S8x1024 .f32)))))
    (broadcastInDim S8x2048x1024 ![0, 1, 2] bcast_S8x1x1024_S8x2048x1024_0_1_2
        (broadcastInDim S8x1x1024 ![0, 2] bcast_S8x1024_S8x1x1024_0_2 (shapeCast S8x1024 (extractStridedSlice S8x1x1024 ![0, 0, 0] M slices_S8x6x1024_S8x1x1024_0_0_0 : FVec Ideal S8x1x1024 .f32) shapeCasts_S8x1x1024_S8x1024 : FVec Ideal S8x1024 .f32)))

/-- The first odd layer's weights. -/
def weights (W : FVec Ideal S2x1024x1024 .f32) : FVec Ideal S1024x1024 .f32 :=
  shapeCast _ (extractStridedSlice S1x1024x1024 ![0, 0, 0] W slices_S2x1024x1024_S1x1024x1024_0_0_0 : FVec Ideal S1x1024x1024 .f32) shapeCasts_S1x1024x1024_S1024x1024

/-- The reference's result. -/
def REF (X : FVec Ideal S8x2304x1024 .f32) (M : FVec Ideal S8x6x1024 .f32) (G : FVec Ideal S4x1024 .f32) (W : FVec Ideal S2x1024x1024 .f32) : FVec Ideal S8x2048x1024 .f32 :=
  Host.dotGeneral dot_S8x2048x1024_S1024x1024_S8x2048x1024_2_0_01_1_n_n none (rows X M G) (weights W)

/-- A latent as the sequence holds it. -/
theorem latents_at (X : FVec Ideal S8x2304x1024 .f32) (b : Fin 8) (t : Fin 2048) (d : Fin 1024) : latents X (ix3 b t d) = X (ix3 b ⟨t.val, by omega⟩ d) := by
  pointwise [latents]

/-- A normalised, modulated latent's entry. -/
theorem rows_at (X : FVec Ideal S8x2304x1024 .f32) (M : FVec Ideal S8x6x1024 .f32) (G : FVec Ideal S4x1024 .f32) (b : Fin 8) (t : Fin 2048) (d : Fin 1024) :
    rows X M G (ix3 b t d) = modRow (fun d => latents X (ix3 b t d)) (fun d => G (ix2 1 d)) (fun d => M (ix3 b 1 d)) (fun d => M (ix3 b 0 d)) d := by
  unfold rows
  generalize latents X = L
  pointwise [gain, modRow]

/-- A weight. -/
theorem weights_at (W : FVec Ideal S2x1024x1024 .f32) (d j : Fin 1024) : weights W (ix2 d j) = W (ix3 0 d j) := by
  pointwise [weights]

/-- An entry of rows times a matrix. -/
theorem times_at (A : FVec Ideal S8x2048x1024 .f32) (W : FVec Ideal S1024x1024 .f32) (b : Fin 8) (t : Fin 2048) (j : Fin 1024) :
    (Host.dotGeneral dot_S8x2048x1024_S1024x1024_S8x2048x1024_2_0_01_1_n_n none A W : FVec Ideal S8x2048x1024 .f32) (ix3 b t j) = ∑ d : Fin 1024, A (ix3 b t d) * W (ix2 d j) := by
  pointwise

/-- An entry of the reference's result. -/
theorem REF_at (X : FVec Ideal S8x2304x1024 .f32) (M : FVec Ideal S8x6x1024 .f32) (G : FVec Ideal S4x1024 .f32) (W : FVec Ideal S2x1024x1024 .f32) (b : Fin 8) (t : Fin 2048) (j : Fin 1024) :
    REF X M G W (ix3 b t j) = ∑ d : Fin 1024, modRow (fun d => X (ix3 b ⟨t.val, by omega⟩ d)) (fun d => G (ix2 1 d)) (fun d => M (ix3 b 1 d)) (fun d => M (ix3 b 0 d)) d * W (ix3 0 d j) := by
  refine (times_at _ _ b t j).trans (Finset.sum_congr rfl fun d _ => congrArg₂ (· * ·) ?_ (weights_at W d j))
  rw [rows_at, funext fun d => latents_at X b t d]

end Cert.Reference5Ideal.Value

end
-- ==== Proof.Odd.Equal.lean ====
/- The equation of the odd layers' projection: the kernel's result is the reference's. -/
module

public import proofs.«01_k».proof.Proof.Odd.Array
public import proofs.«01_k».proof.Proof.Odd.Reference

@[expose] public section

set_option maxRecDepth 16384

noncomputable section

namespace Cert.Odd

open Idealize.ShloMosaic
open Cert.Kernel5Ideal (S8x2304x1024 S8x6x1024 S4x1024 S2x1024x1024)

/-- The kernel's result is the reference's, whatever the rows, modulation, gains and weights. -/
theorem KER_eq (X : FVec Ideal S8x2304x1024 .f32) (M : FVec Ideal S8x6x1024 .f32) (G : FVec Ideal S4x1024 .f32) (W : FVec Ideal S2x1024x1024 .f32) :
    Cert.Kernel5Ideal.Value.KER X M G W = Cert.Reference5Ideal.Value.REF X M G W := by
  funext j
  idx_vars j
  exact (Cert.Reference5Ideal.Value.REF_at X M G W j0 j1 j2).symm

end Cert.Odd

end
-- ==== Proof.Outproj.Spec.lean ====
/- The output projection's mathematics on plain functions: a head's norm and gate, and the product with the weights in its parts. -/
module

public import proofs.«01_k».proof.Proof.Inproj.Spec

@[expose] public section

set_option maxRecDepth 16384

noncomputable section

namespace Cert.Outproj

open Idealize.ShloMosaic

/-- A head divided by its root mean square, scaled by a gain, and gated by the logistic of an output gate. -/
def headGate (a g o : Fin 128 → EReal) (f : Fin 128) : EReal :=
  a f * Ideal.rsqrt (Ideal.div (∑ k : Fin 128, a k * a k) (Ideal.ofBits FTy.f32 1124073472#32) + Ideal.ofBits FTy.f32 897988541#32) * g f * Ideal.div 1 (1 + Ideal.exp (-o f))

/-- The lanes of the head that begins at an offset. -/
def lanes (a : Fin 512 → EReal) (o : ℕ) (h : o + 128 ≤ 512) (f : Fin 128) : EReal := a ⟨o + f.val, by omega⟩

/-- The gated head that begins at an offset, times its rows of a weight column. -/
def headSum (a g o : Fin 512 → EReal) (w : Fin 1024 → EReal) (n : ℕ) (h : n + 128 ≤ 512) : EReal :=
  ∑ f : Fin 128, headGate (lanes a n h) (lanes g n h) (lanes o n h) f * w ⟨512 + n + f.val, by omega⟩

/-- A row's product with a weight column: the attention's lanes, then the four gated heads. -/
def mixed (x a g o : Fin 512 → EReal) (w : Fin 1024 → EReal) : EReal :=
  ∑ d : Fin 512, x d * w ⟨d.val, by omega⟩ + headSum a g o w 0 (by omega) + headSum a g o w 128 (by omega) + headSum a g o w 256 (by omega) + headSum a g o w 384 (by omega)

/-- The product depends on its entries alone. -/
theorem mixed_congr {x x' a a' g g' o o' : Fin 512 → EReal} {w w' : Fin 1024 → EReal} (hx : ∀ d, x d = x' d) (ha : ∀ d, a d = a' d) (hg : ∀ d, g d = g' d) (ho : ∀ d, o d = o' d) (hw : ∀ d, w d = w' d) :
    mixed x a g o w = mixed x' a' g' o' w' := by
  rw [funext hx, funext ha, funext hg, funext ho, funext hw]

/-- A lane of the gated row. -/
def gatedRow (a g o : Fin 512 → EReal) (l : Fin 512) : EReal :=
  headGate (lanes a (l.val / 128 * 128) (by omega)) (lanes g (l.val / 128 * 128) (by omega)) (lanes o (l.val / 128 * 128) (by omega)) ⟨l.val % 128, by omega⟩

/-- A gated row's lane, found by its head's offset and its lane in the head. -/
theorem gatedRow_at (a g o : Fin 512 → EReal) (n : ℕ) (h : n + 128 ≤ 512) (hn : n % 128 = 0) (f : Fin 128) :
    gatedRow a g o ⟨n + f.val, by omega⟩ = headGate (lanes a n h) (lanes g n h) (lanes o n h) f := by
  have e : (n + f.val) / 128 * 128 = n := by omega
  have e' : (n + f.val) % 128 = f.val := by omega
  have hl (b : Fin 512 → EReal) (h' : (n + f.val) / 128 * 128 + 128 ≤ 512) : lanes b ((n + f.val) / 128 * 128) h' = lanes b n h := by
    funext k
    exact congrArg b (Fin.ext (congrArg (· + k.val) e))
  unfold gatedRow
  rw [hl, hl, hl]
  exact congrArg _ (Fin.ext e')

/-- A sum over 512 lanes is the sum of its four quarters. -/
theorem sum_quarters (p : Fin 512 → EReal) :
    ∑ d, p d = ∑ k : Fin 128, p ⟨0 + k.val, by omega⟩ + ∑ k : Fin 128, p ⟨128 + k.val, by omega⟩ + ∑ k : Fin 128, p ⟨256 + k.val, by omega⟩ + ∑ k : Fin 128, p ⟨384 + k.val, by omega⟩ := by
  have e4 : ∑ d, p d = ∑ k : Fin 384, p ⟨k.val, by omega⟩ + ∑ k : Fin 128, p ⟨384 + k.val, by omega⟩ := Fin.sum_univ_add (a := 384) (b := 128) p
  have e3 : ∑ k : Fin 384, p ⟨k.val, by omega⟩ = ∑ k : Fin 256, p ⟨k.val, by omega⟩ + ∑ k : Fin 128, p ⟨256 + k.val, by omega⟩ := Fin.sum_univ_add (a := 256) (b := 128) fun k : Fin 384 => p ⟨k.val, by omega⟩
  have e2 : ∑ k : Fin 256, p ⟨k.val, by omega⟩ = ∑ k : Fin 128, p ⟨k.val, by omega⟩ + ∑ k : Fin 128, p ⟨128 + k.val, by omega⟩ := Fin.sum_univ_add (a := 128) (b := 128) fun k : Fin 256 => p ⟨k.val, by omega⟩
  have e1 : ∑ k : Fin 128, p ⟨0 + k.val, by omega⟩ = ∑ k : Fin 128, p ⟨k.val, by omega⟩ := Finset.sum_congr rfl fun k _ => congrArg p (Fin.ext (Nat.zero_add _))
  rw [e4, e3, e2, e1]

/-- The product in its parts is the product of the whole row, attention's lanes before gated lanes. -/
theorem mixed_eq (x a g o : Fin 512 → EReal) (w : Fin 1024 → EReal) :
    mixed x a g o w = ∑ d : Fin 1024, (if h : d.val < 512 then x ⟨d.val, h⟩ else gatedRow a g o ⟨d.val - 512, by omega⟩) * w d := by
  have e : ∑ d : Fin 1024, (if h : d.val < 512 then x ⟨d.val, h⟩ else gatedRow a g o ⟨d.val - 512, by omega⟩) * w d
      = ∑ d : Fin 512, x d * w ⟨d.val, by omega⟩ + ∑ d : Fin 512, gatedRow a g o d * w ⟨512 + d.val, by omega⟩ := by
    refine (Fin.sum_univ_add (a := 512) (b := 512) fun d : Fin 1024 => (if h : d.val < 512 then x ⟨d.val, h⟩ else gatedRow a g o ⟨d.val - 512, by omega⟩) * w d).trans ?_
    refine congrArg₂ (· + ·) (Finset.sum_congr rfl fun d _ => ?_) (Finset.sum_congr rfl fun d _ => ?_)
    · exact congrArg (· * w ⟨d.val, by omega⟩) (dif_pos (show d.val < 512 from d.isLt))
    · refine congrArg (· * w ⟨512 + d.val, by omega⟩) ((dif_neg (show ¬ 512 + d.val < 512 by omega)).trans (congrArg _ (Fin.ext ?_)))
      show 512 + d.val - 512 = d.val
      omega
  have q (n : ℕ) (h : n + 128 ≤ 512) (hn : n % 128 = 0) : ∑ k : Fin 128, gatedRow a g o ⟨n + k.val, by omega⟩ * w ⟨512 + (n + k.val), by omega⟩ = headSum a g o w n h :=
    Finset.sum_congr rfl fun k _ => congrArg₂ (· * ·) (gatedRow_at a g o n h hn k) (congrArg w (Fin.ext (Nat.add_assoc _ _ _).symm))
  rw [e, sum_quarters fun d => gatedRow a g o d * w ⟨512 + d.val, by omega⟩, q 0 (by omega) (by omega), q 128 (by omega) (by omega), q 256 (by omega) (by omega), q 384 (by omega) (by omega), ← add_assoc, ← add_assoc, ← add_assoc]
  rfl

end Cert.Outproj

end
-- ==== Proof.Outproj.Body.lean ====
/- What one grid point of the output projection stores: its rows plus their gated product with the weights. -/
module

public import proofs.«01_k».proof.Proof.Gen.Kernel6Ideal.Value
public import proofs.«01_k».proof.Proof.Outproj.Spec
public import Idealize.ShloMosaic.Lib.Pipeline.ValueKit

@[expose] public section

set_option maxRecDepth 16384

noncomputable section

namespace Cert.Kernel6Ideal.Value

open Idealize.ShloMosaic Idealize.ShloMosaic.TcCoe Idealize.SL.Sem
open Idealize.ShloMosaic.Pipeline (Dat)
open Cert.Kernel6Ideal Cert.Kernel6Ideal.Gen
open Cert.Outproj

/-- The two scans' sum, with rows and columns exchanged. -/
theorem scans_at (a b : Vec Ideal S1x512x256 .bf16) (r : Fin 256) (l : Fin 512) : k0_pay2 a b (ix2 r l) = a (ix3 0 l r) + b (ix3 0 l r) := by
  pointwise [k0_pay2]

/-- The output gate's rows. -/
theorem gate_at (o : Vec Ideal S1x256x512 .bf16) (r : Fin 256) (l : Fin 512) : k0_pay3 o (ix2 r l) = o (ix3 0 r l) := by
  pointwise [k0_pay3]

/-- The gain's row. -/
theorem gain_at (g : Vec Ideal S1x512 .f32) (z : Fin 1) (l : Fin 512) : k0_pay4 g (ix2 z l) = g (ix2 0 l) := by
  obtain rfl : z = 0 := Subsingleton.elim _ _
  pointwise [k0_pay4]

/-- The attention's rows times their part of the weights. -/
theorem attn_at (a : Vec Ideal S1x256x512 .bf16) (w : Vec Ideal S512x1024 .bf16) (r : Fin 256) (l : Fin 1024) :
    k0_pay5 a w (ix2 r l) = ∑ d : Fin 512, a (ix3 0 r d) * w (ix2 d l) := by
  pointwise [k0_pay5]

/-- The first head, gated. -/
theorem first_at (a b : Vec Ideal S1x512x256 .bf16) (o : Vec Ideal S1x256x512 .bf16) (g : Vec Ideal S1x512 .f32) (r : Fin 256) (f : Fin 128) :
    k0_pay6 a b o g (ix2 r f) = headGate (lanes (fun l => k0_pay2 a b (ix2 r l)) 0 (by omega)) (lanes (fun l => k0_pay4 g (ix2 0 l)) 0 (by omega)) (lanes (fun l => k0_pay3 o (ix2 r l)) 0 (by omega)) f := by
  unfold k0_pay6
  generalize k0_pay2 a b = A
  generalize k0_pay4 g = G
  generalize k0_pay3 o = O
  pointwise [headGate, lanes]
  rfl

/-- The attention's part and the first two heads' parts, summed. -/
theorem second_at (A O : FVec Ideal S256x512 .f32) (G : FVec Ideal S1x512 .f32) (p : FVec Ideal S256x1024 .f32) (z : FVec Ideal S256x128 .bf16) (w w' : Vec Ideal S128x1024 .bf16) (r : Fin 256) (l : Fin 1024) :
    k0_pay7 A O G p z w w' (ix2 r l) = p (ix2 r l) + ∑ f : Fin 128, z (ix2 r f) * w (ix2 f l)
      + ∑ f : Fin 128, headGate (lanes (fun l => A (ix2 r l)) 128 (by omega)) (lanes (fun l => G (ix2 0 l)) 128 (by omega)) (lanes (fun l => O (ix2 r l)) 128 (by omega)) f * w' (ix2 f l) := by
  pointwise [k0_pay7, headGate, lanes]
  rfl

/-- The third head's part. -/
theorem third_at (A O : FVec Ideal S256x512 .f32) (G : FVec Ideal S1x512 .f32) (w : Vec Ideal S128x1024 .bf16) (r : Fin 256) (l : Fin 1024) :
    k0_pay8 A O G w (ix2 r l) = ∑ f : Fin 128, headGate (lanes (fun l => A (ix2 r l)) 256 (by omega)) (lanes (fun l => G (ix2 0 l)) 256 (by omega)) (lanes (fun l => O (ix2 r l)) 256 (by omega)) f * w (ix2 f l) := by
  pointwise [k0_pay8, headGate, lanes]
  rfl

/-- The stored rows, from the sums before the last head. -/
theorem last_at (A O : FVec Ideal S256x512 .f32) (G : FVec Ideal S1x512 .f32) (p q : FVec Ideal S256x1024 .f32) (w : Vec Ideal S128x1024 .bf16) (x : Vec Ideal S1x256x1024 .f32) (md : Vec Ideal S1x1x6x1024 .f32) (y : Fin 1) (r : Fin 256) (l : Fin 1024) :
    k0_pay1 A O G p q w x md (ix3 y r l) = x (ix3 0 r l) + md (ix4 0 0 2 l) * (p (ix2 r l) + q (ix2 r l)
      + ∑ f : Fin 128, headGate (lanes (fun l => A (ix2 r l)) 384 (by omega)) (lanes (fun l => G (ix2 0 l)) 384 (by omega)) (lanes (fun l => O (ix2 r l)) 384 (by omega)) f * w (ix2 f l)) := by
  pointwise [k0_pay1, headGate, lanes]
  rfl

end Cert.Kernel6Ideal.Value

end
-- ==== Proof.Outproj.Stored.lean ====
/- The block one grid point of the output projection stores, from the blocks it reads. -/
module

public import proofs.«01_k».proof.Proof.Outproj.Body

@[expose] public section

set_option maxRecDepth 16384

noncomputable section

namespace Cert.Kernel6Ideal.Value

open Idealize.ShloMosaic Idealize.ShloMosaic.TcCoe Idealize.SL.Sem
open Idealize.ShloMosaic.Pipeline (Dat)
open Cert.Kernel6Ideal Cert.Kernel6Ideal.Gen
open Cert.Outproj

/-- A weight of the rows that the attention's lanes multiply. -/
theorem ld_attn (w : Vec Ideal S1024x1024 .bf16) (d : Fin 512) (l : Fin 1024) : View.ld w r0_3 (ix2 d l) = w (ix2 ⟨d.val, by omega⟩ l) := by
  pointwise

/-- A weight of the rows that the first head multiplies. -/
theorem ld_first (w : Vec Ideal S1024x1024 .bf16) (f : Fin 128) (l : Fin 1024) : View.ld w r0_4 (ix2 f l) = w (ix2 ⟨512 + 0 + f.val, by omega⟩ l) := by
  pointwise

/-- A weight of the rows that the second head multiplies. -/
theorem ld_second (w : Vec Ideal S1024x1024 .bf16) (f : Fin 128) (l : Fin 1024) : View.ld w r0_5 (ix2 f l) = w (ix2 ⟨512 + 128 + f.val, by omega⟩ l) := by
  pointwise

/-- A weight of the rows that the third head multiplies. -/
theorem ld_third (w : Vec Ideal S1024x1024 .bf16) (f : Fin 128) (l : Fin 1024) : View.ld w r0_6 (ix2 f l) = w (ix2 ⟨512 + 256 + f.val, by omega⟩ l) := by
  pointwise

/-- A weight of the rows that the last head multiplies. -/
theorem ld_last (w : Vec Ideal S1024x1024 .bf16) (f : Fin 128) (l : Fin 1024) : View.ld w r0_7 (ix2 f l) = w (ix2 ⟨512 + 384 + f.val, by omega⟩ l) := by
  pointwise

/-- The stored block: a row plus its modulation times the row's product with the weights. -/
theorem stored_at (x : Vec Ideal S1x256x1024 .f32) (md : Vec Ideal S1x1x6x1024 .f32) (oa : Vec Ideal S1x256x512 .bf16) (a b : Vec Ideal S1x512x256 .bf16) (o : Vec Ideal S1x256x512 .bf16)
    (g : Vec Ideal S1x512 .f32) (w : Vec Ideal S1024x1024 .bf16) (z : Fin 1) (r : Fin 256) (l : Fin 1024) :
    out0_8 x md oa a b o g w (ix3 z r l) = x (ix3 0 r l) + md (ix4 0 0 2 l)
      * mixed (fun d => oa (ix3 0 r d)) (fun l => a (ix3 0 l r) + b (ix3 0 l r)) (fun l => g (ix2 0 l)) (fun l => o (ix3 0 r l)) (fun d => w (ix2 d l)) := by
  unfold_out out0_8
  frame_out
  refine (last_at _ _ _ _ _ _ _ _ z r l).trans ?_
  simp only [second_at, third_at, attn_at, first_at, scans_at, gate_at, gain_at]
  unfold mixed headSum
  refine congrArg (x (ix3 0 r l) + md (ix4 0 0 2 l) * ·) (congrArg₂ (· + ·) (congrArg₂ (· + ·) (congrArg₂ (· + ·) (congrArg₂ (· + ·) ?_ ?_) ?_) ?_) ?_)
  · exact Finset.sum_congr rfl fun d _ => congrArg _ (ld_attn w d l)
  · exact Finset.sum_congr rfl fun f _ => congrArg _ (ld_first w f l)
  · exact Finset.sum_congr rfl fun f _ => congrArg _ (ld_second w f l)
  · exact Finset.sum_congr rfl fun f _ => congrArg _ (ld_third w f l)
  · exact Finset.sum_congr rfl fun f _ => congrArg _ (ld_last w f l)

end Cert.Kernel6Ideal.Value

end
-- ==== Proof.Outproj.Array.lean ====
/- What the output projection leaves in its result array. -/
module

public import proofs.«01_k».proof.Proof.Outproj.Stored

@[expose] public section

set_option maxRecDepth 16384

noncomputable section

namespace Cert.Kernel6Ideal.Value

open Idealize.ShloMosaic Idealize.ShloMosaic.TcCoe Idealize.SL.Sem
open Idealize.ShloMosaic.Pipeline (Dat)
open Cert.Kernel6Ideal Cert.Kernel6Ideal.Gen
open Cert.Outproj Cert.Inproj

variable (m : (ℓ : Loc nD τ sig) → Buf (Elt Ideal) ℓ)

/-- The latents. -/
abbrev argX (c : Dev nD) : FVec Ideal S8x2048x1024 .f32 := m (c.tc.loc main_arg0)

/-- The context. -/
abbrev argCX (c : Dev nD) : FVec Ideal S8x256x1024 .f32 := m (c.tc.loc main_arg1)

/-- The latents' modulation. -/
abbrev argM (c : Dev nD) : FVec Ideal S8x6x1024 .f32 := m (c.tc.loc main_arg2)

/-- The context's modulation. -/
abbrev argMC (c : Dev nD) : FVec Ideal S6x1024 .f32 := m (c.tc.loc main_arg3)

/-- The attention's rows. -/
abbrev argOA (c : Dev nD) : FVec Ideal S8x2304x512 .bf16 := m (c.tc.loc main_arg4)

/-- The first scan. -/
abbrev argA (c : Dev nD) : FVec Ideal S8x512x2304 .bf16 := m (c.tc.loc main_arg5)

/-- The second scan. -/
abbrev argB (c : Dev nD) : FVec Ideal S8x512x2304 .bf16 := m (c.tc.loc main_arg6)

/-- The output gate. -/
abbrev argO (c : Dev nD) : FVec Ideal S8x2304x512 .bf16 := m (c.tc.loc main_arg7)

/-- The layers' head gains. -/
abbrev argG (c : Dev nD) : FVec Ideal S2x512 .f32 := m (c.tc.loc main_arg8)

/-- The layers' weights. -/
abbrev argW (c : Dev nD) : FVec Ideal S2x1024x1024 .f32 := m (c.tc.loc main_arg9)

/-- The sequence as the kernel is handed it: the latents, then the context. -/
def seqX (a : FVec Ideal S8x2048x1024 .f32) (b : FVec Ideal S8x256x1024 .f32) : FVec Ideal S8x2304x1024 .f32 :=
  concatenate S8x2304x1024 1 [⟨S8x2048x1024, a⟩, ⟨S8x256x1024, b⟩] concatenates_S8x2048x1024_S8x256x1024_S8x2304x1024_d1

/-- The modulations as the kernel is handed them: the latents' beside the context's. -/
def bothM (a : FVec Ideal S8x6x1024 .f32) (b : FVec Ideal S6x1024 .f32) : FVec Ideal S8x2x6x1024 .f32 :=
  concatenate S8x2x6x1024 1 [⟨S8x1x6x1024, broadcastInDim S8x1x6x1024 ![0, 2, 3] bcast_S8x6x1024_S8x1x6x1024_0_2_3 a⟩,
    ⟨S8x1x6x1024, broadcastInDim S8x1x6x1024 ![0, 1, 2, 3] bcast_S1x1x6x1024_S8x1x6x1024_0_1_2_3 (broadcastInDim S1x1x6x1024 ![2, 3] bcast_S6x1024_S1x1x6x1024_2_3 b)⟩]
    concatenates_S8x1x6x1024_S8x1x6x1024_S8x2x6x1024_d1

/-- The first layer's head gain as the kernel is handed it. -/
def rowG (g : FVec Ideal S2x512 .f32) : FVec Ideal S1x512 .f32 :=
  broadcastInDim S1x512 ![1] bcast_S512_S1x512_1 (shapeCast S512 (extractStridedSlice S1x512 ![0, 0] g slices_S2x512_S1x512_0_0 : FVec Ideal S1x512 .f32) shapeCasts_S1x512_S512 : FVec Ideal S512 .f32)

/-- The first layer's weights as the kernel is handed them. -/
def firstW (w : FVec Ideal S2x1024x1024 .f32) : FVec Ideal S1024x1024 .bf16 :=
  truncf .bf16 (shapeCast S1024x1024 (extractStridedSlice S1x1024x1024 ![0, 0, 0] w slices_S2x1024x1024_S1x1024x1024_0_0_0 : FVec Ideal S1x1024x1024 .f32) shapeCasts_S1x1024x1024_S1024x1024 : FVec Ideal S1024x1024 .f32) bitsLt_bf16_f32

/-- The sequence at a lane. -/
theorem seqX_at (a : FVec Ideal S8x2048x1024 .f32) (b : FVec Ideal S8x256x1024 .f32) (i : Fin 8) (t : Fin 2304) (d : Fin 1024) :
    seqX a b (ix3 i t d) = rowX (fun i t d => a (ix3 i t d)) (fun i t d => b (ix3 i t d)) i t d := by
  unfold rowX
  pointwise [seqX]

/-- The latents' modulation at a lane. -/
theorem bothM_lat (a : FVec Ideal S8x6x1024 .f32) (s : FVec Ideal S6x1024 .f32) (b : Fin 8) (k : Fin 6) (l : Fin 1024) : bothM a s (ix4 b 0 k l) = a (ix3 b k l) := by
  pointwise [bothM]

/-- The context's modulation at a lane. -/
theorem bothM_ctx (a : FVec Ideal S8x6x1024 .f32) (s : FVec Ideal S6x1024 .f32) (b : Fin 8) (k : Fin 6) (l : Fin 1024) : bothM a s (ix4 b 1 k l) = s (ix2 k l) := by
  pointwise [bothM]

/-- The gain at a lane. -/
theorem rowG_at (g : FVec Ideal S2x512 .f32) (z : Fin 1) (l : Fin 512) : rowG g (ix2 z l) = g (ix2 0 l) := by
  obtain rfl : z = 0 := Subsingleton.elim _ _
  pointwise [rowG]

/-- A weight. -/
theorem firstW_at (w : FVec Ideal S2x1024x1024 .f32) (d j : Fin 1024) : firstW w (ix2 d j) = w (ix3 0 d j) := by
  pointwise [firstW]

/-- The sequence at launch. -/
theorem entryX (c : Dev nD) : V m c main_v4 = seqX (argX m c) (argCX m c) := by
  unfold V
  after_results
  try rfl

/-- The modulations at launch. -/
theorem entryM (c : Dev nD) : V m c main_v3 = bothM (argM m c) (argMC m c) := by
  unfold V
  after_results
  try rfl

/-- The gain at launch. -/
theorem entryG (c : Dev nD) : V m c main_v7 = rowG (argG m c) := by
  unfold V
  after_results
  try rfl

/-- The weights at launch. -/
theorem entryW (c : Dev nD) : V m c main_v10 = firstW (argW m c) := by
  unfold V
  after_results
  try rfl

/-- The attention's rows at launch. -/
theorem entryOA (c : Dev nD) : V m c main_arg4 = argOA m c := by
  unfold V
  after_results
  try rfl

/-- The first scan at launch. -/
theorem entryA (c : Dev nD) : V m c main_arg5 = argA m c := by
  unfold V
  after_results
  try rfl

/-- The second scan at launch. -/
theorem entryB (c : Dev nD) : V m c main_arg6 = argB m c := by
  unfold V
  after_results
  try rfl

/-- The output gate at launch. -/
theorem entryO (c : Dev nD) : V m c main_arg7 = argO m c := by
  unfold V
  after_results
  try rfl

/-- The block each window reads or writes at a step. -/
theorem idx : ∀ t : Fin cfg0.N, win0_0.index t = ![t.val / 9, t.val % 9, 0] ∧ win0_2.index t = ![t.val / 9, t.val % 9, 0] ∧ win0_3.index t = ![t.val / 9, 0, t.val % 9]
    ∧ win0_4.index t = ![t.val / 9, 0, t.val % 9] ∧ win0_5.index t = ![t.val / 9, t.val % 9, 0] ∧ win0_6.index t = ![0, 0] ∧ win0_7.index t = ![0, 0]
    ∧ win0_8.index t = ![t.val / 9, t.val % 9, 0] :=
  (by decide +kernel : ∀ t : Fin grid0.N, _)

/-- A latent tile takes the latents' modulation. -/
theorem idxLat : ∀ t : Fin cfg0.N, t.val % 9 < 8 → win0_1.index t = ![t.val / 9, 0, 0, 0] :=
  (by decide +kernel : ∀ t : Fin grid0.N, _)

/-- The context tile takes the context's modulation. -/
theorem idxCtx : ∀ t : Fin cfg0.N, ¬ t.val % 9 < 8 → win0_1.index t = ![t.val / 9, 1, 0, 0] :=
  (by decide +kernel : ∀ t : Fin grid0.N, _)

/-- There are 72 steps. -/
theorem t_lt (t : Fin cfg0.N) : t.val < 72 := t.isLt

/-- The batch of a step. -/
abbrev batchOf (t : Fin cfg0.N) : Fin 8 := ⟨t.val / 9, by have := t_lt t; omega⟩

/-- A row of a step's tile in the sequence. -/
abbrev rowOf (t : Fin cfg0.N) (r : Fin 256) : Fin 2304 := ⟨t.val % 9 * 256 + r.val, by omega⟩

/-- The rows' block. -/
theorem blkX (c : Dev nD) (t : Fin cfg0.N) (z : Fin 1) (r : Fin 256) (d : Fin 1024) :
    iblk m c 0 t (ix3 z r d) = rowX (fun i t d => argX m c (ix3 i t d)) (fun i t d => argCX m c (ix3 i t d)) (batchOf t) (rowOf t r) d := by
  refine Eq.trans ?_ (seqX_at (argX m c) (argCX m c) (batchOf t) (rowOf t r) d)
  refine Eq.trans ?_ (congrFun (entryX m c) _)
  blk_ext [iblk, idx t]

/-- The modulation's block. -/
theorem blkM (c : Dev nD) (t : Fin cfg0.N) (z z' : Fin 1) (r : Fin 256) (k : Fin 6) (d : Fin 1024) :
    iblk m c 1 t (ix4 z z' k d) = rowM (fun b k d => argM m c (ix3 b k d)) (fun k d => argMC m c (ix2 k d)) (batchOf t) (rowOf t r) k d := by
  unfold rowM
  by_cases h : t.val % 9 < 8
  · rw [if_pos (by show t.val % 9 * 256 + r.val < 2048; omega)]
    refine Eq.trans ?_ (bothM_lat (argM m c) (argMC m c) (batchOf t) k d)
    refine Eq.trans ?_ (congrFun (entryM m c) _)
    blk_ext [iblk, idxLat t h]
  · rw [if_neg (by show ¬ t.val % 9 * 256 + r.val < 2048; omega)]
    refine Eq.trans ?_ (bothM_ctx (argM m c) (argMC m c) (batchOf t) k d)
    refine Eq.trans ?_ (congrFun (entryM m c) _)
    blk_ext [iblk, idxCtx t h]

/-- The attention's block. -/
theorem blkOA (c : Dev nD) (t : Fin cfg0.N) (z : Fin 1) (r : Fin 256) (d : Fin 512) : iblk m c 2 t (ix3 z r d) = argOA m c (ix3 (batchOf t) (rowOf t r) d) := by
  refine Eq.trans ?_ (congrFun (entryOA m c) _)
  blk_ext [iblk, idx t]

/-- The first scan's block. -/
theorem blkA (c : Dev nD) (t : Fin cfg0.N) (z : Fin 1) (d : Fin 512) (r : Fin 256) : iblk m c 3 t (ix3 z d r) = argA m c (ix3 (batchOf t) d (rowOf t r)) := by
  refine Eq.trans ?_ (congrFun (entryA m c) _)
  blk_ext [iblk, idx t]

/-- The second scan's block. -/
theorem blkB (c : Dev nD) (t : Fin cfg0.N) (z : Fin 1) (d : Fin 512) (r : Fin 256) : iblk m c 4 t (ix3 z d r) = argB m c (ix3 (batchOf t) d (rowOf t r)) := by
  refine Eq.trans ?_ (congrFun (entryB m c) _)
  blk_ext [iblk, idx t]

/-- The output gate's block. -/
theorem blkO (c : Dev nD) (t : Fin cfg0.N) (z : Fin 1) (r : Fin 256) (d : Fin 512) : iblk m c 5 t (ix3 z r d) = argO m c (ix3 (batchOf t) (rowOf t r) d) := by
  refine Eq.trans ?_ (congrFun (entryO m c) _)
  blk_ext [iblk, idx t]

/-- The gain's block. -/
theorem blkG (c : Dev nD) (t : Fin cfg0.N) (z : Fin 1) (d : Fin 512) : iblk m c 6 t (ix2 z d) = argG m c (ix2 0 d) := by
  refine Eq.trans ?_ (rowG_at (argG m c) z d)
  refine Eq.trans ?_ (congrFun (entryG m c) _)
  blk_ext [iblk, idx t]

/-- The weights' block. -/
theorem blkW (c : Dev nD) (t : Fin cfg0.N) (d j : Fin 1024) : iblk m c 7 t (ix2 d j) = argW m c (ix3 0 d j) := by
  refine Eq.trans ?_ (firstW_at (argW m c) d j)
  refine Eq.trans ?_ (congrFun (entryW m c) _)
  blk_ext [iblk, idx t]

/-- The kernel's result over the arguments' arrays. -/
def KER (X : FVec Ideal S8x2048x1024 .f32) (CX : FVec Ideal S8x256x1024 .f32) (M : FVec Ideal S8x6x1024 .f32) (MC : FVec Ideal S6x1024 .f32)
    (OA : FVec Ideal S8x2304x512 .bf16) (A B : FVec Ideal S8x512x2304 .bf16) (O : FVec Ideal S8x2304x512 .bf16) (G : FVec Ideal S2x512 .f32) (W : FVec Ideal S2x1024x1024 .f32) : FVec Ideal S8x2304x1024 .f32 := fun i =>
  rowX (fun b t d => X (ix3 b t d)) (fun b t d => CX (ix3 b t d)) (i 0) (i 1) (i 2) + rowM (fun b k d => M (ix3 b k d)) (fun k d => MC (ix2 k d)) (i 0) (i 1) 2 (i 2)
    * mixed (fun d => OA (ix3 (i 0) (i 1) d)) (fun l => A (ix3 (i 0) l (i 1)) + B (ix3 (i 0) l (i 1))) (fun l => G (ix2 0 l)) (fun l => O (ix3 (i 0) (i 1) l)) (fun d => W (ix3 0 d (i 2)))

/-- A step's block is its block of the result. -/
theorem point (c : Dev nD) (t : Fin cfg0.N) (z : Fin 1) (r : Fin 256) (l : Fin 1024) :
    out0_8 (iblk m c 0 t) (iblk m c 1 t) (iblk m c 2 t) (iblk m c 3 t) (iblk m c 4 t) (iblk m c 5 t) (iblk m c 6 t) (iblk m c 7 t) (ix3 z r l)
      = KER (argX m c) (argCX m c) (argM m c) (argMC m c) (argOA m c) (argA m c) (argB m c) (argO m c) (argG m c) (argW m c) (ix3 (batchOf t) (rowOf t r) l) := by
  refine (stored_at _ _ _ _ _ _ _ _ z r l).trans ?_
  exact congrArg₂ (fun p q : EReal => p + q) (blkX m c t 0 r l) (congrArg₂ (fun p q : EReal => p * q) (blkM m c t 0 0 r 2 l)
    (mixed_congr (blkOA m c t 0 r) (fun d => congrArg₂ (fun p q : EReal => p + q) (blkA m c t 0 d r) (blkB m c t 0 d r)) (blkG m c t 0) (blkO m c t 0 r) (fun d => blkW m c t d l)))

/-- The result array after the run. -/
theorem final (c : Dev nD) : (dats m 0 c).arrAt 8 cfg0.N
    = KER (argX m c) (argCX m c) (argM m c) (argMC m c) (argOA m c) (argA m c) (argB m c) (argO m c) (argG m c) (argW m c) := by
  refine (dats m 0 c).arrAt_eq_of_covers 8 _ (by decide +kernel) fun t _ y => ?_
  blk_simp
  rw [after0_8]
  idx_vars y
  refine (point m c t _ _ _).trans (congrArg _ ?_)
  blk_ext [idx t]

end Cert.Kernel6Ideal.Value

end
-- ==== Proof.Outproj.Reference.lean ====
/- What the output projection's reference computes, read at an index. -/
module

public import proofs.«01_k».proof.Proof.Gen.Reference6Ideal
public import proofs.«01_k».proof.Proof.Outproj.Spec

@[expose] public section

set_option maxRecDepth 16384

noncomputable section

namespace Cert.Reference6Ideal.Outproj

open Idealize.ShloMosaic Idealize.ShloMosaic.TcCoe Idealize.SL.Sem
open Cert.Reference6Ideal Cert.Reference6Ideal.Gen
open Cert.Outproj Cert.Inproj

/-- The two scans' sum, split into heads. -/
def heads (A B : FVec Ideal S8x512x2304 .bf16) : FVec Ideal S8x2304x4x128 .f32 :=
  shapeCast _ (transpose S8x2304x512 [0, 2, 1] (addf (extf .f32 A bitsLt_bf16_f32) (extf .f32 B bitsLt_bf16_f32)) transposes_S8x512x2304_S8x2304x512_0_2_1 : FVec Ideal S8x2304x512 .f32) shapeCasts_S8x2304x512_S8x2304x4x128

/-- The layer's gain, split into heads. -/
def gains (G : FVec Ideal S2x512 .f32) : FVec Ideal S4x128 .f32 :=
  shapeCast _ (shapeCast _ (extractStridedSlice S1x512 ![0, 0] G slices_S2x512_S1x512_0_0 : FVec Ideal S1x512 .f32) shapeCasts_S1x512_S512 : FVec Ideal S512 .f32) shapeCasts_S512_S4x128

/-- Heads, each divided by its root mean square and scaled by its gain, joined again. -/
def normed (A : FVec Ideal S8x2304x4x128 .f32) (G : FVec Ideal S4x128 .f32) : FVec Ideal S8x2304x512 .f32 :=
  shapeCast _ (mulf (mulf A (broadcastInDim S8x2304x4x128 ![0, 1, 2, 3] bcast_S8x2304x4x1_S8x2304x4x128_0_1_2_3 (Host.rsqrt (addf (Host.divf (broadcastInDim S8x2304x4x1 ![0, 1, 2] bcast_S8x2304x4_S8x2304x4x1_0_1_2
      (Host.reduceAdd (mulf A A) (constant S_ .f32 0x00000000#32) reducesTo_S8x2304x4x128_S8x2304x4_d3 h_S_)) (broadcastInDim S8x2304x4x1 ![] bcast_S_S8x2304x4x1 (constant S_ .f32 0x43000000#32)))
      (broadcastInDim S8x2304x4x1 ![] bcast_S_S8x2304x4x1 (constant S_ .f32 0x358637BD#32))))))
      (broadcastInDim S8x2304x4x128 ![0, 1, 2, 3] bcast_S1x1x4x128_S8x2304x4x128_0_1_2_3 (broadcastInDim S1x1x4x128 ![2, 3] bcast_S4x128_S1x1x4x128_2_3 G)) : FVec Ideal S8x2304x4x128 .f32) shapeCasts_S8x2304x4x128_S8x2304x512

/-- The logistic of the output gate. -/
def opened (O : FVec Ideal S8x2304x512 .bf16) : FVec Ideal S8x2304x512 .f32 :=
  Host.divf (broadcastInDim S8x2304x512 ![] bcast_S_S8x2304x512 (constant S_ .f32 0x3F800000#32))
    (addf (broadcastInDim S8x2304x512 ![] bcast_S_S8x2304x512 (constant S_ .f32 0x3F800000#32)) (Host.exp (Host.negf (extf .f32 O bitsLt_bf16_f32))))

/-- The attention's lanes, then the gated heads' lanes. -/
def joined (X : FVec Ideal S8x2304x512 .bf16) (N O : FVec Ideal S8x2304x512 .f32) : FVec Ideal S8x2304x1024 .f32 :=
  concatenate S8x2304x1024 2 [⟨S8x2304x512, extf .f32 X bitsLt_bf16_f32⟩, ⟨S8x2304x512, mulf N O⟩] concatenates_S8x2304x512_S8x2304x512_S8x2304x1024_d2

/-- The layer's weights. -/
def weights (W : FVec Ideal S2x1024x1024 .f32) : FVec Ideal S1024x1024 .f32 :=
  shapeCast _ (extractStridedSlice S1x1024x1024 ![0, 0, 0] W slices_S2x1024x1024_S1x1024x1024_0_0_0 : FVec Ideal S1x1024x1024 .f32) shapeCasts_S1x1024x1024_S1024x1024

/-- Rows times weights. -/
def times (A : FVec Ideal S8x2304x1024 .f32) (W : FVec Ideal S1024x1024 .f32) : FVec Ideal S8x2304x1024 .f32 :=
  Host.dotGeneral dot_S8x2304x1024_S1024x1024_S8x2304x1024_2_0_01_1_n_n none A W

/-- The latents plus their modulated rows. -/
def latents (X : FVec Ideal S8x2048x1024 .f32) (M : FVec Ideal S8x6x1024 .f32) (Y : FVec Ideal S8x2304x1024 .f32) : FVec Ideal S8x2048x1024 .f32 :=
  addf X (mulf (broadcastInDim S8x2048x1024 ![0, 1, 2] bcast_S8x1x1024_S8x2048x1024_0_1_2 (broadcastInDim S8x1x1024 ![0, 2] bcast_S8x1024_S8x1x1024_0_2
    (shapeCast _ (extractStridedSlice S8x1x1024 ![0, 2, 0] M slices_S8x6x1024_S8x1x1024_0_2_0 : FVec Ideal S8x1x1024 .f32) shapeCasts_S8x1x1024_S8x1024 : FVec Ideal S8x1024 .f32)))
    (extractStridedSlice S8x2048x1024 ![0, 0, 0] Y slices_S8x2304x1024_S8x2048x1024_0_0_0))

/-- The context plus its modulated rows. -/
def context (X : FVec Ideal S8x256x1024 .f32) (M : FVec Ideal S6x1024 .f32) (Y : FVec Ideal S8x2304x1024 .f32) : FVec Ideal S8x256x1024 .f32 :=
  addf X (mulf (broadcastInDim S8x256x1024 ![0, 1, 2] bcast_S1x1x1024_S8x256x1024_0_1_2 (broadcastInDim S1x1x1024 ![2] bcast_S1024_S1x1x1024_2
    (shapeCast _ (extractStridedSlice S1x1024 ![2, 0] M slices_S6x1024_S1x1024_2_0 : FVec Ideal S1x1024 .f32) shapeCasts_S1x1024_S1024 : FVec Ideal S1024 .f32)))
    (extractStridedSlice S8x256x1024 ![0, 2048, 0] Y slices_S8x2304x1024_S8x256x1024_0_2048_0))

/-- The sequence: the latents, then the context. -/
def sequence (A : FVec Ideal S8x2048x1024 .f32) (B : FVec Ideal S8x256x1024 .f32) : FVec Ideal S8x2304x1024 .f32 :=
  concatenate S8x2304x1024 1 [⟨S8x2048x1024, A⟩, ⟨S8x256x1024, B⟩] concatenates_S8x2048x1024_S8x256x1024_S8x2304x1024_d1

/-- The rows' product with the weights. -/
def product (OA : FVec Ideal S8x2304x512 .bf16) (A B : FVec Ideal S8x512x2304 .bf16) (O : FVec Ideal S8x2304x512 .bf16) (G : FVec Ideal S2x512 .f32) (W : FVec Ideal S2x1024x1024 .f32) : FVec Ideal S8x2304x1024 .f32 :=
  times (joined OA (normed (heads A B) (gains G)) (opened O)) (weights W)

/-- The reference's result. -/
def REF (X : FVec Ideal S8x2048x1024 .f32) (CX : FVec Ideal S8x256x1024 .f32) (M : FVec Ideal S8x6x1024 .f32) (MC : FVec Ideal S6x1024 .f32)
    (OA : FVec Ideal S8x2304x512 .bf16) (A B : FVec Ideal S8x512x2304 .bf16) (O : FVec Ideal S8x2304x512 .bf16) (G : FVec Ideal S2x512 .f32) (W : FVec Ideal S2x1024x1024 .f32) : FVec Ideal S8x2304x1024 .f32 :=
  sequence (latents X M (product OA A B O G W)) (context CX MC (product OA A B O G W))

/-- A lane of a head. -/
theorem heads_at (A B : FVec Ideal S8x512x2304 .bf16) (b : Fin 8) (t : Fin 2304) (h : Fin 4) (f : Fin 128) :
    heads A B (ix4 b t h f) = A (ix3 b ⟨h.val * 128 + f.val, by omega⟩ t) + B (ix3 b ⟨h.val * 128 + f.val, by omega⟩ t) := by
  pointwise [heads]

/-- A lane of a head's gain. -/
theorem gains_at (G : FVec Ideal S2x512 .f32) (h : Fin 4) (f : Fin 128) : gains G (ix2 h f) = G (ix2 0 ⟨h.val * 128 + f.val, by omega⟩) := by
  pointwise [gains]

/-- A lane of the normalised heads. -/
theorem normed_at (A : FVec Ideal S8x2304x4x128 .f32) (G : FVec Ideal S4x128 .f32) (b : Fin 8) (t : Fin 2304) (l : Fin 512) :
    normed A G (ix3 b t l) = A (ix4 b t ⟨l.val / 128, by omega⟩ ⟨l.val % 128, by omega⟩)
      * Ideal.rsqrt (Ideal.div (∑ k : Fin 128, A (ix4 b t ⟨l.val / 128, by omega⟩ k) * A (ix4 b t ⟨l.val / 128, by omega⟩ k)) (Ideal.ofBits FTy.f32 1124073472#32) + Ideal.ofBits FTy.f32 897988541#32)
      * G (ix2 ⟨l.val / 128, by omega⟩ ⟨l.val % 128, by omega⟩) := by
  pointwise [normed]

/-- The gate at a lane. -/
theorem opened_at (O : FVec Ideal S8x2304x512 .bf16) (b : Fin 8) (t : Fin 2304) (l : Fin 512) : opened O (ix3 b t l) = Ideal.div 1 (1 + Ideal.exp (-O (ix3 b t l))) := by
  pointwise [opened]

/-- A lane of the joined rows. -/
theorem joined_at (X : FVec Ideal S8x2304x512 .bf16) (N O : FVec Ideal S8x2304x512 .f32) (b : Fin 8) (t : Fin 2304) (d : Fin 1024) :
    joined X N O (ix3 b t d) = if h : d.val < 512 then X (ix3 b t ⟨d.val, h⟩) else N (ix3 b t ⟨d.val - 512, by omega⟩) * O (ix3 b t ⟨d.val - 512, by omega⟩) := by
  pointwise [joined]

/-- A weight. -/
theorem weights_at (W : FVec Ideal S2x1024x1024 .f32) (d j : Fin 1024) : weights W (ix2 d j) = W (ix3 0 d j) := by
  pointwise [weights]

/-- An entry of rows times weights. -/
theorem times_at (A : FVec Ideal S8x2304x1024 .f32) (W : FVec Ideal S1024x1024 .f32) (b : Fin 8) (t : Fin 2304) (j : Fin 1024) :
    times A W (ix3 b t j) = ∑ d : Fin 1024, A (ix3 b t d) * W (ix2 d j) := by
  pointwise [times]

/-- A latent's entry. -/
theorem latents_at (X : FVec Ideal S8x2048x1024 .f32) (M : FVec Ideal S8x6x1024 .f32) (Y : FVec Ideal S8x2304x1024 .f32) (b : Fin 8) (t : Fin 2048) (j : Fin 1024) :
    latents X M Y (ix3 b t j) = X (ix3 b t j) + M (ix3 b 2 j) * Y (ix3 b ⟨t.val, by omega⟩ j) := by
  pointwise [latents]

/-- A context row's entry. -/
theorem context_at (X : FVec Ideal S8x256x1024 .f32) (M : FVec Ideal S6x1024 .f32) (Y : FVec Ideal S8x2304x1024 .f32) (b : Fin 8) (t : Fin 256) (j : Fin 1024) :
    context X M Y (ix3 b t j) = X (ix3 b t j) + M (ix2 2 j) * Y (ix3 b ⟨2048 + t.val, by omega⟩ j) := by
  pointwise [context]

/-- An entry of the sequence. -/
theorem sequence_at (A : FVec Ideal S8x2048x1024 .f32) (B : FVec Ideal S8x256x1024 .f32) (b : Fin 8) (t : Fin 2304) (d : Fin 1024) :
    sequence A B (ix3 b t d) = if h : t.val < 2048 then A (ix3 b ⟨t.val, h⟩ d) else B (ix3 b ⟨t.val - 2048, by omega⟩ d) := by
  pointwise [sequence]

/-- A lane of the gated heads. -/
theorem gated_at (A B : FVec Ideal S8x512x2304 .bf16) (O : FVec Ideal S8x2304x512 .bf16) (G : FVec Ideal S2x512 .f32) (b : Fin 8) (t : Fin 2304) (l : Fin 512) :
    normed (heads A B) (gains G) (ix3 b t l) * opened O (ix3 b t l)
      = gatedRow (fun l => A (ix3 b l t) + B (ix3 b l t)) (fun l => G (ix2 0 l)) (fun l => O (ix3 b t l)) l := by
  have e : (⟨l.val / 128 * 128 + l.val % 128, by omega⟩ : Fin 512) = l := Fin.ext (by show l.val / 128 * 128 + l.val % 128 = l.val; omega)
  rw [normed_at, opened_at]
  simp only [heads_at, gains_at]
  unfold gatedRow headGate lanes
  simp only [e]

/-- An entry of the product. -/
theorem product_at (OA : FVec Ideal S8x2304x512 .bf16) (A B : FVec Ideal S8x512x2304 .bf16) (O : FVec Ideal S8x2304x512 .bf16) (G : FVec Ideal S2x512 .f32) (W : FVec Ideal S2x1024x1024 .f32) (b : Fin 8) (t : Fin 2304) (j : Fin 1024) :
    product OA A B O G W (ix3 b t j) = mixed (fun d => OA (ix3 b t d)) (fun l => A (ix3 b l t) + B (ix3 b l t)) (fun l => G (ix2 0 l)) (fun l => O (ix3 b t l)) (fun d => W (ix3 0 d j)) := by
  rw [mixed_eq]
  refine (times_at _ _ b t j).trans (Finset.sum_congr rfl fun d _ => congrArg₂ (· * ·) ((joined_at _ _ _ b t d).trans ?_) (weights_at W d j))
  by_cases h : d.val < 512
  · rw [dif_pos h, dif_pos h]
  · rw [dif_neg h, dif_neg h]
    exact gated_at A B O G b t _

/-- An entry of the reference's result. -/
theorem REF_at (X : FVec Ideal S8x2048x1024 .f32) (CX : FVec Ideal S8x256x1024 .f32) (M : FVec Ideal S8x6x1024 .f32) (MC : FVec Ideal S6x1024 .f32)
    (OA : FVec Ideal S8x2304x512 .bf16) (A B : FVec Ideal S8x512x2304 .bf16) (O : FVec Ideal S8x2304x512 .bf16) (G : FVec Ideal S2x512 .f32) (W : FVec Ideal S2x1024x1024 .f32) (b : Fin 8) (t : Fin 2304) (j : Fin 1024) :
    REF X CX M MC OA A B O G W (ix3 b t j) = rowX (fun b t d => X (ix3 b t d)) (fun b t d => CX (ix3 b t d)) b t j + rowM (fun b k d => M (ix3 b k d)) (fun k d => MC (ix2 k d)) b t 2 j
      * mixed (fun d => OA (ix3 b t d)) (fun l => A (ix3 b l t) + B (ix3 b l t)) (fun l => G (ix2 0 l)) (fun l => O (ix3 b t l)) (fun d => W (ix3 0 d j)) := by
  rw [← product_at OA A B O G W b t j]
  unfold REF rowX rowM
  rw [sequence_at]
  by_cases h : t.val < 2048
  · rw [dif_pos h, dif_pos h, if_pos h, latents_at]
  · have e : (⟨2048 + (t.val - 2048), by omega⟩ : Fin 2304) = t := Fin.ext (by show 2048 + (t.val - 2048) = t.val; omega)
    rw [dif_neg h, dif_neg h, if_neg h, context_at, e]

end Cert.Reference6Ideal.Outproj

end
-- ==== Proof.Outproj.Equal.lean ====
/- The equation of the output projection: the kernel's result is the reference's. -/
module

public import proofs.«01_k».proof.Proof.Outproj.Array
public import proofs.«01_k».proof.Proof.Outproj.Reference

@[expose] public section

set_option maxRecDepth 16384

noncomputable section

namespace Cert.Outproj

open Idealize.ShloMosaic
open Cert.Kernel6Ideal (S8x2048x1024 S8x256x1024 S8x6x1024 S6x1024 S8x2304x512 S8x512x2304 S2x512 S2x1024x1024)

/-- The kernel's result is the reference's, whatever the arguments hold. -/
theorem KER_eq (X : FVec Ideal S8x2048x1024 .f32) (CX : FVec Ideal S8x256x1024 .f32) (M : FVec Ideal S8x6x1024 .f32) (MC : FVec Ideal S6x1024 .f32)
    (OA : FVec Ideal S8x2304x512 .bf16) (A B : FVec Ideal S8x512x2304 .bf16) (O : FVec Ideal S8x2304x512 .bf16) (G : FVec Ideal S2x512 .f32) (W : FVec Ideal S2x1024x1024 .f32) :
    Cert.Kernel6Ideal.Value.KER X CX M MC OA A B O G W = Cert.Reference6Ideal.Outproj.REF X CX M MC OA A B O G W := by
  funext j
  idx_vars j
  exact (Cert.Reference6Ideal.Outproj.REF_at X CX M MC OA A B O G W j0 j1 j2).symm

end Cert.Outproj

end
-- ==== Proof.Outproj.Result.lean ====
/- The output projection's reference run ends holding the reference's mathematics. -/
module

public import proofs.«01_k».proof.Proof.Gen.Reference6Ideal.Run
public import proofs.«01_k».proof.Proof.Outproj.Reference

@[expose] public section

set_option maxRecDepth 16384

noncomputable section

namespace Cert.Reference6Ideal.Outproj

open Idealize.ShloMosaic Idealize.ShloMosaic.TcCoe Idealize.SL.Sem
open Cert.Reference6Ideal Cert.Reference6Ideal.Gen

/-- The result the reference's run names is the reference's mathematics of the arguments. -/
theorem res_eq (m : (ℓ : Loc nD τ sig) → Buf (Elt Ideal) ℓ) (c : Dev nD) :
    Value.res_main_v49 m c = REF (m (c.tc.loc main_arg0)) (m (c.tc.loc main_arg1)) (m (c.tc.loc main_arg2)) (m (c.tc.loc main_arg3)) (m (c.tc.loc main_arg4))
      (m (c.tc.loc main_arg5)) (m (c.tc.loc main_arg6)) (m (c.tc.loc main_arg7)) (m (c.tc.loc main_arg8)) (m (c.tc.loc main_arg9)) := rfl

end Cert.Reference6Ideal.Outproj

end
-- ==== Proof.lean ====
/- The proof of the claim: the frames of the programs, and the equations of the attention, of the two expert networks, of the input and output projections and of the odd layers' projection with their references. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Attn.Equal
public import proofs.«01_k».proof.Proof.Attn.Finite
public import proofs.«01_k».proof.Proof.Ffn.Equal
public import proofs.«01_k».proof.Proof.Moe.Bits.Frame
public import proofs.«01_k».proof.Proof.Moe.Equal
public import proofs.«01_k».proof.Proof.Inproj.Equal
public import proofs.«01_k».proof.Proof.Inproj.Result
public import proofs.«01_k».proof.Proof.Odd.Equal
public import proofs.«01_k».proof.Proof.Outproj.Equal
public import proofs.«01_k».proof.Proof.Outproj.Result
public import Idealize.ShloMosaic.Lib.Claim
public import Idealize.ShloMosaic.Adequacy
public import Idealize.ShloMosaic.Init

@[expose] public section

noncomputable section

namespace Cert.Proof

open Idealize.ShloMosaic Idealize.SL.Sem

/-- The attention's reference runs, keeps its arguments, and leaves every counter at zero, for it declares none. -/
theorem attention_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run m ρ)

/-- The attention: on finite queries and keys the kernel ends holding what its reference ends holding. -/
theorem attention : Cert.algebraic_KernelIdeal_ReferenceIdeal_pre_finite_scores (hKernelIdeal := Cert.KernelIdeal.Gen.facts)
    (hReferenceIdeal := Cert.ReferenceIdeal.Gen.facts) (hPre_finite_scores := Cert.Pre_finite_scores.facts) := by
  pair_intro
  · run_from Cert.KernelIdeal.Value.run_blocks m g
  · run_from Cert.ReferenceIdeal.Value.run m' g'
    obtain ⟨e0, e1, e2⟩ := hagree c
    rw [Cert.ReferenceIdeal.Value.res_eq, e0, e1, e2]
    refine Eq.trans ?_ (Cert.KernelIdeal.Value.final m c).symm
    exact (Cert.Attn.KER_eq _ _ _ (Cert.Pre_finite_scores.real_q _ _ _ (hpre c)) (Cert.Pre_finite_scores.real_k _ _ _ (hpre c))).symm

/-- The expert network's reference runs, keeps its arguments, and leaves every counter at zero, for it declares none. -/
theorem experts_ref (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
        ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0) :=
  (θ_run Cert.Reference2Ideal.defs _ _).mono (fun r h => ⟨fun c => (h c).2, sem_eq_zero_of_no_sems (by decide) r.2⟩)
    (Cert.Reference2Ideal.Value.run m ρ)

/-- The expert network: the kernel ends holding what its reference ends holding. -/
theorem experts : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    refine Eq.trans (b := Cert.Reference2Ideal.Value.REF (Cert.Kernel2Ideal.Value.argX m c) (Cert.Kernel2Ideal.Value.argG m c) (Cert.Kernel2Ideal.Value.argM m c)
      (Cert.Kernel2Ideal.Value.argWG m c) (Cert.Kernel2Ideal.Value.argWU m c) (Cert.Kernel2Ideal.Value.argWD m c)) ?_ ?_
    · rfl
    · exact ((Cert.Kernel2Ideal.Value.final m c).trans (Cert.Ffn.KER_eq _ _ _ _ _ _)).symm

/-- The two-set expert network's reference runs, keeps its arguments, and leaves every counter at zero, for it declares none. -/
theorem both_ref (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
        ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
        ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0) :=
  (θ_run Cert.Reference3Ideal.defs _ _).mono (fun r h => ⟨fun c => (h c).2.2, sem_eq_zero_of_no_sems (by decide) r.2⟩)
    (Cert.Reference3Ideal.Value.run m ρ)

/-- The two-set expert network: the kernel ends holding, for the latents and for the context, what its reference ends holding. -/
theorem both : Cert.algebraic_Kernel3Ideal_Reference3Ideal (hKernel3Ideal := Cert.Kernel3Ideal.Gen.facts)
    (hReference3Ideal := Cert.Reference3Ideal.Gen.facts) := by
  pair_intro
  · run_from Cert.Kernel3Ideal.Moe.run_results m g
  · run_from Cert.Reference3Ideal.Value.run m' g'
    · refine Eq.trans (b := Cert.Reference3Ideal.Value.REF (Cert.Kernel3Ideal.Moe.argX m c) (Cert.Kernel3Ideal.Moe.argG m c) (Cert.Kernel3Ideal.Moe.argM m c) (Cert.Kernel3Ideal.Moe.argWG m c) (Cert.Kernel3Ideal.Moe.argWU m c) (Cert.Kernel3Ideal.Moe.argWD m c)) ?_ ?_
      · rfl
      · exact ((Cert.Kernel3Ideal.Moe.final_lat m c).trans (Cert.Moe.LAT_eq _ _ _ _ _ _)).symm
    · refine Eq.trans (b := Cert.Reference3Ideal.Value.REFC (Cert.Kernel3Ideal.Moe.argXC m c) (Cert.Kernel3Ideal.Moe.argGC m c) (Cert.Kernel3Ideal.Moe.argMC m c) (Cert.Kernel3Ideal.Moe.argWG m c) (Cert.Kernel3Ideal.Moe.argWU m c) (Cert.Kernel3Ideal.Moe.argWD m c)) ?_ ?_
      · rfl
      · exact ((Cert.Kernel3Ideal.Moe.final_ctx m c).trans (Cert.Moe.CTX_eq _ _ _ _ _ _)).symm

/-- The input projection's reference runs, keeps its arguments, and leaves every counter at zero, for it declares none. -/
theorem inproj_ref (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
        ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
        ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
        ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
        ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
        ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0) :=
  (θ_run Cert.Reference4Ideal.defs _ _).mono (fun r h => ⟨fun c => (h c).2.2.2.2.2.2, sem_eq_zero_of_no_sems (by decide) r.2⟩)
    (Cert.Reference4Ideal.Value.run m ρ)

set_option maxHeartbeats 4000000 in
/-- The input projection: the kernel ends holding, in each of its six results, what its reference ends holding. -/
theorem inproj : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    all_goals
      obtain ⟨e0, e1, e2, e3, e4, e5, e6, e7, e8, e9, e10⟩ := hagree c
      have hp : Cert.Reference4Ideal.Inproj.launched m' c = (Cert.Reference4Ideal.Inproj.project (Cert.Kernel4Ideal.Inproj.argX m c) (Cert.Kernel4Ideal.Inproj.argCX m c) (Cert.Kernel4Ideal.Inproj.argM m c) (Cert.Kernel4Ideal.Inproj.argMC m c) (Cert.Kernel4Ideal.Inproj.argG1 m c) (Cert.Kernel4Ideal.Inproj.argW m c)) := by
        rw [Cert.Reference4Ideal.Inproj.launched, e0, e1, e2, e3, e4, e5]
    · rw [Cert.Reference4Ideal.Inproj.res_runQ0, Cert.Reference4Ideal.Inproj.res_runQ1, Cert.Reference4Ideal.Inproj.res_runQ2, Cert.Reference4Ideal.Inproj.res_runQ3, Cert.Reference4Ideal.Inproj.res_normQ, Cert.Reference4Ideal.Inproj.res_rowCosQ, Cert.Reference4Ideal.Inproj.res_colCosQ, Cert.Reference4Ideal.Inproj.res_rowSinQ, Cert.Reference4Ideal.Inproj.res_colSinQ, hp, e6, e7, e8]
      exact Eq.trans (b := Cert.Reference4Ideal.Inproj.REFQ (Cert.Reference4Ideal.Inproj.project (Cert.Kernel4Ideal.Inproj.argX m c) (Cert.Kernel4Ideal.Inproj.argCX m c) (Cert.Kernel4Ideal.Inproj.argM m c) (Cert.Kernel4Ideal.Inproj.argMC m c) (Cert.Kernel4Ideal.Inproj.argG1 m c) (Cert.Kernel4Ideal.Inproj.argW m c)) (Cert.Kernel4Ideal.Inproj.argC m c) (Cert.Kernel4Ideal.Inproj.argS m c) (Cert.Kernel4Ideal.Inproj.argGQ m c)) rfl ((Cert.Kernel4Ideal.Inproj.final_q m c).trans (Cert.Inproj.queries_eq _ _ _ _ _ _ _ _ _).symm).symm
    · rw [Cert.Reference4Ideal.Inproj.res_runK0, Cert.Reference4Ideal.Inproj.res_runK1, Cert.Reference4Ideal.Inproj.res_runK2, Cert.Reference4Ideal.Inproj.res_runK3, Cert.Reference4Ideal.Inproj.res_normK, Cert.Reference4Ideal.Inproj.res_rowCosK, Cert.Reference4Ideal.Inproj.res_colCosK, Cert.Reference4Ideal.Inproj.res_rowSinK, Cert.Reference4Ideal.Inproj.res_colSinK, hp, e6, e7, e9]
      exact Eq.trans (b := Cert.Reference4Ideal.Inproj.REFK (Cert.Reference4Ideal.Inproj.project (Cert.Kernel4Ideal.Inproj.argX m c) (Cert.Kernel4Ideal.Inproj.argCX m c) (Cert.Kernel4Ideal.Inproj.argM m c) (Cert.Kernel4Ideal.Inproj.argMC m c) (Cert.Kernel4Ideal.Inproj.argG1 m c) (Cert.Kernel4Ideal.Inproj.argW m c)) (Cert.Kernel4Ideal.Inproj.argC m c) (Cert.Kernel4Ideal.Inproj.argS m c) (Cert.Kernel4Ideal.Inproj.argGK m c)) rfl ((Cert.Kernel4Ideal.Inproj.final_k m c).trans (Cert.Inproj.keys_eq _ _ _ _ _ _ _ _ _).symm).symm
    · rw [Cert.Reference4Ideal.Inproj.res_project, hp]
      exact Eq.trans (b := Cert.Reference4Ideal.Inproj.REFV (Cert.Reference4Ideal.Inproj.project (Cert.Kernel4Ideal.Inproj.argX m c) (Cert.Kernel4Ideal.Inproj.argCX m c) (Cert.Kernel4Ideal.Inproj.argM m c) (Cert.Kernel4Ideal.Inproj.argMC m c) (Cert.Kernel4Ideal.Inproj.argG1 m c) (Cert.Kernel4Ideal.Inproj.argW m c))) rfl ((Cert.Kernel4Ideal.Inproj.final_v m c).trans (Cert.Inproj.values_eq _ _ _ _ _ _).symm).symm
    · rw [Cert.Reference4Ideal.Inproj.res_project, hp]
      exact Eq.trans (b := Cert.Reference4Ideal.Inproj.REFQK (Cert.Reference4Ideal.Inproj.project (Cert.Kernel4Ideal.Inproj.argX m c) (Cert.Kernel4Ideal.Inproj.argCX m c) (Cert.Kernel4Ideal.Inproj.argM m c) (Cert.Kernel4Ideal.Inproj.argMC m c) (Cert.Kernel4Ideal.Inproj.argG1 m c) (Cert.Kernel4Ideal.Inproj.argW m c))) rfl ((Cert.Kernel4Ideal.Inproj.final_qk m c).trans (Cert.Inproj.pairs_eq _ _ _ _ _ _).symm).symm
    · rw [Cert.Reference4Ideal.Inproj.res_project, hp]
      exact Eq.trans (b := Cert.Reference4Ideal.Inproj.REFVB (Cert.Reference4Ideal.Inproj.project (Cert.Kernel4Ideal.Inproj.argX m c) (Cert.Kernel4Ideal.Inproj.argCX m c) (Cert.Kernel4Ideal.Inproj.argM m c) (Cert.Kernel4Ideal.Inproj.argMC m c) (Cert.Kernel4Ideal.Inproj.argG1 m c) (Cert.Kernel4Ideal.Inproj.argW m c))) rfl ((Cert.Kernel4Ideal.Inproj.final_vb m c).trans (Cert.Inproj.transposed_eq _ _ _ _ _ _).symm).symm
    · rw [Cert.Reference4Ideal.Inproj.res_project, hp]
      exact Eq.trans (b := Cert.Reference4Ideal.Inproj.REFOB (Cert.Reference4Ideal.Inproj.project (Cert.Kernel4Ideal.Inproj.argX m c) (Cert.Kernel4Ideal.Inproj.argCX m c) (Cert.Kernel4Ideal.Inproj.argM m c) (Cert.Kernel4Ideal.Inproj.argMC m c) (Cert.Kernel4Ideal.Inproj.argG1 m c) (Cert.Kernel4Ideal.Inproj.argW m c))) rfl ((Cert.Kernel4Ideal.Inproj.final_ob m c).trans (Cert.Inproj.gate_eq _ _ _ _ _ _).symm).symm

/-- The reference of the odd layers' projection runs, keeps its arguments, and leaves every counter at zero, for it declares none. -/
theorem odd_ref (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩
      (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
        ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0) :=
  (θ_run Cert.Reference5Ideal.defs _ _).mono (fun r h => ⟨fun c => (h c).2, sem_eq_zero_of_no_sems (by decide) r.2⟩)
    (Cert.Reference5Ideal.Value.run m ρ)

/-- The odd layers' projection of the latents: the kernel ends holding what its reference ends holding. -/
theorem odd : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · run_from Cert.Reference5Ideal.Value.run m' g'
    refine Eq.trans (b := Cert.Reference5Ideal.Value.REF (Cert.Kernel5Ideal.Value.argX m c) (Cert.Kernel5Ideal.Value.argM m c) (Cert.Kernel5Ideal.Value.argG m c) (Cert.Kernel5Ideal.Value.argW m c)) ?_ ?_
    · rfl
    · exact ((Cert.Kernel5Ideal.Value.final m c).trans (Cert.Odd.KER_eq _ _ _ _)).symm

/-- The reference of the output projection runs, keeps its arguments, and leaves every counter at zero, for it declares none. -/
theorem outproj_ref (m : (ℓ : Loc Cert.Reference6Ideal.nD Cert.Reference6Ideal.τ Cert.Reference6Ideal.sig) → Buf (Elt Ideal) ℓ)
    (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩
      (fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
        ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
        ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
        ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
        ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
        ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
        ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
        ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0) :=
  (θ_run Cert.Reference6Ideal.defs _ _).mono (fun r h => ⟨fun c => (h c).2, sem_eq_zero_of_no_sems (by decide) r.2⟩)
    (Cert.Reference6Ideal.Value.run m ρ)

/-- The output projection of an even layer: the kernel ends holding what its reference ends holding. -/
theorem outproj : Cert.algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · run_from Cert.Reference6Ideal.Value.run m' g'
    obtain ⟨e0, e1, e2, e3, e4, e5, e6, e7, e8, e9⟩ := hagree c
    rw [Cert.Reference6Ideal.Outproj.res_eq, e0, e1, e2, e3, e4, e5, e6, e7, e8, e9]
    exact ((Cert.Kernel6Ideal.Value.final m c).trans (Cert.Outproj.KER_eq _ _ _ _ _ _ _ _ _ _)).symm

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Pre_finite_scores.facts,
    fun m ρ _ => Cert.Kernel.Gen.frame m ρ, fun m ρ _ => Cert.KernelIdeal.Gen.frame m ρ, fun m ρ _ => Cert.KernelIdeal.Gen.frame m ρ,
    fun m ρ _ => attention_ref m ρ, fun m ρ _ => attention_ref m ρ,
    fun m ρ _ => Cert.Kernel2.Gen.frame m ρ, fun m ρ _ => Cert.Kernel2Ideal.Gen.frame m ρ, fun m ρ _ => experts_ref m ρ,
    fun m ρ _ => Cert.Kernel3.Moe.frame m ρ, fun m ρ _ => Cert.Kernel3Ideal.Moe.frame m ρ, fun m ρ _ => both_ref m ρ,
    fun m ρ _ => Cert.Kernel4.Gen.frame m ρ, fun m ρ _ => Cert.Kernel4Ideal.Gen.frame m ρ, fun m ρ _ => inproj_ref m ρ,
    fun m ρ _ => Cert.Kernel5.Gen.frame m ρ, fun m ρ _ => Cert.Kernel5Ideal.Gen.frame m ρ, fun m ρ _ => odd_ref m ρ,
    fun m ρ _ => Cert.Kernel6.Gen.frame m ρ, fun m ρ _ => Cert.Kernel6Ideal.Gen.frame m ρ, fun m ρ _ => outproj_ref m ρ,
    trivial, attention, trivial, experts, trivial, both, trivial, inproj, trivial, odd, trivial, outproj⟩

end Cert.Proof

end
